-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_scores_near [hPre_scores_near : Cert.Pre_scores_near.Facts] (m : (ℓ : Loc Cert.KernelIdeal.nD Cert.KernelIdeal.τ Cert.KernelIdeal.sig) → Buf (Elt Ideal) ℓ) : Prop :=
  ∀ c : Dev Cert.KernelIdeal.nD,
    (Cert.Pre_scores_near.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_scores_near [hPre_scores_near : Cert.Pre_scores_near.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_scores_near.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ r.2.sem = fun _ => 0)

def quiescent_KernelIdeal_pre_scores_near [hKernelIdeal : Cert.KernelIdeal.Facts] [hPre_scores_near : Cert.Pre_scores_near.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_scores_near m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))
      ∧ r.2.sem = fun _ => 0)

def quiescent_ReferenceIdeal_pre_scores_near [hReferenceIdeal : Cert.ReferenceIdeal.Facts] [hPre_scores_near : Cert.Pre_scores_near.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_scores_near m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))
      ∧ r.2.sem = fun _ => 0)

def preserves_Kernel_KernelIdeal : Prop :=
  True

def algebraic_KernelIdeal_ReferenceIdeal_pre_scores_near [hKernelIdeal : Cert.KernelIdeal.Facts] [hReferenceIdeal : Cert.ReferenceIdeal.Facts] [hPre_scores_near : Cert.Pre_scores_near.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_scores_near m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v62)) (v1 : (c : Dev Cert.KernelIdeal.nD) → Buf (Elt Ideal) ((c.tc : Thread Cert.KernelIdeal.nD Cert.KernelIdeal.τ).loc Cert.KernelIdeal.main_v61_1)) (v2 : (c : Dev Cert.KernelIdeal.nD) → Buf (Elt Ideal) ((c.tc : Thread Cert.KernelIdeal.nD Cert.KernelIdeal.τ).loc Cert.KernelIdeal.main_v61_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v62) = v0 c
          ∧ r.2.mem ((c.tc : Thread Cert.KernelIdeal.nD Cert.KernelIdeal.τ).loc Cert.KernelIdeal.main_v61_1) = v1 c
          ∧ r.2.mem ((c.tc : Thread Cert.KernelIdeal.nD Cert.KernelIdeal.τ).loc Cert.KernelIdeal.main_v61_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v62) = v0 c
          ∧ r.2.mem ((c.tc : Thread Cert.ReferenceIdeal.nD Cert.ReferenceIdeal.τ).loc Cert.ReferenceIdeal.main_v64) = v1 c
          ∧ r.2.mem ((c.tc : Thread Cert.ReferenceIdeal.nD Cert.ReferenceIdeal.τ).loc Cert.ReferenceIdeal.main_v65) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_scores_near : Cert.Pre_scores_near.Facts),
    quiescent_Kernel (hKernel := hKernel)
    ∧ quiescent_KernelIdeal (hKernelIdeal := hKernelIdeal)
    ∧ quiescent_KernelIdeal_pre_scores_near (hKernelIdeal := hKernelIdeal) (hPre_scores_near := hPre_scores_near)
    ∧ quiescent_ReferenceIdeal (hReferenceIdeal := hReferenceIdeal)
    ∧ quiescent_ReferenceIdeal_pre_scores_near (hReferenceIdeal := hReferenceIdeal) (hPre_scores_near := hPre_scores_near)
    ∧ preserves_Kernel_KernelIdeal
    ∧ algebraic_KernelIdeal_ReferenceIdeal_pre_scores_near (hKernelIdeal := hKernelIdeal) (hReferenceIdeal := hReferenceIdeal) (hPre_scores_near := hPre_scores_near)
-- ==== Pre_scores_near.lean ====
abbrev S8x2048x3 : Shape := ⟨3, ![8, 2048, 3]⟩
abbrev S8x64x2048 : Shape := ⟨3, ![8, 64, 2048]⟩
abbrev S64x64 : Shape := ⟨2, ![64, 64]⟩
abbrev S64 : Shape := ⟨1, ![64]⟩
abbrev S64x32 : Shape := ⟨2, ![64, 32]⟩
abbrev S32 : Shape := ⟨1, ![32]⟩
abbrev S32x1 : Shape := ⟨2, ![32, 1]⟩
abbrev S1 : Shape := ⟨1, ![1]⟩
abbrev S8x2048x64 : Shape := ⟨3, ![8, 2048, 64]⟩
abbrev S1x1x64 : Shape := ⟨3, ![1, 1, 64]⟩
abbrev S_ : Shape := ⟨0, ![]⟩
abbrev S8x2048 : Shape := ⟨2, ![8, 2048]⟩
abbrev S8x2048x1 : Shape := ⟨3, ![8, 2048, 1]⟩
abbrev S8x2048x32 : Shape := ⟨3, ![8, 2048, 32]⟩
abbrev S1x1x32 : Shape := ⟨3, ![1, 1, 32]⟩
abbrev S1x1x1 : Shape := ⟨3, ![1, 1, 1]⟩
abbrev S8x1x2048 : Shape := ⟨3, ![8, 1, 2048]⟩
abbrev S8x2048x2048 : Shape := ⟨3, ![8, 2048, 2048]⟩

class Facts : Prop where
  transposes_S8x64x2048_S8x2048x64_0_2_1 : S8x64x2048.Transposes [0, 2, 1] S8x2048x64
  bcast_S64_S1x1x64_2 : S64.BroadcastsInDim S1x1x64 (![2] : Fin 1 → Fin S1x1x64.rank)
  bcast_S1x1x64_S8x2048x64_0_1_2 : S1x1x64.BroadcastsInDim S8x2048x64 (![0, 1, 2] : Fin 3 → Fin S8x2048x64.rank)
  reducesTo_S8x2048x64_S8x2048_d2 : S8x2048x64.ReducesTo [2] S8x2048
  h_S_ : 0 < S_.numel
  bcast_S8x2048_S8x2048x1_0_1 : S8x2048.BroadcastsInDim S8x2048x1 (![0, 1] : Fin 2 → Fin S8x2048x1.rank)
  bcast_S_S8x2048x1 : S_.BroadcastsInDim S8x2048x1 (![] : Fin 0 → Fin S8x2048x1.rank)
  bcast_S8x2048x1_S8x2048x64_0_1_2 : S8x2048x1.BroadcastsInDim S8x2048x64 (![0, 1, 2] : Fin 3 → Fin S8x2048x64.rank)
  bcast_S_S8x2048x64 : S_.BroadcastsInDim S8x2048x64 (![] : Fin 0 → Fin S8x2048x64.rank)
  bcast_S32_S1x1x32_2 : S32.BroadcastsInDim S1x1x32 (![2] : Fin 1 → Fin S1x1x32.rank)
  bcast_S1x1x32_S8x2048x32_0_1_2 : S1x1x32.BroadcastsInDim S8x2048x32 (![0, 1, 2] : Fin 3 → Fin S8x2048x32.rank)
  reducesTo_S8x2048x32_S8x2048_d2 : S8x2048x32.ReducesTo [2] S8x2048
  bcast_S8x2048x1_S8x2048x32_0_1_2 : S8x2048x1.BroadcastsInDim S8x2048x32 (![0, 1, 2] : Fin 3 → Fin S8x2048x32.rank)
  bcast_S_S8x2048x32 : S_.BroadcastsInDim S8x2048x32 (![] : Fin 0 → Fin S8x2048x32.rank)
  bcast_S1_S1x1x1_2 : S1.BroadcastsInDim S1x1x1 (![2] : Fin 1 → Fin S1x1x1.rank)
  bcast_S1x1x1_S8x2048x1_0_1_2 : S1x1x1.BroadcastsInDim S8x2048x1 (![0, 1, 2] : Fin 3 → Fin S8x2048x1.rank)
  shapeCasts_S8x2048x1_S8x2048 : S8x2048x1.ShapeCasts S8x2048
  bcast_S8x2048_S8x1x2048_0_2 : S8x2048.BroadcastsInDim S8x1x2048 (![0, 2] : Fin 2 → Fin S8x1x2048.rank)
  bcast_S8x2048x1_S8x2048x2048_0_1_2 : S8x2048x1.BroadcastsInDim S8x2048x2048 (![0, 1, 2] : Fin 3 → Fin S8x2048x2048.rank)
  bcast_S8x1x2048_S8x2048x2048_0_1_2 : S8x1x2048.BroadcastsInDim S8x2048x2048 (![0, 1, 2] : Fin 3 → Fin S8x2048x2048.rank)
  bcast_S_S8x2048x2048 : S_.BroadcastsInDim S8x2048x2048 (![] : Fin 0 → Fin S8x2048x2048.rank)
  bcast_S_S8x2048 : S_.BroadcastsInDim S8x2048 (![] : Fin 0 → Fin S8x2048.rank)
  dot_S8x2048x64_S64x64_S8x2048x64_2_0_01_1_n_n_wf : DotDims.WF S8x2048x64 S64x64 S8x2048x64 [2] [0] [0, 1] [1] [] []
  dot_S8x2048x64_S64x32_S8x2048x32_2_0_01_1_n_n_wf : DotDims.WF S8x2048x64 S64x32 S8x2048x32 [2] [0] [0, 1] [1] [] []
  dot_S8x2048x32_S32x1_S8x2048x1_2_0_01_1_n_n_wf : DotDims.WF S8x2048x32 S32x1 S8x2048x1 [2] [0] [0, 1] [1] [] []

variable [Facts]

def dot_S8x2048x64_S64x64_S8x2048x64_2_0_01_1_n_n : DotDims S8x2048x64 S64x64 S8x2048x64 where
  lhsContracting := [2]
  rhsContracting := [0]
  lhsNonContracting := [0, 1]
  rhsNonContracting := [1]
  lhsBatch := []
  rhsBatch := []
  wf := dot_S8x2048x64_S64x64_S8x2048x64_2_0_01_1_n_n_wf
def dot_S8x2048x64_S64x32_S8x2048x32_2_0_01_1_n_n : DotDims S8x2048x64 S64x32 S8x2048x32 where
  lhsContracting := [2]
  rhsContracting := [0]
  lhsNonContracting := [0, 1]
  rhsNonContracting := [1]
  lhsBatch := []
  rhsBatch := []
  wf := dot_S8x2048x64_S64x32_S8x2048x32_2_0_01_1_n_n_wf
def dot_S8x2048x32_S32x1_S8x2048x1_2_0_01_1_n_n : DotDims S8x2048x32 S32x1 S8x2048x1 where
  lhsContracting := [2]
  rhsContracting := [0]
  lhsNonContracting := [0, 1]
  rhsNonContracting := [1]
  lhsBatch := []
  rhsBatch := []
  wf := dot_S8x2048x32_S32x1_S8x2048x1_2_0_01_1_n_n_wf
def fn_where {F : FTy → Type} [FloatOps F] (arg0 : IVec S_ 1) (arg1 : FVec F S8x2048x1 .f32) (arg2 : FVec F S_ .f32) : FVec F S8x2048x1 .f32 :=
  let v0 : FVec F S_ .f32 := id arg2
  let v1 : FVec F S8x2048x1 .f32 := broadcastInDim S8x2048x1 ![] bcast_S_S8x2048x1 v0
  let v2 : FVec F S8x2048x1 .f32 := (fun p a b => select (broadcastInDim S8x2048x1 ![] bcast_S_S8x2048x1 p) a b) arg0 arg1 v1
  v2

def fn_var {F : FTy → Type} [FloatOps F] (arg0 : FVec F S8x2048x64 .f32) (arg1 : IVec S_ 32) : FVec F S8x2048x1 .f32 :=
  let cst : FVec F S_ .f32 := constant S_ .f32 0x00000000#32
  let v0 : FVec F S8x2048 .f32 := (fun x v => Host.reduceAdd x v reducesTo_S8x2048x64_S8x2048_d2 h_S_) arg0 cst
  let v1 : FVec F S8x2048x1 .f32 := broadcastInDim S8x2048x1 ![0, 1] bcast_S8x2048_S8x2048x1_0_1 v0
  let cst_0 : FVec F S_ .f32 := constant S_ .f32 0x42800000#32
  let v2 : FVec F S8x2048x1 .f32 := broadcastInDim S8x2048x1 ![] bcast_S_S8x2048x1 cst_0
  let v3 : FVec F S8x2048x1 .f32 := Host.divf v1 v2
  let v4 : FVec F S8x2048x64 .f32 := broadcastInDim S8x2048x64 ![0, 1, 2] bcast_S8x2048x1_S8x2048x64_0_1_2 v3
  let v5 : FVec F S8x2048x64 .f32 := subf arg0 v4
  let v6 : FVec F S8x2048x64 .f32 := mulf v5 v5
  let v7 : FVec F S_ .f32 := sitofp .f32 arg1
  let cst_1 : FVec F S_ .f32 := constant S_ .f32 0x42800000#32
  let v8 : FVec F S_ .f32 := subf cst_1 v7
  let cst_2 : FVec F S_ .f32 := constant S_ .f32 0x00000000#32
  let v9 : FVec F S8x2048 .f32 := (fun x v => Host.reduceAdd x v reducesTo_S8x2048x64_S8x2048_d2 h_S_) v6 cst_2
  let v10 : FVec F S8x2048x1 .f32 := broadcastInDim S8x2048x1 ![0, 1] bcast_S8x2048_S8x2048x1_0_1 v9
  let v11 : FVec F S8x2048x1 .f32 := broadcastInDim S8x2048x1 ![] bcast_S_S8x2048x1 v8
  let v12 : FVec F S8x2048x1 .f32 := Host.divf v10 v11
  let cst_3 : FVec F S_ .f32 := constant S_ .f32 0x00000000#32
  let v13 : IVec S_ 1 := cmpf .ogt v8 cst_3
  let cst_4 : FVec F S_ .f32 := constant S_ .f32 0x7FC00000#32
  let v14 : FVec F S8x2048x1 .f32 := fn_where (F := F) v13 v12 cst_4
  v14

def fn_relu {F : FTy → Type} [FloatOps F] (arg0 : FVec F S8x2048x64 .f32) : FVec F S8x2048x64 .f32 :=
  let cst : FVec F S_ .f32 := constant S_ .f32 0x00000000#32
  let v0 : FVec F S8x2048x64 .f32 := broadcastInDim S8x2048x64 ![] bcast_S_S8x2048x64 cst
  let v1 : FVec F S8x2048x64 .f32 := maximumf arg0 v0
  v1

def fn_var_0 {F : FTy → Type} [FloatOps F] (arg0 : FVec F S8x2048x32 .f32) (arg1 : IVec S_ 32) : FVec F S8x2048x1 .f32 :=
  let cst : FVec F S_ .f32 := constant S_ .f32 0x00000000#32
  let v0 : FVec F S8x2048 .f32 := (fun x v => Host.reduceAdd x v reducesTo_S8x2048x32_S8x2048_d2 h_S_) arg0 cst
  let v1 : FVec F S8x2048x1 .f32 := broadcastInDim S8x2048x1 ![0, 1] bcast_S8x2048_S8x2048x1_0_1 v0
  let cst_0 : FVec F S_ .f32 := constant S_ .f32 0x42000000#32
  let v2 : FVec F S8x2048x1 .f32 := broadcastInDim S8x2048x1 ![] bcast_S_S8x2048x1 cst_0
  let v3 : FVec F S8x2048x1 .f32 := Host.divf v1 v2
  let v4 : FVec F S8x2048x32 .f32 := broadcastInDim S8x2048x32 ![0, 1, 2] bcast_S8x2048x1_S8x2048x32_0_1_2 v3
  let v5 : FVec F S8x2048x32 .f32 := subf arg0 v4
  let v6 : FVec F S8x2048x32 .f32 := mulf v5 v5
  let v7 : FVec F S_ .f32 := sitofp .f32 arg1
  let cst_1 : FVec F S_ .f32 := constant S_ .f32 0x42000000#32
  let v8 : FVec F S_ .f32 := subf cst_1 v7
  let cst_2 : FVec F S_ .f32 := constant S_ .f32 0x00000000#32
  let v9 : FVec F S8x2048 .f32 := (fun x v => Host.reduceAdd x v reducesTo_S8x2048x32_S8x2048_d2 h_S_) v6 cst_2
  let v10 : FVec F S8x2048x1 .f32 := broadcastInDim S8x2048x1 ![0, 1] bcast_S8x2048_S8x2048x1_0_1 v9
  let v11 : FVec F S8x2048x1 .f32 := broadcastInDim S8x2048x1 ![] bcast_S_S8x2048x1 v8
  let v12 : FVec F S8x2048x1 .f32 := Host.divf v10 v11
  let cst_3 : FVec F S_ .f32 := constant S_ .f32 0x00000000#32
  let v13 : IVec S_ 1 := cmpf .ogt v8 cst_3
  let cst_4 : FVec F S_ .f32 := constant S_ .f32 0x7FC00000#32
  let v14 : FVec F S8x2048x1 .f32 := fn_where (F := F) v13 v12 cst_4
  v14

def fn_relu_1 {F : FTy → Type} [FloatOps F] (arg0 : FVec F S8x2048x32 .f32) : FVec F S8x2048x32 .f32 :=
  let cst : FVec F S_ .f32 := constant S_ .f32 0x00000000#32
  let v0 : FVec F S8x2048x32 .f32 := broadcastInDim S8x2048x32 ![] bcast_S_S8x2048x32 cst
  let v1 : FVec F S8x2048x32 .f32 := maximumf arg0 v0
  v1

def fn_part3 {F : FTy → Type} [FloatOps F] (main_v55 : FVec F S8x2048 .f32) (main_v62 : IVec S8x2048x2048 1) : IVec S8x2048x2048 1 :=
  let main_v63 : FVec F S8x2048 .f32 := Host.absf main_v55
  let main_cst_7 : FVec F S_ .f32 := constant S_ .f32 0x45DAC000#32
  let main_v64 : FVec F S8x2048 .f32 := broadcastInDim S8x2048 ![] bcast_S_S8x2048 main_cst_7
  let main_v65 : IVec S8x2048 1 := cmpf .ole main_v63 main_v64
  let main_v66 : IVec S8x2048x1 1 := broadcastInDim S8x2048x1 ![0, 1] bcast_S8x2048_S8x2048x1_0_1 main_v65
  let main_v67 : IVec S8x2048x2048 1 := broadcastInDim S8x2048x2048 ![0, 1, 2] bcast_S8x2048x1_S8x2048x2048_0_1_2 main_v66
  let main_v68 : IVec S8x2048x2048 1 := andi main_v62 main_v67
  main_v68

def fn_part2 {F : FTy → Type} [FloatOps F] (main_arg10 : FVec F S32 .f32) (main_arg11 : FVec F S32 .f32) (main_arg12 : FVec F S32x1 .f32) (main_arg13 : FVec F S1 .f32) (main_v36 : FVec F S8x2048x1 .f32) (main_v38 : FVec F S8x2048x32 .f32) (main_v39 : FVec F S8x2048x1 .f32) : IVec S8x2048x2048 1 :=
  let main_v40 : FVec F S8x2048x1 .f32 := addf main_v36 main_v39
  let main_v41 : FVec F S8x2048x1 .f32 := Host.sqrt main_v40
  let main_v42 : FVec F S8x2048x32 .f32 := broadcastInDim S8x2048x32 ![0, 1, 2] bcast_S8x2048x1_S8x2048x32_0_1_2 main_v41
  let main_v43 : FVec F S8x2048x32 .f32 := Host.divf main_v38 main_v42
  let main_v44 : FVec F S1x1x32 .f32 := broadcastInDim S1x1x32 ![2] bcast_S32_S1x1x32_2 main_arg10
  let main_v45 : FVec F S8x2048x32 .f32 := broadcastInDim S8x2048x32 ![0, 1, 2] bcast_S1x1x32_S8x2048x32_0_1_2 main_v44
  let main_v46 : FVec F S8x2048x32 .f32 := mulf main_v43 main_v45
  let main_v47 : FVec F S1x1x32 .f32 := broadcastInDim S1x1x32 ![2] bcast_S32_S1x1x32_2 main_arg11
  let main_v48 : FVec F S8x2048x32 .f32 := broadcastInDim S8x2048x32 ![0, 1, 2] bcast_S1x1x32_S8x2048x32_0_1_2 main_v47
  let main_v49 : FVec F S8x2048x32 .f32 := addf main_v46 main_v48
  let main_v50 : FVec F S8x2048x32 .f32 := fn_relu_1 (F := F) main_v49
  let main_v51 : FVec F S8x2048x1 .f32 := (fun l r => Host.dotGeneral dot_S8x2048x32_S32x1_S8x2048x1_2_0_01_1_n_n none l r) main_v50 main_arg12
  let main_v52 : FVec F S1x1x1 .f32 := broadcastInDim S1x1x1 ![2] bcast_S1_S1x1x1_2 main_arg13
  let main_v53 : FVec F S8x2048x1 .f32 := broadcastInDim S8x2048x1 ![0, 1, 2] bcast_S1x1x1_S8x2048x1_0_1_2 main_v52
  let main_v54 : FVec F S8x2048x1 .f32 := addf main_v51 main_v53
  let main_v55 : FVec F S8x2048 .f32 := shapeCast S8x2048 main_v54 shapeCasts_S8x2048x1_S8x2048
  let main_v56 : FVec F S8x2048x1 .f32 := broadcastInDim S8x2048x1 ![0, 1] bcast_S8x2048_S8x2048x1_0_1 main_v55
  let main_v57 : FVec F S8x1x2048 .f32 := broadcastInDim S8x1x2048 ![0, 2] bcast_S8x2048_S8x1x2048_0_2 main_v55
  let main_v58 : FVec F S8x2048x2048 .f32 := broadcastInDim S8x2048x2048 ![0, 1, 2] bcast_S8x2048x1_S8x2048x2048_0_1_2 main_v56
  let main_v59 : FVec F S8x2048x2048 .f32 := broadcastInDim S8x2048x2048 ![0, 1, 2] bcast_S8x1x2048_S8x2048x2048_0_1_2 main_v57
  let main_v60 : FVec F S8x2048x2048 .f32 := subf main_v58 main_v59
  let main_cst_6 : FVec F S_ .f32 := constant S_ .f32 0x42AE0000#32
  let main_v61 : FVec F S8x2048x2048 .f32 := broadcastInDim S8x2048x2048 ![] bcast_S_S8x2048x2048 main_cst_6
  let main_v62 : IVec S8x2048x2048 1 := cmpf .ole main_v60 main_v61
  fn_part3 (F := F) main_v55 main_v62

def fn_part1 {F : FTy → Type} [FloatOps F] (main_arg5 : FVec F S64 .f32) (main_arg6 : FVec F S64x64 .f32) (main_arg7 : FVec F S64 .f32) (main_arg8 : FVec F S64x32 .f32) (main_arg9 : FVec F S32 .f32) (main_arg10 : FVec F S32 .f32) (main_arg11 : FVec F S32 .f32) (main_arg12 : FVec F S32x1 .f32) (main_arg13 : FVec F S1 .f32) (main_v19 : FVec F S8x2048x64 .f32) : IVec S8x2048x2048 1 :=
  let main_v20 : FVec F S1x1x64 .f32 := broadcastInDim S1x1x64 ![2] bcast_S64_S1x1x64_2 main_arg5
  let main_v21 : FVec F S8x2048x64 .f32 := broadcastInDim S8x2048x64 ![0, 1, 2] bcast_S1x1x64_S8x2048x64_0_1_2 main_v20
  let main_v22 : FVec F S8x2048x64 .f32 := addf main_v19 main_v21
  let main_v23 : FVec F S8x2048x64 .f32 := fn_relu (F := F) main_v22
  let main_v24 : FVec F S8x2048x64 .f32 := (fun l r => Host.dotGeneral dot_S8x2048x64_S64x64_S8x2048x64_2_0_01_1_n_n none l r) main_v23 main_arg6
  let main_v25 : FVec F S1x1x64 .f32 := broadcastInDim S1x1x64 ![2] bcast_S64_S1x1x64_2 main_arg7
  let main_v26 : FVec F S8x2048x64 .f32 := broadcastInDim S8x2048x64 ![0, 1, 2] bcast_S1x1x64_S8x2048x64_0_1_2 main_v25
  let main_v27 : FVec F S8x2048x64 .f32 := addf main_v24 main_v26
  let main_v28 : FVec F S8x2048x32 .f32 := (fun l r => Host.dotGeneral dot_S8x2048x64_S64x32_S8x2048x32_2_0_01_1_n_n none l r) main_v27 main_arg8
  let main_v29 : FVec F S1x1x32 .f32 := broadcastInDim S1x1x32 ![2] bcast_S32_S1x1x32_2 main_arg9
  let main_v30 : FVec F S8x2048x32 .f32 := broadcastInDim S8x2048x32 ![0, 1, 2] bcast_S1x1x32_S8x2048x32_0_1_2 main_v29
  let main_v31 : FVec F S8x2048x32 .f32 := addf main_v28 main_v30
  let main_cst_2 : FVec F S_ .f32 := constant S_ .f32 0x00000000#32
  let main_v32 : FVec F S8x2048 .f32 := (fun x v => Host.reduceAdd x v reducesTo_S8x2048x32_S8x2048_d2 h_S_) main_v31 main_cst_2
  let main_v33 : FVec F S8x2048x1 .f32 := broadcastInDim S8x2048x1 ![0, 1] bcast_S8x2048_S8x2048x1_0_1 main_v32
  let main_cst_3 : FVec F S_ .f32 := constant S_ .f32 0x42000000#32
  let main_v34 : FVec F S8x2048x1 .f32 := broadcastInDim S8x2048x1 ![] bcast_S_S8x2048x1 main_cst_3
  let main_v35 : FVec F S8x2048x1 .f32 := Host.divf main_v33 main_v34
  let main_c_4 : IVec S_ 32 := constantI S_ 32 0#32
  let main_v36 : FVec F S8x2048x1 .f32 := fn_var_0 (F := F) main_v31 main_c_4
  let main_v37 : FVec F S8x2048x32 .f32 := broadcastInDim S8x2048x32 ![0, 1, 2] bcast_S8x2048x1_S8x2048x32_0_1_2 main_v35
  let main_v38 : FVec F S8x2048x32 .f32 := subf main_v31 main_v37
  let main_cst_5 : FVec F S_ .f32 := constant S_ .f32 0x3727C5AC#32
  let main_v39 : FVec F S8x2048x1 .f32 := broadcastInDim S8x2048x1 ![] bcast_S_S8x2048x1 main_cst_5
  fn_part2 (F := F) main_arg10 main_arg11 main_arg12 main_arg13 main_v36 main_v38 main_v39

def fn {F : FTy → Type} [FloatOps F] (main_arg0 : FVec F S8x2048x3 .f32) (main_arg1 : FVec F S8x64x2048 .f32) (main_arg2 : FVec F S64x64 .f32) (main_arg3 : FVec F S64 .f32) (main_arg4 : FVec F S64 .f32) (main_arg5 : FVec F S64 .f32) (main_arg6 : FVec F S64x64 .f32) (main_arg7 : FVec F S64 .f32) (main_arg8 : FVec F S64x32 .f32) (main_arg9 : FVec F S32 .f32) (main_arg10 : FVec F S32 .f32) (main_arg11 : FVec F S32 .f32) (main_arg12 : FVec F S32x1 .f32) (main_arg13 : FVec F S1 .f32) : IVec S8x2048x2048 1 :=
  let main_v0 : FVec F S8x2048x64 .f32 := (transpose S8x2048x64 [0, 2, 1] · transposes_S8x64x2048_S8x2048x64_0_2_1) main_arg1
  let main_v1 : FVec F S8x2048x64 .f32 := (fun l r => Host.dotGeneral dot_S8x2048x64_S64x64_S8x2048x64_2_0_01_1_n_n none l r) main_v0 main_arg2
  let main_v2 : FVec F S1x1x64 .f32 := broadcastInDim S1x1x64 ![2] bcast_S64_S1x1x64_2 main_arg3
  let main_v3 : FVec F S8x2048x64 .f32 := broadcastInDim S8x2048x64 ![0, 1, 2] bcast_S1x1x64_S8x2048x64_0_1_2 main_v2
  let main_v4 : FVec F S8x2048x64 .f32 := addf main_v1 main_v3
  let main_cst : FVec F S_ .f32 := constant S_ .f32 0x00000000#32
  let main_v5 : FVec F S8x2048 .f32 := (fun x v => Host.reduceAdd x v reducesTo_S8x2048x64_S8x2048_d2 h_S_) main_v4 main_cst
  let main_v6 : FVec F S8x2048x1 .f32 := broadcastInDim S8x2048x1 ![0, 1] bcast_S8x2048_S8x2048x1_0_1 main_v5
  let main_cst_0 : FVec F S_ .f32 := constant S_ .f32 0x42800000#32
  let main_v7 : FVec F S8x2048x1 .f32 := broadcastInDim S8x2048x1 ![] bcast_S_S8x2048x1 main_cst_0
  let main_v8 : FVec F S8x2048x1 .f32 := Host.divf main_v6 main_v7
  let main_c : IVec S_ 32 := constantI S_ 32 0#32
  let main_v9 : FVec F S8x2048x1 .f32 := fn_var (F := F) main_v4 main_c
  let main_v10 : FVec F S8x2048x64 .f32 := broadcastInDim S8x2048x64 ![0, 1, 2] bcast_S8x2048x1_S8x2048x64_0_1_2 main_v8
  let main_v11 : FVec F S8x2048x64 .f32 := subf main_v4 main_v10
  let main_cst_1 : FVec F S_ .f32 := constant S_ .f32 0x3727C5AC#32
  let main_v12 : FVec F S8x2048x1 .f32 := broadcastInDim S8x2048x1 ![] bcast_S_S8x2048x1 main_cst_1
  let main_v13 : FVec F S8x2048x1 .f32 := addf main_v9 main_v12
  let main_v14 : FVec F S8x2048x1 .f32 := Host.sqrt main_v13
  let main_v15 : FVec F S8x2048x64 .f32 := broadcastInDim S8x2048x64 ![0, 1, 2] bcast_S8x2048x1_S8x2048x64_0_1_2 main_v14
  let main_v16 : FVec F S8x2048x64 .f32 := Host.divf main_v11 main_v15
  let main_v17 : FVec F S1x1x64 .f32 := broadcastInDim S1x1x64 ![2] bcast_S64_S1x1x64_2 main_arg4
  let main_v18 : FVec F S8x2048x64 .f32 := broadcastInDim S8x2048x64 ![0, 1, 2] bcast_S1x1x64_S8x2048x64_0_1_2 main_v17
  let main_v19 : FVec F S8x2048x64 .f32 := mulf main_v16 main_v18
  fn_part1 (F := F) main_arg5 main_arg6 main_arg7 main_arg8 main_arg9 main_arg10 main_arg11 main_arg12 main_arg13 main_v19
-- ==== Kernel.lean ====
abbrev S8x2048x3 : Shape := ⟨3, ![8, 2048, 3]⟩
abbrev S8x64x2048 : Shape := ⟨3, ![8, 64, 2048]⟩
abbrev S64x64 : Shape := ⟨2, ![64, 64]⟩
abbrev S64 : Shape := ⟨1, ![64]⟩
abbrev S64x32 : Shape := ⟨2, ![64, 32]⟩
abbrev S32 : Shape := ⟨1, ![32]⟩
abbrev S32x1 : Shape := ⟨2, ![32, 1]⟩
abbrev S1 : Shape := ⟨1, ![1]⟩
abbrev S8x2048x64 : Shape := ⟨3, ![8, 2048, 64]⟩
abbrev S1x1x64 : Shape := ⟨3, ![1, 1, 64]⟩
abbrev S_ : Shape := ⟨0, ![]⟩
abbrev S8x2048 : Shape := ⟨2, ![8, 2048]⟩
abbrev S8x2048x1 : Shape := ⟨3, ![8, 2048, 1]⟩
abbrev S8x2048x32 : Shape := ⟨3, ![8, 2048, 32]⟩
abbrev S1x1x32 : Shape := ⟨3, ![1, 1, 32]⟩
abbrev S1x1x1 : Shape := ⟨3, ![1, 1, 1]⟩
abbrev S8x3x2048 : Shape := ⟨3, ![8, 3, 2048]⟩
abbrev S1x64 : Shape := ⟨2, ![1, 64]⟩
abbrev S8x3x1024 : Shape := ⟨3, ![8, 3, 1024]⟩
abbrev S8x64x1024 : Shape := ⟨3, ![8, 64, 1024]⟩
abbrev S8x1024 : Shape := ⟨2, ![8, 1024]⟩
abbrev S1x64x2048 : Shape := ⟨3, ![1, 64, 2048]⟩
abbrev S64x2048 : Shape := ⟨2, ![64, 2048]⟩
abbrev S2048x64 : Shape := ⟨2, ![2048, 64]⟩
abbrev S2048 : Shape := ⟨1, ![2048]⟩
abbrev S2048x1 : Shape := ⟨2, ![2048, 1]⟩
abbrev S8x1 : Shape := ⟨2, ![8, 1]⟩
abbrev S8 : Shape := ⟨1, ![8]⟩
abbrev S1x1024 : Shape := ⟨2, ![1, 1024]⟩
abbrev S2048x1024 : Shape := ⟨2, ![2048, 1024]⟩
abbrev S64x1024 : Shape := ⟨2, ![64, 1024]⟩
abbrev S1x64x1024 : Shape := ⟨3, ![1, 64, 1024]⟩
abbrev S1x3x2048 : Shape := ⟨3, ![1, 3, 2048]⟩
abbrev S3x2048 : Shape := ⟨2, ![3, 2048]⟩
abbrev S3x1024 : Shape := ⟨2, ![3, 1024]⟩
abbrev S1x3x1024 : Shape := ⟨3, ![1, 3, 1024]⟩
abbrev S8x1024x3 : Shape := ⟨3, ![8, 1024, 3]⟩

abbrev nBuf : Space → Nat
  | .hbm => 135
  | .vmem => 12
  | .smem => 0
  | _ => 0

abbrev hbmTy0_0 (i : Nat) : BufTy := match i % 128 with
  | 0 => ⟨S8x2048x3, .f32⟩
  | 1 => ⟨S8x64x2048, .f32⟩
  | 2 => ⟨S64x64, .f32⟩
  | 3 => ⟨S64, .f32⟩
  | 4 => ⟨S64, .f32⟩
  | 5 => ⟨S64, .f32⟩
  | 6 => ⟨S64x64, .f32⟩
  | 7 => ⟨S64, .f32⟩
  | 8 => ⟨S64x32, .f32⟩
  | 9 => ⟨S32, .f32⟩
  | 10 => ⟨S32, .f32⟩
  | 11 => ⟨S32, .f32⟩
  | 12 => ⟨S32x1, .f32⟩
  | 13 => ⟨S1, .f32⟩
  | 14 => ⟨S8x2048x64, .f32⟩
  | 15 => ⟨S8x2048x64, .f32⟩
  | 16 => ⟨S1x1x64, .f32⟩
  | 17 => ⟨S8x2048x64, .f32⟩
  | 18 => ⟨S8x2048x64, .f32⟩
  | 19 => ⟨S_, .f32⟩
  | 20 => ⟨S8x2048, .f32⟩
  | 21 => ⟨S8x2048x1, .f32⟩
  | 22 => ⟨S_, .f32⟩
  | 23 => ⟨S8x2048x1, .f32⟩
  | 24 => ⟨S8x2048x1, .f32⟩
  | 25 => ⟨S_, .i32⟩
  | 26 => ⟨S_, .f32⟩
  | 27 => ⟨S8x2048, .f32⟩
  | 28 => ⟨S8x2048x1, .f32⟩
  | 29 => ⟨S_, .f32⟩
  | 30 => ⟨S8x2048x1, .f32⟩
  | 31 => ⟨S8x2048x1, .f32⟩
  | 32 => ⟨S8x2048x64, .f32⟩
  | 33 => ⟨S8x2048x64, .f32⟩
  | 34 => ⟨S8x2048x64, .f32⟩
  | 35 => ⟨S_, .f32⟩
  | 36 => ⟨S_, .f32⟩
  | 37 => ⟨S_, .f32⟩
  | 38 => ⟨S_, .f32⟩
  | 39 => ⟨S8x2048, .f32⟩
  | 40 => ⟨S8x2048x1, .f32⟩
  | 41 => ⟨S8x2048x1, .f32⟩
  | 42 => ⟨S8x2048x1, .f32⟩
  | 43 => ⟨S_, .f32⟩
  | 44 => ⟨S_, .i1⟩
  | 45 => ⟨S_, .f32⟩
  | 46 => ⟨S_, .f32⟩
  | 47 => ⟨S8x2048x1, .f32⟩
  | 48 => ⟨S8x2048x1, .f32⟩
  | 49 => ⟨S8x2048x64, .f32⟩
  | 50 => ⟨S8x2048x64, .f32⟩
  | 51 => ⟨S_, .f32⟩
  | 52 => ⟨S8x2048x1, .f32⟩
  | 53 => ⟨S8x2048x1, .f32⟩
  | 54 => ⟨S8x2048x1, .f32⟩
  | 55 => ⟨S8x2048x64, .f32⟩
  | 56 => ⟨S8x2048x64, .f32⟩
  | 57 => ⟨S1x1x64, .f32⟩
  | 58 => ⟨S8x2048x64, .f32⟩
  | 59 => ⟨S8x2048x64, .f32⟩
  | 60 => ⟨S1x1x64, .f32⟩
  | 61 => ⟨S8x2048x64, .f32⟩
  | 62 => ⟨S8x2048x64, .f32⟩
  | 63 => ⟨S_, .f32⟩
  | 64 => ⟨S8x2048x64, .f32⟩
  | 65 => ⟨S8x2048x64, .f32⟩
  | 66 => ⟨S8x2048x64, .f32⟩
  | 67 => ⟨S1x1x64, .f32⟩
  | 68 => ⟨S8x2048x64, .f32⟩
  | 69 => ⟨S8x2048x64, .f32⟩
  | 70 => ⟨S8x2048x32, .f32⟩
  | 71 => ⟨S1x1x32, .f32⟩
  | 72 => ⟨S8x2048x32, .f32⟩
  | 73 => ⟨S8x2048x32, .f32⟩
  | 74 => ⟨S_, .f32⟩
  | 75 => ⟨S8x2048, .f32⟩
  | 76 => ⟨S8x2048x1, .f32⟩
  | 77 => ⟨S_, .f32⟩
  | 78 => ⟨S8x2048x1, .f32⟩
  | 79 => ⟨S8x2048x1, .f32⟩
  | 80 => ⟨S_, .i32⟩
  | 81 => ⟨S_, .f32⟩
  | 82 => ⟨S8x2048, .f32⟩
  | 83 => ⟨S8x2048x1, .f32⟩
  | 84 => ⟨S_, .f32⟩
  | 85 => ⟨S8x2048x1, .f32⟩
  | 86 => ⟨S8x2048x1, .f32⟩
  | 87 => ⟨S8x2048x32, .f32⟩
  | 88 => ⟨S8x2048x32, .f32⟩
  | 89 => ⟨S8x2048x32, .f32⟩
  | 90 => ⟨S_, .f32⟩
  | 91 => ⟨S_, .f32⟩
  | 92 => ⟨S_, .f32⟩
  | 93 => ⟨S_, .f32⟩
  | 94 => ⟨S8x2048, .f32⟩
  | 95 => ⟨S8x2048x1, .f32⟩
  | 96 => ⟨S8x2048x1, .f32⟩
  | 97 => ⟨S8x2048x1, .f32⟩
  | 98 => ⟨S_, .f32⟩
  | 99 => ⟨S_, .i1⟩
  | 100 => ⟨S_, .f32⟩
  | 101 => ⟨S_, .f32⟩
  | 102 => ⟨S8x2048x1, .f32⟩
  | 103 => ⟨S8x2048x1, .f32⟩
  | 104 => ⟨S8x2048x32, .f32⟩
  | 105 => ⟨S8x2048x32, .f32⟩
  | 106 => ⟨S_, .f32⟩
  | 107 => ⟨S8x2048x1, .f32⟩
  | 108 => ⟨S8x2048x1, .f32⟩
  | 109 => ⟨S8x2048x1, .f32⟩
  | 110 => ⟨S8x2048x32, .f32⟩
  | 111 => ⟨S8x2048x32, .f32⟩
  | 112 => ⟨S1x1x32, .f32⟩
  | 113 => ⟨S8x2048x32, .f32⟩
  | 114 => ⟨S8x2048x32, .f32⟩
  | 115 => ⟨S1x1x32, .f32⟩
  | 116 => ⟨S8x2048x32, .f32⟩
  | 117 => ⟨S8x2048x32, .f32⟩
  | 118 => ⟨S_, .f32⟩
  | 119 => ⟨S8x2048x32, .f32⟩
  | 120 => ⟨S8x2048x32, .f32⟩
  | 121 => ⟨S8x2048x1, .f32⟩
  | 122 => ⟨S1x1x1, .f32⟩
  | 123 => ⟨S8x2048x1, .f32⟩
  | 124 => ⟨S8x2048x1, .f32⟩
  | 125 => ⟨S8x2048, .f32⟩
  | 126 => ⟨S8x3x2048, .f32⟩
  | 127 => ⟨S1x64, .f32⟩
  | _ => ⟨S8x2048x3, .f32⟩

abbrev hbmTy0_1 (i : Nat) : BufTy := match i % 128 with
  | 0 => ⟨S1x64, .f32⟩
  | 1 => ⟨S1x64, .f32⟩
  | 2 => ⟨S1x64, .f32⟩
  | 3 => ⟨S8x3x1024, .f32⟩
  | 4 => ⟨S8x64x1024, .f32⟩
  | 5 => ⟨S8x1024, .i32⟩
  | 6 => ⟨S8x1024x3, .f32⟩
  | _ => ⟨S8x2048x3, .f32⟩

abbrev hbmTy (i : Nat) : BufTy := match i / 128 with
  | 0 => hbmTy0_0 i
  | 1 => hbmTy0_1 i
  | _ => ⟨S8x2048x3, .f32⟩

abbrev bufTy : (tb : Table) → Fin (tcTables nBuf tb) → BufTy
  | .hbm, ⟨i, _⟩ => hbmTy i
  | .local _ .vmem, ⟨0, _⟩ => ⟨S8x3x2048, .f32⟩
  | .local _ .vmem, ⟨1, _⟩ => ⟨S8x64x2048, .f32⟩
  | .local _ .vmem, ⟨2, _⟩ => ⟨S8x2048, .f32⟩
  | .local _ .vmem, ⟨3, _⟩ => ⟨S64x64, .f32⟩
  | .local _ .vmem, ⟨4, _⟩ => ⟨S1x64, .f32⟩
  | .local _ .vmem, ⟨5, _⟩ => ⟨S1x64, .f32⟩
  | .local _ .vmem, ⟨6, _⟩ => ⟨S1x64, .f32⟩
  | .local _ .vmem, ⟨7, _⟩ => ⟨S64x64, .f32⟩
  | .local _ .vmem, ⟨8, _⟩ => ⟨S1x64, .f32⟩
  | .local _ .vmem, ⟨9, _⟩ => ⟨S8x3x1024, .f32⟩
  | .local _ .vmem, ⟨10, _⟩ => ⟨S8x64x1024, .f32⟩
  | .local _ .vmem, ⟨11, _⟩ => ⟨S8x1024, .i32⟩
  | _, _ => ⟨S8x2048x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_cst : Ref sig .tc := ⟨.hbm, 19, rfl⟩
abbrev main_v5 : Ref sig .tc := ⟨.hbm, 20, rfl⟩
abbrev main_v6 : Ref sig .tc := ⟨.hbm, 21, rfl⟩
abbrev main_cst_0 : Ref sig .tc := ⟨.hbm, 22, rfl⟩
abbrev main_v7 : Ref sig .tc := ⟨.hbm, 23, rfl⟩
abbrev main_v8 : Ref sig .tc := ⟨.hbm, 24, rfl⟩
abbrev main_c : Ref sig .tc := ⟨.hbm, 25, rfl⟩
abbrev main_call0_cst : Ref sig .tc := ⟨.hbm, 26, rfl⟩
abbrev main_call0_v0 : Ref sig .tc := ⟨.hbm, 27, rfl⟩
abbrev main_call0_v1 : Ref sig .tc := ⟨.hbm, 28, rfl⟩
abbrev main_call0_cst_0 : Ref sig .tc := ⟨.hbm, 29, rfl⟩
abbrev main_call0_v2 : Ref sig .tc := ⟨.hbm, 30, rfl⟩
abbrev main_call0_v3 : Ref sig .tc := ⟨.hbm, 31, rfl⟩
abbrev main_call0_v4 : Ref sig .tc := ⟨.hbm, 32, rfl⟩
abbrev main_call0_v5 : Ref sig .tc := ⟨.hbm, 33, rfl⟩
abbrev main_call0_v6 : Ref sig .tc := ⟨.hbm, 34, rfl⟩
abbrev main_call0_v7 : Ref sig .tc := ⟨.hbm, 35, rfl⟩
abbrev main_call0_cst_1 : Ref sig .tc := ⟨.hbm, 36, rfl⟩
abbrev main_call0_v8 : Ref sig .tc := ⟨.hbm, 37, rfl⟩
abbrev main_call0_cst_2 : Ref sig .tc := ⟨.hbm, 38, rfl⟩
abbrev main_call0_v9 : Ref sig .tc := ⟨.hbm, 39, rfl⟩
abbrev main_call0_v10 : Ref sig .tc := ⟨.hbm, 40, rfl⟩
abbrev main_call0_v11 : Ref sig .tc := ⟨.hbm, 41, rfl⟩
abbrev main_call0_v12 : Ref sig .tc := ⟨.hbm, 42, rfl⟩
abbrev main_call0_cst_3 : Ref sig .tc := ⟨.hbm, 43, rfl⟩
abbrev main_call0_v13 : Ref sig .tc := ⟨.hbm, 44, rfl⟩
abbrev main_call0_cst_4 : Ref sig .tc := ⟨.hbm, 45, rfl⟩
abbrev main_call0_call0_v0 : Ref sig .tc := ⟨.hbm, 46, rfl⟩
abbrev main_call0_call0_v1 : Ref sig .tc := ⟨.hbm, 47, rfl⟩
abbrev main_v9 : Ref sig .tc := ⟨.hbm, 48, rfl⟩
abbrev main_v10 : Ref sig .tc := ⟨.hbm, 49, rfl⟩
abbrev main_v11 : Ref sig .tc := ⟨.hbm, 50, rfl⟩
abbrev main_cst_1 : Ref sig .tc := ⟨.hbm, 51, rfl⟩
abbrev main_v12 : Ref sig .tc := ⟨.hbm, 52, rfl⟩
abbrev main_v13 : Ref sig .tc := ⟨.hbm, 53, rfl⟩
abbrev main_v14 : Ref sig .tc := ⟨.hbm, 54, rfl⟩
abbrev main_v15 : Ref sig .tc := ⟨.hbm, 55, rfl⟩
abbrev main_v16 : Ref sig .tc := ⟨.hbm, 56, rfl⟩
abbrev main_v17 : Ref sig .tc := ⟨.hbm, 57, rfl⟩
abbrev main_v18 : Ref sig .tc := ⟨.hbm, 58, rfl⟩
abbrev main_v19 : Ref sig .tc := ⟨.hbm, 59, rfl⟩
abbrev main_v20 : Ref sig .tc := ⟨.hbm, 60, rfl⟩
abbrev main_v21 : Ref sig .tc := ⟨.hbm, 61, rfl⟩
abbrev main_v22 : Ref sig .tc := ⟨.hbm, 62, rfl⟩
abbrev main_call1_cst : Ref sig .tc := ⟨.hbm, 63, rfl⟩
abbrev main_call1_v0 : Ref sig .tc := ⟨.hbm, 64, rfl⟩
abbrev main_v23 : Ref sig .tc := ⟨.hbm, 65, rfl⟩
abbrev main_v24 : Ref sig .tc := ⟨.hbm, 66, rfl⟩
abbrev main_v25 : Ref sig .tc := ⟨.hbm, 67, rfl⟩
abbrev main_v26 : Ref sig .tc := ⟨.hbm, 68, rfl⟩
abbrev main_v27 : Ref sig .tc := ⟨.hbm, 69, rfl⟩
abbrev main_v28 : Ref sig .tc := ⟨.hbm, 70, rfl⟩
abbrev main_v29 : Ref sig .tc := ⟨.hbm, 71, rfl⟩
abbrev main_v30 : Ref sig .tc := ⟨.hbm, 72, rfl⟩
abbrev main_v31 : Ref sig .tc := ⟨.hbm, 73, rfl⟩
abbrev main_cst_2 : Ref sig .tc := ⟨.hbm, 74, rfl⟩
abbrev main_v32 : Ref sig .tc := ⟨.hbm, 75, rfl⟩
abbrev main_v33 : Ref sig .tc := ⟨.hbm, 76, rfl⟩
abbrev main_cst_3 : Ref sig .tc := ⟨.hbm, 77, rfl⟩
abbrev main_v34 : Ref sig .tc := ⟨.hbm, 78, rfl⟩
abbrev main_v35 : Ref sig .tc := ⟨.hbm, 79, rfl⟩
abbrev main_c_4 : Ref sig .tc := ⟨.hbm, 80, rfl⟩
abbrev main_call2_cst : Ref sig .tc := ⟨.hbm, 81, rfl⟩
abbrev main_call2_v0 : Ref sig .tc := ⟨.hbm, 82, rfl⟩
abbrev main_call2_v1 : Ref sig .tc := ⟨.hbm, 83, rfl⟩
abbrev main_call2_cst_0 : Ref sig .tc := ⟨.hbm, 84, rfl⟩
abbrev main_call2_v2 : Ref sig .tc := ⟨.hbm, 85, rfl⟩
abbrev main_call2_v3 : Ref sig .tc := ⟨.hbm, 86, rfl⟩
abbrev main_call2_v4 : Ref sig .tc := ⟨.hbm, 87, rfl⟩
abbrev main_call2_v5 : Ref sig .tc := ⟨.hbm, 88, rfl⟩
abbrev main_call2_v6 : Ref sig .tc := ⟨.hbm, 89, rfl⟩
abbrev main_call2_v7 : Ref sig .tc := ⟨.hbm, 90, rfl⟩
abbrev main_call2_cst_1 : Ref sig .tc := ⟨.hbm, 91, rfl⟩
abbrev main_call2_v8 : Ref sig .tc := ⟨.hbm, 92, rfl⟩
abbrev main_call2_cst_2 : Ref sig .tc := ⟨.hbm, 93, rfl⟩
abbrev main_call2_v9 : Ref sig .tc := ⟨.hbm, 94, rfl⟩
abbrev main_call2_v10 : Ref sig .tc := ⟨.hbm, 95, rfl⟩
abbrev main_call2_v11 : Ref sig .tc := ⟨.hbm, 96, rfl⟩
abbrev main_call2_v12 : Ref sig .tc := ⟨.hbm, 97, rfl⟩
abbrev main_call2_cst_3 : Ref sig .tc := ⟨.hbm, 98, rfl⟩
abbrev main_call2_v13 : Ref sig .tc := ⟨.hbm, 99, rfl⟩
abbrev main_call2_cst_4 : Ref sig .tc := ⟨.hbm, 100, rfl⟩
abbrev main_call2_call0_v0 : Ref sig .tc := ⟨.hbm, 101, rfl⟩
abbrev main_call2_call0_v1 : Ref sig .tc := ⟨.hbm, 102, rfl⟩
abbrev main_v36 : Ref sig .tc := ⟨.hbm, 103, rfl⟩
abbrev main_v37 : Ref sig .tc := ⟨.hbm, 104, rfl⟩
abbrev main_v38 : Ref sig .tc := ⟨.hbm, 105, rfl⟩
abbrev main_cst_5 : Ref sig .tc := ⟨.hbm, 106, rfl⟩
abbrev main_v39 : Ref sig .tc := ⟨.hbm, 107, rfl⟩
abbrev main_v40 : Ref sig .tc := ⟨.hbm, 108, rfl⟩
abbrev main_v41 : Ref sig .tc := ⟨.hbm, 109, rfl⟩
abbrev main_v42 : Ref sig .tc := ⟨.hbm, 110, rfl⟩
abbrev main_v43 : Ref sig .tc := ⟨.hbm, 111, rfl⟩
abbrev main_v44 : Ref sig .tc := ⟨.hbm, 112, rfl⟩
abbrev main_v45 : Ref sig .tc := ⟨.hbm, 113, rfl⟩
abbrev main_v46 : Ref sig .tc := ⟨.hbm, 114, rfl⟩
abbrev main_v47 : Ref sig .tc := ⟨.hbm, 115, rfl⟩
abbrev main_v48 : Ref sig .tc := ⟨.hbm, 116, rfl⟩
abbrev main_v49 : Ref sig .tc := ⟨.hbm, 117, rfl⟩
abbrev main_call3_cst : Ref sig .tc := ⟨.hbm, 118, rfl⟩
abbrev main_call3_v0 : Ref sig .tc := ⟨.hbm, 119, rfl⟩
abbrev main_v50 : Ref sig .tc := ⟨.hbm, 120, rfl⟩
abbrev main_v51 : Ref sig .tc := ⟨.hbm, 121, rfl⟩
abbrev main_v52 : Ref sig .tc := ⟨.hbm, 122, rfl⟩
abbrev main_v53 : Ref sig .tc := ⟨.hbm, 123, rfl⟩
abbrev main_v54 : Ref sig .tc := ⟨.hbm, 124, rfl⟩
abbrev main_v55 : Ref sig .tc := ⟨.hbm, 125, rfl⟩
abbrev main_v56 : Ref sig .tc := ⟨.hbm, 126, rfl⟩
abbrev main_v57 : Ref sig .tc := ⟨.hbm, 127, rfl⟩
abbrev main_v58 : Ref sig .tc := ⟨.hbm, 128, rfl⟩
abbrev main_v59 : Ref sig .tc := ⟨.hbm, 129, rfl⟩
abbrev main_v60 : Ref sig .tc := ⟨.hbm, 130, rfl⟩
abbrev main_v61_0 : Ref sig .tc := ⟨.hbm, 131, rfl⟩
abbrev main_v61_1 : Ref sig .tc := ⟨.hbm, 132, rfl⟩
abbrev main_v61_2 : Ref sig .tc := ⟨.hbm, 133, rfl⟩
abbrev main_v62 : Ref sig .tc := ⟨.hbm, 134, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11

abbrev nD : Nat := 1
abbrev τ : Topo := Topo.v7x

variable {F : FTy → Type} [FloatOps F]

abbrev grid0 : Pipeline.Grid := .none

@[reducible] def k0_t1_loop : Scf.Loop 32 :=
  let c0_i32_190 : BitVec 32 := 0#32
  let c1024_i32 : BitVec 32 := 1024#32
  let v402 : BitVec 32 := Scalar.addi c0_i32_190 c1024_i32
  let c1_i32 : BitVec 32 := 1#32
  ⟨c0_i32_190, v402, c1_i32⟩
abbrev stage0_0 : Fin 1 → Memref sig .tc .vmem S8x3x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S8x64x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S8x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S64x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S64x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S1x64 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S8x3x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S8x64x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S8x1024 .i32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
-- ==== ReferenceIdeal.lean ====
abbrev S8x2048x3 : Shape := ⟨3, ![8, 2048, 3]⟩
abbrev S8x64x2048 : Shape := ⟨3, ![8, 64, 2048]⟩
abbrev S64x64 : Shape := ⟨2, ![64, 64]⟩
abbrev S64 : Shape := ⟨1, ![64]⟩
abbrev S64x32 : Shape := ⟨2, ![64, 32]⟩
abbrev S32 : Shape := ⟨1, ![32]⟩
abbrev S32x1 : Shape := ⟨2, ![32, 1]⟩
abbrev S1 : Shape := ⟨1, ![1]⟩
abbrev S8x2048x64 : Shape := ⟨3, ![8, 2048, 64]⟩
abbrev S1x1x64 : Shape := ⟨3, ![1, 1, 64]⟩
abbrev S_ : Shape := ⟨0, ![]⟩
abbrev S8x2048 : Shape := ⟨2, ![8, 2048]⟩
abbrev S8x2048x1 : Shape := ⟨3, ![8, 2048, 1]⟩
abbrev S8x2048x32 : Shape := ⟨3, ![8, 2048, 32]⟩
abbrev S1x1x32 : Shape := ⟨3, ![1, 1, 32]⟩
abbrev S1x1x1 : Shape := ⟨3, ![1, 1, 1]⟩
abbrev S8x1x2048 : Shape := ⟨3, ![8, 1, 2048]⟩
abbrev S1024x8x1x2048 : Shape := ⟨4, ![1024, 8, 1, 2048]⟩
abbrev S8x1 : Shape := ⟨2, ![8, 1]⟩
abbrev S8x1x1 : Shape := ⟨3, ![8, 1, 1]⟩
abbrev S1x1x2048 : Shape := ⟨3, ![1, 1, 2048]⟩
abbrev S1x8x1x2048 : Shape := ⟨4, ![1, 8, 1, 2048]⟩
abbrev S1024x8x2048 : Shape := ⟨3, ![1024, 8, 2048]⟩
abbrev S8x1024x2048 : Shape := ⟨3, ![8, 1024, 2048]⟩
abbrev S8x1024x3 : Shape := ⟨3, ![8, 1024, 3]⟩
abbrev S8x1024x64 : Shape := ⟨3, ![8, 1024, 64]⟩
abbrev S8x64x1024 : Shape := ⟨3, ![8, 64, 1024]⟩
abbrev S8x1024 : Shape := ⟨2, ![8, 1024]⟩

abbrev nBuf : Space → Nat
  | .hbm => 194
  | .vmem => 0
  | .smem => 0
  | _ => 0

abbrev hbmTy0_0 (i : Nat) : BufTy := match i % 128 with
  | 0 => ⟨S8x2048x3, .f32⟩
  | 1 => ⟨S8x64x2048, .f32⟩
  | 2 => ⟨S64x64, .f32⟩
  | 3 => ⟨S64, .f32⟩
  | 4 => ⟨S64, .f32⟩
  | 5 => ⟨S64, .f32⟩
  | 6 => ⟨S64x64, .f32⟩
  | 7 => ⟨S64, .f32⟩
  | 8 => ⟨S64x32, .f32⟩
  | 9 => ⟨S32, .f32⟩
  | 10 => ⟨S32, .f32⟩
  | 11 => ⟨S32, .f32⟩
  | 12 => ⟨S32x1, .f32⟩
  | 13 => ⟨S1, .f32⟩
  | 14 => ⟨S8x2048x64, .f32⟩
  | 15 => ⟨S8x2048x64, .f32⟩
  | 16 => ⟨S1x1x64, .f32⟩
  | 17 => ⟨S8x2048x64, .f32⟩
  | 18 => ⟨S8x2048x64, .f32⟩
  | 19 => ⟨S_, .f32⟩
  | 20 => ⟨S8x2048, .f32⟩
  | 21 => ⟨S8x2048x1, .f32⟩
  | 22 => ⟨S_, .f32⟩
  | 23 => ⟨S8x2048x1, .f32⟩
  | 24 => ⟨S8x2048x1, .f32⟩
  | 25 => ⟨S_, .i32⟩
  | 26 => ⟨S_, .f32⟩
  | 27 => ⟨S8x2048, .f32⟩
  | 28 => ⟨S8x2048x1, .f32⟩
  | 29 => ⟨S_, .f32⟩
  | 30 => ⟨S8x2048x1, .f32⟩
  | 31 => ⟨S8x2048x1, .f32⟩
  | 32 => ⟨S8x2048x64, .f32⟩
  | 33 => ⟨S8x2048x64, .f32⟩
  | 34 => ⟨S8x2048x64, .f32⟩
  | 35 => ⟨S_, .f32⟩
  | 36 => ⟨S_, .f32⟩
  | 37 => ⟨S_, .f32⟩
  | 38 => ⟨S_, .f32⟩
  | 39 => ⟨S8x2048, .f32⟩
  | 40 => ⟨S8x2048x1, .f32⟩
  | 41 => ⟨S8x2048x1, .f32⟩
  | 42 => ⟨S8x2048x1, .f32⟩
  | 43 => ⟨S_, .f32⟩
  | 44 => ⟨S_, .i1⟩
  | 45 => ⟨S_, .f32⟩
  | 46 => ⟨S_, .f32⟩
  | 47 => ⟨S8x2048x1, .f32⟩
  | 48 => ⟨S8x2048x1, .f32⟩
  | 49 => ⟨S8x2048x64, .f32⟩
  | 50 => ⟨S8x2048x64, .f32⟩
  | 51 => ⟨S_, .f32⟩
  | 52 => ⟨S8x2048x1, .f32⟩
  | 53 => ⟨S8x2048x1, .f32⟩
  | 54 => ⟨S8x2048x1, .f32⟩
  | 55 => ⟨S8x2048x64, .f32⟩
  | 56 => ⟨S8x2048x64, .f32⟩
  | 57 => ⟨S1x1x64, .f32⟩
  | 58 => ⟨S8x2048x64, .f32⟩
  | 59 => ⟨S8x2048x64, .f32⟩
  | 60 => ⟨S1x1x64, .f32⟩
  | 61 => ⟨S8x2048x64, .f32⟩
  | 62 => ⟨S8x2048x64, .f32⟩
  | 63 => ⟨S_, .f32⟩
  | 64 => ⟨S8x2048x64, .f32⟩
  | 65 => ⟨S8x2048x64, .f32⟩
  | 66 => ⟨S8x2048x64, .f32⟩
  | 67 => ⟨S1x1x64, .f32⟩
  | 68 => ⟨S8x2048x64, .f32⟩
  | 69 => ⟨S8x2048x64, .f32⟩
  | 70 => ⟨S8x2048x32, .f32⟩
  | 71 => ⟨S1x1x32, .f32⟩
  | 72 => ⟨S8x2048x32, .f32⟩
  | 73 => ⟨S8x2048x32, .f32⟩
  | 74 => ⟨S_, .f32⟩
  | 75 => ⟨S8x2048, .f32⟩
  | 76 => ⟨S8x2048x1, .f32⟩
  | 77 => ⟨S_, .f32⟩
  | 78 => ⟨S8x2048x1, .f32⟩
  | 79 => ⟨S8x2048x1, .f32⟩
  | 80 => ⟨S_, .i32⟩
  | 81 => ⟨S_, .f32⟩
  | 82 => ⟨S8x2048, .f32⟩
  | 83 => ⟨S8x2048x1, .f32⟩
  | 84 => ⟨S_, .f32⟩
  | 85 => ⟨S8x2048x1, .f32⟩
  | 86 => ⟨S8x2048x1, .f32⟩
  | 87 => ⟨S8x2048x32, .f32⟩
  | 88 => ⟨S8x2048x32, .f32⟩
  | 89 => ⟨S8x2048x32, .f32⟩
  | 90 => ⟨S_, .f32⟩
  | 91 => ⟨S_, .f32⟩
  | 92 => ⟨S_, .f32⟩
  | 93 => ⟨S_, .f32⟩
  | 94 => ⟨S8x2048, .f32⟩
  | 95 => ⟨S8x2048x1, .f32⟩
  | 96 => ⟨S8x2048x1, .f32⟩
  | 97 => ⟨S8x2048x1, .f32⟩
  | 98 => ⟨S_, .f32⟩
  | 99 => ⟨S_, .i1⟩
  | 100 => ⟨S_, .f32⟩
  | 101 => ⟨S_, .f32⟩
  | 102 => ⟨S8x2048x1, .f32⟩
  | 103 => ⟨S8x2048x1, .f32⟩
  | 104 => ⟨S8x2048x32, .f32⟩
  | 105 => ⟨S8x2048x32, .f32⟩
  | 106 => ⟨S_, .f32⟩
  | 107 => ⟨S8x2048x1, .f32⟩
  | 108 => ⟨S8x2048x1, .f32⟩
  | 109 => ⟨S8x2048x1, .f32⟩
  | 110 => ⟨S8x2048x32, .f32⟩
  | 111 => ⟨S8x2048x32, .f32⟩
  | 112 => ⟨S1x1x32, .f32⟩
  | 113 => ⟨S8x2048x32, .f32⟩
  | 114 => ⟨S8x2048x32, .f32⟩
  | 115 => ⟨S1x1x32, .f32⟩
  | 116 => ⟨S8x2048x32, .f32⟩
  | 117 => ⟨S8x2048x32, .f32⟩
  | 118 => ⟨S_, .f32⟩
  | 119 => ⟨S8x2048x32, .f32⟩
  | 120 => ⟨S8x2048x32, .f32⟩
  | 121 => ⟨S8x2048x1, .f32⟩
  | 122 => ⟨S1x1x1, .f32⟩
  | 123 => ⟨S8x2048x1, .f32⟩
  | 124 => ⟨S8x2048x1, .f32⟩
  | 125 => ⟨S8x2048, .f32⟩
  | 126 => ⟨S8x1x2048, .f32⟩
  | 127 => ⟨S_, .f32⟩
  | _ => ⟨S8x2048x3, .f32⟩

abbrev hbmTy0_1 (i : Nat) : BufTy := match i % 128 with
  | 0 => ⟨S8x1x2048, .f32⟩
  | 1 => ⟨S_, .f32⟩
  | 2 => ⟨S1024x8x1x2048, .f32⟩
  | 3 => ⟨S_, .i32⟩
  | 4 => ⟨S_, .i32⟩
  | 5 => ⟨S8x1x2048, .f32⟩
  | 6 => ⟨S8x1x2048, .f32⟩
  | 7 => ⟨S1024x8x1x2048, .f32⟩
  | 8 => ⟨S_, .i32⟩
  | 9 => ⟨S_, .i1⟩
  | 10 => ⟨S_, .f32⟩
  | 11 => ⟨S8x1x2048, .f32⟩
  | 12 => ⟨S8x1x2048, .f32⟩
  | 13 => ⟨S_, .f32⟩
  | 14 => ⟨S_, .f32⟩
  | 15 => ⟨S8x1x2048, .f32⟩
  | 16 => ⟨S8x1x2048, .f32⟩
  | 17 => ⟨S8x1x2048, .f32⟩
  | 18 => ⟨S8x1x2048, .f32⟩
  | 19 => ⟨S_, .f32⟩
  | 20 => ⟨S8x1x2048, .f32⟩
  | 21 => ⟨S8x1x2048, .f32⟩
  | 22 => ⟨S_, .f32⟩
  | 23 => ⟨S8x1, .f32⟩
  | 24 => ⟨S_, .f32⟩
  | 25 => ⟨S8x1, .f32⟩
  | 26 => ⟨S8x1, .f32⟩
  | 27 => ⟨S8x1x1, .f32⟩
  | 28 => ⟨S8x1x2048, .f32⟩
  | 29 => ⟨S8x1x2048, .f32⟩
  | 30 => ⟨S8x1x2048, .f32⟩
  | 31 => ⟨S_, .f32⟩
  | 32 => ⟨S8x1, .f32⟩
  | 33 => ⟨S8x1x1, .f32⟩
  | 34 => ⟨S8x1x2048, .f32⟩
  | 35 => ⟨S8x1x2048, .f32⟩
  | 36 => ⟨S8x1x2048, .i32⟩
  | 37 => ⟨S_, .f32⟩
  | 38 => ⟨S_, .i32⟩
  | 39 => ⟨S8x1, .f32⟩
  | 40 => ⟨S8x1, .i32⟩
  | 41 => ⟨S8x1x1, .i32⟩
  | 42 => ⟨S1x1x2048, .i32⟩
  | 43 => ⟨S8x1x2048, .i32⟩
  | 44 => ⟨S8x1x2048, .i32⟩
  | 45 => ⟨S8x1x2048, .i1⟩
  | 46 => ⟨S8x1x2048, .f32⟩
  | 47 => ⟨S8x1x2048, .f32⟩
  | 48 => ⟨S8x1x2048, .f32⟩
  | 49 => ⟨S1x8x1x2048, .f32⟩
  | 50 => ⟨S_, .i32⟩
  | 51 => ⟨S_, .i32⟩
  | 52 => ⟨S_, .i32⟩
  | 53 => ⟨S1024x8x1x2048, .f32⟩
  | 54 => ⟨S_, .i32⟩
  | 55 => ⟨S_, .i32⟩
  | 56 => ⟨S1024x8x2048, .f32⟩
  | 57 => ⟨S8x1024x2048, .f32⟩
  | 58 => ⟨S8x1024x3, .f32⟩
  | 59 => ⟨S8x1024x64, .f32⟩
  | 60 => ⟨S8x64x1024, .f32⟩
  | 61 => ⟨S8x1024x2048, .i32⟩
  | 62 => ⟨S_, .f32⟩
  | 63 => ⟨S_, .i32⟩
  | 64 => ⟨S8x1024, .f32⟩
  | 65 => ⟨S8x1024, .i32⟩
  | _ => ⟨S8x2048x3, .f32⟩

abbrev hbmTy (i : Nat) : BufTy := match i / 128 with
  | 0 => hbmTy0_0 i
  | 1 => hbmTy0_1 i
  | _ => ⟨S8x2048x3, .f32⟩

abbrev bufTy : (tb : Table) → Fin (tcTables nBuf tb) → BufTy
  | .hbm, ⟨i, _⟩ => hbmTy i
  | _, _ => ⟨S8x2048x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_cst : Ref sig .tc := ⟨.hbm, 19, rfl⟩
abbrev main_v5 : Ref sig .tc := ⟨.hbm, 20, rfl⟩
abbrev main_v6 : Ref sig .tc := ⟨.hbm, 21, rfl⟩
abbrev main_cst_0 : Ref sig .tc := ⟨.hbm, 22, rfl⟩
abbrev main_v7 : Ref sig .tc := ⟨.hbm, 23, rfl⟩
abbrev main_v8 : Ref sig .tc := ⟨.hbm, 24, rfl⟩
abbrev main_c : Ref sig .tc := ⟨.hbm, 25, rfl⟩
abbrev main_call0_cst : Ref sig .tc := ⟨.hbm, 26, rfl⟩
abbrev main_call0_v0 : Ref sig .tc := ⟨.hbm, 27, rfl⟩
abbrev main_call0_v1 : Ref sig .tc := ⟨.hbm, 28, rfl⟩
abbrev main_call0_cst_0 : Ref sig .tc := ⟨.hbm, 29, rfl⟩
abbrev main_call0_v2 : Ref sig .tc := ⟨.hbm, 30, rfl⟩
abbrev main_call0_v3 : Ref sig .tc := ⟨.hbm, 31, rfl⟩
abbrev main_call0_v4 : Ref sig .tc := ⟨.hbm, 32, rfl⟩
abbrev main_call0_v5 : Ref sig .tc := ⟨.hbm, 33, rfl⟩
abbrev main_call0_v6 : Ref sig .tc := ⟨.hbm, 34, rfl⟩
abbrev main_call0_v7 : Ref sig .tc := ⟨.hbm, 35, rfl⟩
abbrev main_call0_cst_1 : Ref sig .tc := ⟨.hbm, 36, rfl⟩
abbrev main_call0_v8 : Ref sig .tc := ⟨.hbm, 37, rfl⟩
abbrev main_call0_cst_2 : Ref sig .tc := ⟨.hbm, 38, rfl⟩
abbrev main_call0_v9 : Ref sig .tc := ⟨.hbm, 39, rfl⟩
abbrev main_call0_v10 : Ref sig .tc := ⟨.hbm, 40, rfl⟩
abbrev main_call0_v11 : Ref sig .tc := ⟨.hbm, 41, rfl⟩
abbrev main_call0_v12 : Ref sig .tc := ⟨.hbm, 42, rfl⟩
abbrev main_call0_cst_3 : Ref sig .tc := ⟨.hbm, 43, rfl⟩
abbrev main_call0_v13 : Ref sig .tc := ⟨.hbm, 44, rfl⟩
abbrev main_call0_cst_4 : Ref sig .tc := ⟨.hbm, 45, rfl⟩
abbrev main_call0_call0_v0 : Ref sig .tc := ⟨.hbm, 46, rfl⟩
abbrev main_call0_call0_v1 : Ref sig .tc := ⟨.hbm, 47, rfl⟩
abbrev main_v9 : Ref sig .tc := ⟨.hbm, 48, rfl⟩
abbrev main_v10 : Ref sig .tc := ⟨.hbm, 49, rfl⟩
abbrev main_v11 : Ref sig .tc := ⟨.hbm, 50, rfl⟩
abbrev main_cst_1 : Ref sig .tc := ⟨.hbm, 51, rfl⟩
abbrev main_v12 : Ref sig .tc := ⟨.hbm, 52, rfl⟩
abbrev main_v13 : Ref sig .tc := ⟨.hbm, 53, rfl⟩
abbrev main_v14 : Ref sig .tc := ⟨.hbm, 54, rfl⟩
abbrev main_v15 : Ref sig .tc := ⟨.hbm, 55, rfl⟩
abbrev main_v16 : Ref sig .tc := ⟨.hbm, 56, rfl⟩
abbrev main_v17 : Ref sig .tc := ⟨.hbm, 57, rfl⟩
abbrev main_v18 : Ref sig .tc := ⟨.hbm, 58, rfl⟩
abbrev main_v19 : Ref sig .tc := ⟨.hbm, 59, rfl⟩
abbrev main_v20 : Ref sig .tc := ⟨.hbm, 60, rfl⟩
abbrev main_v21 : Ref sig .tc := ⟨.hbm, 61, rfl⟩
abbrev main_v22 : Ref sig .tc := ⟨.hbm, 62, rfl⟩
abbrev main_call1_cst : Ref sig .tc := ⟨.hbm, 63, rfl⟩
abbrev main_call1_v0 : Ref sig .tc := ⟨.hbm, 64, rfl⟩
abbrev main_v23 : Ref sig .tc := ⟨.hbm, 65, rfl⟩
abbrev main_v24 : Ref sig .tc := ⟨.hbm, 66, rfl⟩
abbrev main_v25 : Ref sig .tc := ⟨.hbm, 67, rfl⟩
abbrev main_v26 : Ref sig .tc := ⟨.hbm, 68, rfl⟩
abbrev main_v27 : Ref sig .tc := ⟨.hbm, 69, rfl⟩
abbrev main_v28 : Ref sig .tc := ⟨.hbm, 70, rfl⟩
abbrev main_v29 : Ref sig .tc := ⟨.hbm, 71, rfl⟩
abbrev main_v30 : Ref sig .tc := ⟨.hbm, 72, rfl⟩
abbrev main_v31 : Ref sig .tc := ⟨.hbm, 73, rfl⟩
abbrev main_cst_2 : Ref sig .tc := ⟨.hbm, 74, rfl⟩
abbrev main_v32 : Ref sig .tc := ⟨.hbm, 75, rfl⟩
abbrev main_v33 : Ref sig .tc := ⟨.hbm, 76, rfl⟩
abbrev main_cst_3 : Ref sig .tc := ⟨.hbm, 77, rfl⟩
abbrev main_v34 : Ref sig .tc := ⟨.hbm, 78, rfl⟩
abbrev main_v35 : Ref sig .tc := ⟨.hbm, 79, rfl⟩
abbrev main_c_4 : Ref sig .tc := ⟨.hbm, 80, rfl⟩
abbrev main_call2_cst : Ref sig .tc := ⟨.hbm, 81, rfl⟩
abbrev main_call2_v0 : Ref sig .tc := ⟨.hbm, 82, rfl⟩
abbrev main_call2_v1 : Ref sig .tc := ⟨.hbm, 83, rfl⟩
abbrev main_call2_cst_0 : Ref sig .tc := ⟨.hbm, 84, rfl⟩
abbrev main_call2_v2 : Ref sig .tc := ⟨.hbm, 85, rfl⟩
abbrev main_call2_v3 : Ref sig .tc := ⟨.hbm, 86, rfl⟩
abbrev main_call2_v4 : Ref sig .tc := ⟨.hbm, 87, rfl⟩
abbrev main_call2_v5 : Ref sig .tc := ⟨.hbm, 88, rfl⟩
abbrev main_call2_v6 : Ref sig .tc := ⟨.hbm, 89, rfl⟩
abbrev main_call2_v7 : Ref sig .tc := ⟨.hbm, 90, rfl⟩
abbrev main_call2_cst_1 : Ref sig .tc := ⟨.hbm, 91, rfl⟩
abbrev main_call2_v8 : Ref sig .tc := ⟨.hbm, 92, rfl⟩
abbrev main_call2_cst_2 : Ref sig .tc := ⟨.hbm, 93, rfl⟩
abbrev main_call2_v9 : Ref sig .tc := ⟨.hbm, 94, rfl⟩
abbrev main_call2_v10 : Ref sig .tc := ⟨.hbm, 95, rfl⟩
abbrev main_call2_v11 : Ref sig .tc := ⟨.hbm, 96, rfl⟩
abbrev main_call2_v12 : Ref sig .tc := ⟨.hbm, 97, rfl⟩
abbrev main_call2_cst_3 : Ref sig .tc := ⟨.hbm, 98, rfl⟩
abbrev main_call2_v13 : Ref sig .tc := ⟨.hbm, 99, rfl⟩
abbrev main_call2_cst_4 : Ref sig .tc := ⟨.hbm, 100, rfl⟩
abbrev main_call2_call0_v0 : Ref sig .tc := ⟨.hbm, 101, rfl⟩
abbrev main_call2_call0_v1 : Ref sig .tc := ⟨.hbm, 102, rfl⟩
abbrev main_v36 : Ref sig .tc := ⟨.hbm, 103, rfl⟩
abbrev main_v37 : Ref sig .tc := ⟨.hbm, 104, rfl⟩
abbrev main_v38 : Ref sig .tc := ⟨.hbm, 105, rfl⟩
abbrev main_cst_5 : Ref sig .tc := ⟨.hbm, 106, rfl⟩
abbrev main_v39 : Ref sig .tc := ⟨.hbm, 107, rfl⟩
abbrev main_v40 : Ref sig .tc := ⟨.hbm, 108, rfl⟩
abbrev main_v41 : Ref sig .tc := ⟨.hbm, 109, rfl⟩
abbrev main_v42 : Ref sig .tc := ⟨.hbm, 110, rfl⟩
abbrev main_v43 : Ref sig .tc := ⟨.hbm, 111, rfl⟩
abbrev main_v44 : Ref sig .tc := ⟨.hbm, 112, rfl⟩
abbrev main_v45 : Ref sig .tc := ⟨.hbm, 113, rfl⟩
abbrev main_v46 : Ref sig .tc := ⟨.hbm, 114, rfl⟩
abbrev main_v47 : Ref sig .tc := ⟨.hbm, 115, rfl⟩
abbrev main_v48 : Ref sig .tc := ⟨.hbm, 116, rfl⟩
abbrev main_v49 : Ref sig .tc := ⟨.hbm, 117, rfl⟩
abbrev main_call3_cst : Ref sig .tc := ⟨.hbm, 118, rfl⟩
abbrev main_call3_v0 : Ref sig .tc := ⟨.hbm, 119, rfl⟩
abbrev main_v50 : Ref sig .tc := ⟨.hbm, 120, rfl⟩
abbrev main_v51 : Ref sig .tc := ⟨.hbm, 121, rfl⟩
abbrev main_v52 : Ref sig .tc := ⟨.hbm, 122, rfl⟩
abbrev main_v53 : Ref sig .tc := ⟨.hbm, 123, rfl⟩
abbrev main_v54 : Ref sig .tc := ⟨.hbm, 124, rfl⟩
abbrev main_v55 : Ref sig .tc := ⟨.hbm, 125, rfl⟩
abbrev main_v56 : Ref sig .tc := ⟨.hbm, 126, rfl⟩
abbrev main_cst_6 : Ref sig .tc := ⟨.hbm, 127, rfl⟩
abbrev main_v57 : Ref sig .tc := ⟨.hbm, 128, rfl⟩
abbrev main_cst_7 : Ref sig .tc := ⟨.hbm, 129, rfl⟩
abbrev main_v58 : Ref sig .tc := ⟨.hbm, 130, rfl⟩
abbrev main_c_8 : Ref sig .tc := ⟨.hbm, 131, rfl⟩
abbrev main_v59_0 : Ref sig .tc := ⟨.hbm, 132, rfl⟩
abbrev main_v59_1 : Ref sig .tc := ⟨.hbm, 133, rfl⟩
abbrev main_v59_2 : Ref sig .tc := ⟨.hbm, 134, rfl⟩
abbrev main_v59_3 : Ref sig .tc := ⟨.hbm, 135, rfl⟩
abbrev main_while0c_c_12 : Ref sig .tc := ⟨.hbm, 136, rfl⟩
abbrev main_while0c_v66 : Ref sig .tc := ⟨.hbm, 137, rfl⟩
abbrev main_while0b_cst_12 : Ref sig .tc := ⟨.hbm, 138, rfl⟩
abbrev main_while0b_v66 : Ref sig .tc := ⟨.hbm, 139, rfl⟩
abbrev main_while0b_v67 : Ref sig .tc := ⟨.hbm, 140, rfl⟩
abbrev main_while0b_cst_13 : Ref sig .tc := ⟨.hbm, 141, rfl⟩
abbrev main_while0b_call4_v0 : Ref sig .tc := ⟨.hbm, 142, rfl⟩
abbrev main_while0b_call4_v1 : Ref sig .tc := ⟨.hbm, 143, rfl⟩
abbrev main_while0b_v68 : Ref sig .tc := ⟨.hbm, 144, rfl⟩
abbrev main_while0b_v69 : Ref sig .tc := ⟨.hbm, 145, rfl⟩
abbrev main_while0b_v70 : Ref sig .tc := ⟨.hbm, 146, rfl⟩
abbrev main_while0b_cst_14 : Ref sig .tc := ⟨.hbm, 147, rfl⟩
abbrev main_while0b_v71 : Ref sig .tc := ⟨.hbm, 148, rfl⟩
abbrev main_while0b_v72 : Ref sig .tc := ⟨.hbm, 149, rfl⟩
abbrev main_while0b_cst_15 : Ref sig .tc := ⟨.hbm, 150, rfl⟩
abbrev main_while0b_v73 : Ref sig .tc := ⟨.hbm, 151, rfl⟩
abbrev main_while0b_cst_16 : Ref sig .tc := ⟨.hbm, 152, rfl⟩
abbrev main_while0b_v74 : Ref sig .tc := ⟨.hbm, 153, rfl⟩
abbrev main_while0b_v75 : Ref sig .tc := ⟨.hbm, 154, rfl⟩
abbrev main_while0b_v76 : Ref sig .tc := ⟨.hbm, 155, rfl⟩
abbrev main_while0b_v77 : Ref sig .tc := ⟨.hbm, 156, rfl⟩
abbrev main_while0b_v78 : Ref sig .tc := ⟨.hbm, 157, rfl⟩
abbrev main_while0b_v79 : Ref sig .tc := ⟨.hbm, 158, rfl⟩
abbrev main_while0b_cst_17 : Ref sig .tc := ⟨.hbm, 159, rfl⟩
abbrev main_while0b_v80 : Ref sig .tc := ⟨.hbm, 160, rfl⟩
abbrev main_while0b_v81 : Ref sig .tc := ⟨.hbm, 161, rfl⟩
abbrev main_while0b_v82 : Ref sig .tc := ⟨.hbm, 162, rfl⟩
abbrev main_while0b_v83 : Ref sig .tc := ⟨.hbm, 163, rfl⟩
abbrev main_while0b_call5_v0 : Ref sig .tc := ⟨.hbm, 164, rfl⟩
abbrev main_while0b_call5_cst : Ref sig .tc := ⟨.hbm, 165, rfl⟩
abbrev main_while0b_call5_c : Ref sig .tc := ⟨.hbm, 166, rfl⟩
abbrev main_while0b_call5_v1_0 : Ref sig .tc := ⟨.hbm, 167, rfl⟩
abbrev main_while0b_v84 : Ref sig .tc := ⟨.hbm, 168, rfl⟩
abbrev main_while0b_call6_v0 : Ref sig .tc := ⟨.hbm, 169, rfl⟩
abbrev main_while0b_call6_v1 : Ref sig .tc := ⟨.hbm, 170, rfl⟩
abbrev main_while0b_call6_v2 : Ref sig .tc := ⟨.hbm, 171, rfl⟩
abbrev main_while0b_call6_v3 : Ref sig .tc := ⟨.hbm, 172, rfl⟩
abbrev main_while0b_call6_v4 : Ref sig .tc := ⟨.hbm, 173, rfl⟩
abbrev main_while0b_v85 : Ref sig .tc := ⟨.hbm, 174, rfl⟩
abbrev main_while0b_v86 : Ref sig .tc := ⟨.hbm, 175, rfl⟩
abbrev main_while0b_v87 : Ref sig .tc := ⟨.hbm, 176, rfl⟩
abbrev main_while0b_call7_v0 : Ref sig .tc := ⟨.hbm, 177, rfl⟩
abbrev main_while0b_call7_c : Ref sig .tc := ⟨.hbm, 178, rfl⟩
abbrev main_while0b_call7_c_0 : Ref sig .tc := ⟨.hbm, 179, rfl⟩
abbrev main_while0b_call7_c_1 : Ref sig .tc := ⟨.hbm, 180, rfl⟩
abbrev main_while0b_v88 : Ref sig .tc := ⟨.hbm, 181, rfl⟩
abbrev main_while0b_c_18 : Ref sig .tc := ⟨.hbm, 182, rfl⟩
abbrev main_while0b_v89 : Ref sig .tc := ⟨.hbm, 183, rfl⟩
abbrev main_v60 : Ref sig .tc := ⟨.hbm, 184, rfl⟩
abbrev main_v61 : Ref sig .tc := ⟨.hbm, 185, rfl⟩
abbrev main_v62 : Ref sig .tc := ⟨.hbm, 186, rfl⟩
abbrev main_v63 : Ref sig .tc := ⟨.hbm, 187, rfl⟩
abbrev main_v64 : Ref sig .tc := ⟨.hbm, 188, rfl⟩
abbrev main_call8_v0 : Ref sig .tc := ⟨.hbm, 189, rfl⟩
abbrev main_call8_cst : Ref sig .tc := ⟨.hbm, 190, rfl⟩
abbrev main_call8_c : Ref sig .tc := ⟨.hbm, 191, rfl⟩
abbrev main_call8_v1_0 : Ref sig .tc := ⟨.hbm, 192, rfl⟩
abbrev main_v65 : Ref sig .tc := ⟨.hbm, 193, rfl⟩

abbrev nD : Nat := 1
abbrev τ : Topo := Topo.v7x

variable {F : FTy → Type} [FloatOps F]

abbrev main_while0_count : Scf.Loop 32 := ⟨0#32, 1024#32, 1#32⟩
-- ==== Proof.RefOps.lean ====
/- The reference's own run, part one: its operations as lists, and the equations that cut the program into those lists. -/
module

public import proofs.«01_k».proof.Proof.Gen.ReferenceIdeal
public import Idealize.ShloMosaic.Lib.Pipeline.Regions
public import Idealize.ShloMosaic.Lib.StableHlo.RunLoop
public import Idealize.ShloMosaic.Lib.StableHlo.RunRead
public import Idealize.ShloMosaic.Lib.Scf.ExitTest
public import Idealize.ShloMosaic.Lib.Scf.Counter

@[expose] public section

set_option maxRecDepth 1288

noncomputable section

namespace Cert.ReferenceIdeal.Gen

open Idealize.ShloMosaic Idealize.ShloMosaic.TcCoe
open Idealize.SL Idealize.SL.RA Idealize.SL.BI
open scoped Idealize.SL.BI
open Idealize.SL.BI.BIBase Idealize.SL.Sem

variable {F : FTy → Type} [FloatOps F]
/-! ## The program's operations, stretch by stretch, and the program as a chain of these stretches -/

/-- A stretch of `main`, 12 operations. -/
abbrev hostOps0 : List (HloOp τ sig (Elt F)) :=
  [ StableHlo.unary main_arg1 main_v0 ((transpose S8x2048x64 [0, 2, 1] · transposes_S8x64x2048_S8x2048x64_0_2_1) : (⟨S8x64x2048, .f32⟩ : BufTy).Contents (Elt F) → (⟨S8x2048x64, .f32⟩ : BufTy).Contents (Elt F)),
    StableHlo.binary main_v0 main_arg2 main_v1 ((fun l r => Host.dotGeneral dot_S8x2048x64_S64x64_S8x2048x64_2_0_01_1_n_n none l r) : (⟨S8x2048x64, .f32⟩ : BufTy).Contents (Elt F) → (⟨S64x64, .f32⟩ : BufTy).Contents (Elt F) → (⟨S8x2048x64, .f32⟩ : BufTy).Contents (Elt F)),
    StableHlo.unary main_arg3 main_v2 (broadcastInDim S1x1x64 ![2] bcast_S64_S1x1x64_2 : (⟨S64, .f32⟩ : BufTy).Contents (Elt F) → (⟨S1x1x64, .f32⟩ : BufTy).Contents (Elt F)),
    StableHlo.unary main_v2 main_v3 (broadcastInDim S8x2048x64 ![0, 1, 2] bcast_S1x1x64_S8x2048x64_0_1_2 : (⟨S1x1x64, .f32⟩ : BufTy).Contents (Elt F) → (⟨S8x2048x64, .f32⟩ : BufTy).Contents (Elt F)),
    StableHlo.binary main_v1 main_v3 main_v4 (addf : (⟨S8x2048x64, .f32⟩ : BufTy).Contents (Elt F) → (⟨S8x2048x64, .f32⟩ : BufTy).Contents (Elt F) → (⟨S8x2048x64, .f32⟩ : BufTy).Contents (Elt F)),
    StableHlo.nullary main_cst (constant S_ .f32 0x00000000#32),
    StableHlo.binary main_v4 main_cst main_v5 ((fun x v => Host.reduceAdd x v reducesTo_S8x2048x64_S8x2048_d2 h_S_) : (⟨S8x2048x64, .f32⟩ : BufTy).Contents (Elt F) → (⟨S_, .f32⟩ : BufTy).Contents (Elt F) → (⟨S8x2048, .f32⟩ : BufTy).Contents (Elt F)),
    StableHlo.unary main_v5 main_v6 (broadcastInDim S8x2048x1 ![0, 1] bcast_S8x2048_S8x2048x1_0_1 : (⟨S8x2048, .f32⟩ : BufTy).Contents (Elt F) → (⟨S8x2048x1, .f32⟩ : BufTy).Contents (Elt F)),
    StableHlo.nullary main_cst_0 (constant S_ .f32 0x42800000#32),
    StableHlo.unary main_cst_0 main_v7 (broadcastInDim S8x2048x1 ![] bcast_S_S8x2048x1 : (⟨S_, .f32⟩ : BufTy).Contents (Elt F) → (⟨S8x2048x1, .f32⟩ : BufTy).Contents (Elt F)),
    StableHlo.binary main_v6 main_v7 main_v8 (Host.divf : (⟨S8x2048x1, .f32⟩ : BufTy).Contents (Elt F) → (⟨S8x2048x1, .f32⟩ : BufTy).Contents (Elt F) → (⟨S8x2048x1, .f32⟩ : BufTy).Contents (Elt F)),
    StableHlo.nullary main_c (constantI S_ 32 0#32) ]
/-- Each of these operations touches TensorCore buffers only. -/
theorem hostOps0_sub : (hostOps0 : List (HloOp τ sig (Elt F))).Forall fun op => op.bufs ⊆ StableHlo.tcRefs τ sig :=
  ⟨StableHlo.unary_bufs_sub .., StableHlo.binary_bufs_sub .., StableHlo.unary_bufs_sub .., StableHlo.unary_bufs_sub .., StableHlo.binary_bufs_sub .., StableHlo.nullary_bufs_sub .., StableHlo.binary_bufs_sub .., StableHlo.unary_bufs_sub .., StableHlo.nullary_bufs_sub .., StableHlo.unary_bufs_sub .., StableHlo.binary_bufs_sub .., StableHlo.nullary_bufs_sub ..⟩
/-- A stretch of `_var`, 23 operations. -/
abbrev hostOps0_1 : List (HloOp τ sig (Elt F)) :=
  [ StableHlo.TRef.nullary (.of main_call0_cst : StableHlo.TRef sig ⟨S_, .f32⟩) (constant S_ .f32 0x00000000#32),
    StableHlo.TRef.binary (.of main_v4 : StableHlo.TRef sig ⟨S8x2048x64, .f32⟩) (.of main_call0_cst : StableHlo.TRef sig ⟨S_, .f32⟩) (.of main_call0_v0 : StableHlo.TRef sig ⟨S8x2048, .f32⟩) (fun x v => Host.reduceAdd x v reducesTo_S8x2048x64_S8x2048_d2 h_S_),
    StableHlo.TRef.unary (.of main_call0_v0 : StableHlo.TRef sig ⟨S8x2048, .f32⟩) (.of main_call0_v1 : StableHlo.TRef sig ⟨S8x2048x1, .f32⟩) (broadcastInDim S8x2048x1 ![0, 1] bcast_S8x2048_S8x2048x1_0_1),
    StableHlo.TRef.nullary (.of main_call0_cst_0 : StableHlo.TRef sig ⟨S_, .f32⟩) (constant S_ .f32 0x42800000#32),
    StableHlo.TRef.unary (.of main_call0_cst_0 : StableHlo.TRef sig ⟨S_, .f32⟩) (.of main_call0_v2 : StableHlo.TRef sig ⟨S8x2048x1, .f32⟩) (broadcastInDim S8x2048x1 ![] bcast_S_S8x2048x1),
    StableHlo.TRef.binary (.of main_call0_v1 : StableHlo.TRef sig ⟨S8x2048x1, .f32⟩) (.of main_call0_v2 : StableHlo.TRef sig ⟨S8x2048x1, .f32⟩) (.of main_call0_v3 : StableHlo.TRef sig ⟨S8x2048x1, .f32⟩) Host.divf,
    StableHlo.TRef.unary (.of main_call0_v3 : StableHlo.TRef sig ⟨S8x2048x1, .f32⟩) (.of main_call0_v4 : StableHlo.TRef sig ⟨S8x2048x64, .f32⟩) (broadcastInDim S8x2048x64 ![0, 1, 2] bcast_S8x2048x1_S8x2048x64_0_1_2),
    StableHlo.TRef.binary (.of main_v4 : StableHlo.TRef sig ⟨S8x2048x64, .f32⟩) (.of main_call0_v4 : StableHlo.TRef sig ⟨S8x2048x64, .f32⟩) (.of main_call0_v5 : StableHlo.TRef sig ⟨S8x2048x64, .f32⟩) subf,
    StableHlo.TRef.binary (.of main_call0_v5 : StableHlo.TRef sig ⟨S8x2048x64, .f32⟩) (.of main_call0_v5 : StableHlo.TRef sig ⟨S8x2048x64, .f32⟩) (.of main_call0_v6 : StableHlo.TRef sig ⟨S8x2048x64, .f32⟩) mulf,
    StableHlo.TRef.unary (.of main_c : StableHlo.TRef sig ⟨S_, .i32⟩) (.of main_call0_v7 : StableHlo.TRef sig ⟨S_, .f32⟩) (sitofp .f32),
    StableHlo.TRef.nullary (.of main_call0_cst_1 : StableHlo.TRef sig ⟨S_, .f32⟩) (constant S_ .f32 0x42800000#32),
    StableHlo.TRef.binary (.of main_call0_cst_1 : StableHlo.TRef sig ⟨S_, .f32⟩) (.of main_call0_v7 : StableHlo.TRef sig ⟨S_, .f32⟩) (.of main_call0_v8 : StableHlo.TRef sig ⟨S_, .f32⟩) subf,
    StableHlo.TRef.nullary (.of main_call0_cst_2 : StableHlo.TRef sig ⟨S_, .f32⟩) (constant S_ .f32 0x00000000#32),
    StableHlo.TRef.binary (.of main_call0_v6 : StableHlo.TRef sig ⟨S8x2048x64, .f32⟩) (.of main_call0_cst_2 : StableHlo.TRef sig ⟨S_, .f32⟩) (.of main_call0_v9 : StableHlo.TRef sig ⟨S8x2048, .f32⟩) (fun x v => Host.reduceAdd x v reducesTo_S8x2048x64_S8x2048_d2 h_S_),
    StableHlo.TRef.unary (.of main_call0_v9 : StableHlo.TRef sig ⟨S8x2048, .f32⟩) (.of main_call0_v10 : StableHlo.TRef sig ⟨S8x2048x1, .f32⟩) (broadcastInDim S8x2048x1 ![0, 1] bcast_S8x2048_S8x2048x1_0_1),
    StableHlo.TRef.unary (.of main_call0_v8 : StableHlo.TRef sig ⟨S_, .f32⟩) (.of main_call0_v11 : StableHlo.TRef sig ⟨S8x2048x1, .f32⟩) (broadcastInDim S8x2048x1 ![] bcast_S_S8x2048x1),
    StableHlo.TRef.binary (.of main_call0_v10 : StableHlo.TRef sig ⟨S8x2048x1, .f32⟩) (.of main_call0_v11 : StableHlo.TRef sig ⟨S8x2048x1, .f32⟩) (.of main_call0_v12 : StableHlo.TRef sig ⟨S8x2048x1, .f32⟩) Host.divf,
    StableHlo.TRef.nullary (.of main_call0_cst_3 : StableHlo.TRef sig ⟨S_, .f32⟩) (constant S_ .f32 0x00000000#32),
    StableHlo.TRef.binary (.of main_call0_v8 : StableHlo.TRef sig ⟨S_, .f32⟩) (.of main_call0_cst_3 : StableHlo.TRef sig ⟨S_, .f32⟩) (.of main_call0_v13 : StableHlo.TRef sig ⟨S_, .i1⟩) (cmpf .ogt),
    StableHlo.TRef.nullary (.of main_call0_cst_4 : StableHlo.TRef sig ⟨S_, .f32⟩) (constant S_ .f32 0x7FC00000#32),
    StableHlo.TRef.unary (.of main_call0_cst_4 : StableHlo.TRef sig ⟨S_, .f32⟩) (.of main_call0_call0_v0 : StableHlo.TRef sig ⟨S_, .f32⟩) id,
    StableHlo.TRef.unary (.of main_call0_call0_v0 : StableHlo.TRef sig ⟨S_, .f32⟩) (.of main_call0_call0_v1 : StableHlo.TRef sig ⟨S8x2048x1, .f32⟩) (broadcastInDim S8x2048x1 ![] bcast_S_S8x2048x1),
    StableHlo.TRef.ternary (.of main_call0_v13 : StableHlo.TRef sig ⟨S_, .i1⟩) (.of main_call0_v12 : StableHlo.TRef sig ⟨S8x2048x1, .f32⟩) (.of main_call0_call0_v1 : StableHlo.TRef sig ⟨S8x2048x1, .f32⟩) (.of main_v9 : StableHlo.TRef sig ⟨S8x2048x1, .f32⟩) (fun p a b => select (broadcastInDim S8x2048x1 ![] bcast_S_S8x2048x1 p) a b) ]
/-- Each of these operations touches TensorCore buffers only. -/
theorem hostOps0_1_sub : (hostOps0_1 : List (HloOp τ sig (Elt F))).Forall fun op => op.bufs ⊆ StableHlo.tcRefs τ sig :=
  ⟨StableHlo.nullary_bufs_sub .., StableHlo.binary_bufs_sub .., StableHlo.unary_bufs_sub .., StableHlo.nullary_bufs_sub .., StableHlo.unary_bufs_sub .., StableHlo.binary_bufs_sub .., StableHlo.unary_bufs_sub .., StableHlo.binary_bufs_sub .., StableHlo.binary_bufs_sub .., StableHlo.unary_bufs_sub .., StableHlo.nullary_bufs_sub .., StableHlo.binary_bufs_sub .., StableHlo.nullary_bufs_sub .., StableHlo.binary_bufs_sub .., StableHlo.unary_bufs_sub .., StableHlo.unary_bufs_sub .., StableHlo.binary_bufs_sub .., StableHlo.nullary_bufs_sub .., StableHlo.binary_bufs_sub .., StableHlo.nullary_bufs_sub .., StableHlo.unary_bufs_sub .., StableHlo.unary_bufs_sub .., StableHlo.ternary_bufs_sub ..⟩
/-- A stretch of `main`, 14 operations. -/
abbrev hostOps0_2 : List (HloOp τ sig (Elt F)) :=
  [ StableHlo.unary main_v8 main_v10 (broadcastInDim S8x2048x64 ![0, 1, 2] bcast_S8x2048x1_S8x2048x64_0_1_2 : (⟨S8x2048x1, .f32⟩ : BufTy).Contents (Elt F) → (⟨S8x2048x64, .f32⟩ : BufTy).Contents (Elt F)),
    StableHlo.binary main_v4 main_v10 main_v11 (subf : (⟨S8x2048x64, .f32⟩ : BufTy).Contents (Elt F) → (⟨S8x2048x64, .f32⟩ : BufTy).Contents (Elt F) → (⟨S8x2048x64, .f32⟩ : BufTy).Contents (Elt F)),
    StableHlo.nullary main_cst_1 (constant S_ .f32 0x3727C5AC#32),
    StableHlo.unary main_cst_1 main_v12 (broadcastInDim S8x2048x1 ![] bcast_S_S8x2048x1 : (⟨S_, .f32⟩ : BufTy).Contents (Elt F) → (⟨S8x2048x1, .f32⟩ : BufTy).Contents (Elt F)),
    StableHlo.binary main_v9 main_v12 main_v13 (addf : (⟨S8x2048x1, .f32⟩ : BufTy).Contents (Elt F) → (⟨S8x2048x1, .f32⟩ : BufTy).Contents (Elt F) → (⟨S8x2048x1, .f32⟩ : BufTy).Contents (Elt F)),
    StableHlo.unary main_v13 main_v14 (Host.sqrt : (⟨S8x2048x1, .f32⟩ : BufTy).Contents (Elt F) → (⟨S8x2048x1, .f32⟩ : BufTy).Contents (Elt F)),
    StableHlo.unary main_v14 main_v15 (broadcastInDim S8x2048x64 ![0, 1, 2] bcast_S8x2048x1_S8x2048x64_0_1_2 : (⟨S8x2048x1, .f32⟩ : BufTy).Contents (Elt F) → (⟨S8x2048x64, .f32⟩ : BufTy).Contents (Elt F)),
    StableHlo.binary main_v11 main_v15 main_v16 (Host.divf : (⟨S8x2048x64, .f32⟩ : BufTy).Contents (Elt F) → (⟨S8x2048x64, .f32⟩ : BufTy).Contents (Elt F) → (⟨S8x2048x64, .f32⟩ : BufTy).Contents (Elt F)),
    StableHlo.unary main_arg4 main_v17 (broadcastInDim S1x1x64 ![2] bcast_S64_S1x1x64_2 : (⟨S64, .f32⟩ : BufTy).Contents (Elt F) → (⟨S1x1x64, .f32⟩ : BufTy).Contents (Elt F)),
    StableHlo.unary main_v17 main_v18 (broadcastInDim S8x2048x64 ![0, 1, 2] bcast_S1x1x64_S8x2048x64_0_1_2 : (⟨S1x1x64, .f32⟩ : BufTy).Contents (Elt F) → (⟨S8x2048x64, .f32⟩ : BufTy).Contents (Elt F)),
    StableHlo.binary main_v16 main_v18 main_v19 (mulf : (⟨S8x2048x64, .f32⟩ : BufTy).Contents (Elt F) → (⟨S8x2048x64, .f32⟩ : BufTy).Contents (Elt F) → (⟨S8x2048x64, .f32⟩ : BufTy).Contents (Elt F)),
    StableHlo.unary main_arg5 main_v20 (broadcastInDim S1x1x64 ![2] bcast_S64_S1x1x64_2 : (⟨S64, .f32⟩ : BufTy).Contents (Elt F) → (⟨S1x1x64, .f32⟩ : BufTy).Contents (Elt F)),
    StableHlo.unary main_v20 main_v21 (broadcastInDim S8x2048x64 ![0, 1, 2] bcast_S1x1x64_S8x2048x64_0_1_2 : (⟨S1x1x64, .f32⟩ : BufTy).Contents (Elt F) → (⟨S8x2048x64, .f32⟩ : BufTy).Contents (Elt F)),
    StableHlo.binary main_v19 main_v21 main_v22 (addf : (⟨S8x2048x64, .f32⟩ : BufTy).Contents (Elt F) → (⟨S8x2048x64, .f32⟩ : BufTy).Contents (Elt F) → (⟨S8x2048x64, .f32⟩ : BufTy).Contents (Elt F)) ]
/-- Each of these operations touches TensorCore buffers only. -/
theorem hostOps0_2_sub : (hostOps0_2 : List (HloOp τ sig (Elt F))).Forall fun op => op.bufs ⊆ StableHlo.tcRefs τ sig :=
  ⟨StableHlo.unary_bufs_sub .., StableHlo.binary_bufs_sub .., StableHlo.nullary_bufs_sub .., StableHlo.unary_bufs_sub .., StableHlo.binary_bufs_sub .., StableHlo.unary_bufs_sub .., StableHlo.unary_bufs_sub .., StableHlo.binary_bufs_sub .., StableHlo.unary_bufs_sub .., StableHlo.unary_bufs_sub .., StableHlo.binary_bufs_sub .., StableHlo.unary_bufs_sub .., StableHlo.unary_bufs_sub .., StableHlo.binary_bufs_sub ..⟩
/-- A stretch of `relu`, 3 operations. -/
abbrev hostOps0_3 : List (HloOp τ sig (Elt F)) :=
  [ StableHlo.TRef.nullary (.of main_call1_cst : StableHlo.TRef sig ⟨S_, .f32⟩) (constant S_ .f32 0x00000000#32),
    StableHlo.TRef.unary (.of main_call1_cst : StableHlo.TRef sig ⟨S_, .f32⟩) (.of main_call1_v0 : StableHlo.TRef sig ⟨S8x2048x64, .f32⟩) (broadcastInDim S8x2048x64 ![] bcast_S_S8x2048x64),
    StableHlo.TRef.binary (.of main_v22 : StableHlo.TRef sig ⟨S8x2048x64, .f32⟩) (.of main_call1_v0 : StableHlo.TRef sig ⟨S8x2048x64, .f32⟩) (.of main_v23 : StableHlo.TRef sig ⟨S8x2048x64, .f32⟩) maximumf ]
/-- Each of these operations touches TensorCore buffers only. -/
theorem hostOps0_3_sub : (hostOps0_3 : List (HloOp τ sig (Elt F))).Forall fun op => op.bufs ⊆ StableHlo.tcRefs τ sig :=
  ⟨StableHlo.nullary_bufs_sub .., StableHlo.unary_bufs_sub .., StableHlo.binary_bufs_sub ..⟩
/-- A stretch of `main`, 15 operations. -/
abbrev hostOps0_4 : List (HloOp τ sig (Elt F)) :=
  [ StableHlo.binary main_v23 main_arg6 main_v24 ((fun l r => Host.dotGeneral dot_S8x2048x64_S64x64_S8x2048x64_2_0_01_1_n_n none l r) : (⟨S8x2048x64, .f32⟩ : BufTy).Contents (Elt F) → (⟨S64x64, .f32⟩ : BufTy).Contents (Elt F) → (⟨S8x2048x64, .f32⟩ : BufTy).Contents (Elt F)),
    StableHlo.unary main_arg7 main_v25 (broadcastInDim S1x1x64 ![2] bcast_S64_S1x1x64_2 : (⟨S64, .f32⟩ : BufTy).Contents (Elt F) → (⟨S1x1x64, .f32⟩ : BufTy).Contents (Elt F)),
    StableHlo.unary main_v25 main_v26 (broadcastInDim S8x2048x64 ![0, 1, 2] bcast_S1x1x64_S8x2048x64_0_1_2 : (⟨S1x1x64, .f32⟩ : BufTy).Contents (Elt F) → (⟨S8x2048x64, .f32⟩ : BufTy).Contents (Elt F)),
    StableHlo.binary main_v24 main_v26 main_v27 (addf : (⟨S8x2048x64, .f32⟩ : BufTy).Contents (Elt F) → (⟨S8x2048x64, .f32⟩ : BufTy).Contents (Elt F) → (⟨S8x2048x64, .f32⟩ : BufTy).Contents (Elt F)),
    StableHlo.binary main_v27 main_arg8 main_v28 ((fun l r => Host.dotGeneral dot_S8x2048x64_S64x32_S8x2048x32_2_0_01_1_n_n none l r) : (⟨S8x2048x64, .f32⟩ : BufTy).Contents (Elt F) → (⟨S64x32, .f32⟩ : BufTy).Contents (Elt F) → (⟨S8x2048x32, .f32⟩ : BufTy).Contents (Elt F)),
    StableHlo.unary main_arg9 main_v29 (broadcastInDim S1x1x32 ![2] bcast_S32_S1x1x32_2 : (⟨S32, .f32⟩ : BufTy).Contents (Elt F) → (⟨S1x1x32, .f32⟩ : BufTy).Contents (Elt F)),
    StableHlo.unary main_v29 main_v30 (broadcastInDim S8x2048x32 ![0, 1, 2] bcast_S1x1x32_S8x2048x32_0_1_2 : (⟨S1x1x32, .f32⟩ : BufTy).Contents (Elt F) → (⟨S8x2048x32, .f32⟩ : BufTy).Contents (Elt F)),
    StableHlo.binary main_v28 main_v30 main_v31 (addf : (⟨S8x2048x32, .f32⟩ : BufTy).Contents (Elt F) → (⟨S8x2048x32, .f32⟩ : BufTy).Contents (Elt F) → (⟨S8x2048x32, .f32⟩ : BufTy).Contents (Elt F)),
    StableHlo.nullary main_cst_2 (constant S_ .f32 0x00000000#32),
    StableHlo.binary main_v31 main_cst_2 main_v32 ((fun x v => Host.reduceAdd x v reducesTo_S8x2048x32_S8x2048_d2 h_S_) : (⟨S8x2048x32, .f32⟩ : BufTy).Contents (Elt F) → (⟨S_, .f32⟩ : BufTy).Contents (Elt F) → (⟨S8x2048, .f32⟩ : BufTy).Contents (Elt F)),
    StableHlo.unary main_v32 main_v33 (broadcastInDim S8x2048x1 ![0, 1] bcast_S8x2048_S8x2048x1_0_1 : (⟨S8x2048, .f32⟩ : BufTy).Contents (Elt F) → (⟨S8x2048x1, .f32⟩ : BufTy).Contents (Elt F)),
    StableHlo.nullary main_cst_3 (constant S_ .f32 0x42000000#32),
    StableHlo.unary main_cst_3 main_v34 (broadcastInDim S8x2048x1 ![] bcast_S_S8x2048x1 : (⟨S_, .f32⟩ : BufTy).Contents (Elt F) → (⟨S8x2048x1, .f32⟩ : BufTy).Contents (Elt F)),
    StableHlo.binary main_v33 main_v34 main_v35 (Host.divf : (⟨S8x2048x1, .f32⟩ : BufTy).Contents (Elt F) → (⟨S8x2048x1, .f32⟩ : BufTy).Contents (Elt F) → (⟨S8x2048x1, .f32⟩ : BufTy).Contents (Elt F)),
    StableHlo.nullary main_c_4 (constantI S_ 32 0#32) ]
/-- Each of these operations touches TensorCore buffers only. -/
theorem hostOps0_4_sub : (hostOps0_4 : List (HloOp τ sig (Elt F))).Forall fun op => op.bufs ⊆ StableHlo.tcRefs τ sig :=
  ⟨StableHlo.binary_bufs_sub .., StableHlo.unary_bufs_sub .., StableHlo.unary_bufs_sub .., StableHlo.binary_bufs_sub .., StableHlo.binary_bufs_sub .., StableHlo.unary_bufs_sub .., StableHlo.unary_bufs_sub .., StableHlo.binary_bufs_sub .., StableHlo.nullary_bufs_sub .., StableHlo.binary_bufs_sub .., StableHlo.unary_bufs_sub .., StableHlo.nullary_bufs_sub .., StableHlo.unary_bufs_sub .., StableHlo.binary_bufs_sub .., StableHlo.nullary_bufs_sub ..⟩
/-- A stretch of `_var_0`, 23 operations. -/
abbrev hostOps0_5 : List (HloOp τ sig (Elt F)) :=
  [ StableHlo.TRef.nullary (.of main_call2_cst : StableHlo.TRef sig ⟨S_, .f32⟩) (constant S_ .f32 0x00000000#32),
    StableHlo.TRef.binary (.of main_v31 : StableHlo.TRef sig ⟨S8x2048x32, .f32⟩) (.of main_call2_cst : StableHlo.TRef sig ⟨S_, .f32⟩) (.of main_call2_v0 : StableHlo.TRef sig ⟨S8x2048, .f32⟩) (fun x v => Host.reduceAdd x v reducesTo_S8x2048x32_S8x2048_d2 h_S_),
    StableHlo.TRef.unary (.of main_call2_v0 : StableHlo.TRef sig ⟨S8x2048, .f32⟩) (.of main_call2_v1 : StableHlo.TRef sig ⟨S8x2048x1, .f32⟩) (broadcastInDim S8x2048x1 ![0, 1] bcast_S8x2048_S8x2048x1_0_1),
    StableHlo.TRef.nullary (.of main_call2_cst_0 : StableHlo.TRef sig ⟨S_, .f32⟩) (constant S_ .f32 0x42000000#32),
    StableHlo.TRef.unary (.of main_call2_cst_0 : StableHlo.TRef sig ⟨S_, .f32⟩) (.of main_call2_v2 : StableHlo.TRef sig ⟨S8x2048x1, .f32⟩) (broadcastInDim S8x2048x1 ![] bcast_S_S8x2048x1),
    StableHlo.TRef.binary (.of main_call2_v1 : StableHlo.TRef sig ⟨S8x2048x1, .f32⟩) (.of main_call2_v2 : StableHlo.TRef sig ⟨S8x2048x1, .f32⟩) (.of main_call2_v3 : StableHlo.TRef sig ⟨S8x2048x1, .f32⟩) Host.divf,
    StableHlo.TRef.unary (.of main_call2_v3 : StableHlo.TRef sig ⟨S8x2048x1, .f32⟩) (.of main_call2_v4 : StableHlo.TRef sig ⟨S8x2048x32, .f32⟩) (broadcastInDim S8x2048x32 ![0, 1, 2] bcast_S8x2048x1_S8x2048x32_0_1_2),
    StableHlo.TRef.binary (.of main_v31 : StableHlo.TRef sig ⟨S8x2048x32, .f32⟩) (.of main_call2_v4 : StableHlo.TRef sig ⟨S8x2048x32, .f32⟩) (.of main_call2_v5 : StableHlo.TRef sig ⟨S8x2048x32, .f32⟩) subf,
    StableHlo.TRef.binary (.of main_call2_v5 : StableHlo.TRef sig ⟨S8x2048x32, .f32⟩) (.of main_call2_v5 : StableHlo.TRef sig ⟨S8x2048x32, .f32⟩) (.of main_call2_v6 : StableHlo.TRef sig ⟨S8x2048x32, .f32⟩) mulf,
    StableHlo.TRef.unary (.of main_c_4 : StableHlo.TRef sig ⟨S_, .i32⟩) (.of main_call2_v7 : StableHlo.TRef sig ⟨S_, .f32⟩) (sitofp .f32),
    StableHlo.TRef.nullary (.of main_call2_cst_1 : StableHlo.TRef sig ⟨S_, .f32⟩) (constant S_ .f32 0x42000000#32),
    StableHlo.TRef.binary (.of main_call2_cst_1 : StableHlo.TRef sig ⟨S_, .f32⟩) (.of main_call2_v7 : StableHlo.TRef sig ⟨S_, .f32⟩) (.of main_call2_v8 : StableHlo.TRef sig ⟨S_, .f32⟩) subf,
    StableHlo.TRef.nullary (.of main_call2_cst_2 : StableHlo.TRef sig ⟨S_, .f32⟩) (constant S_ .f32 0x00000000#32),
    StableHlo.TRef.binary (.of main_call2_v6 : StableHlo.TRef sig ⟨S8x2048x32, .f32⟩) (.of main_call2_cst_2 : StableHlo.TRef sig ⟨S_, .f32⟩) (.of main_call2_v9 : StableHlo.TRef sig ⟨S8x2048, .f32⟩) (fun x v => Host.reduceAdd x v reducesTo_S8x2048x32_S8x2048_d2 h_S_),
    StableHlo.TRef.unary (.of main_call2_v9 : StableHlo.TRef sig ⟨S8x2048, .f32⟩) (.of main_call2_v10 : StableHlo.TRef sig ⟨S8x2048x1, .f32⟩) (broadcastInDim S8x2048x1 ![0, 1] bcast_S8x2048_S8x2048x1_0_1),
    StableHlo.TRef.unary (.of main_call2_v8 : StableHlo.TRef sig ⟨S_, .f32⟩) (.of main_call2_v11 : StableHlo.TRef sig ⟨S8x2048x1, .f32⟩) (broadcastInDim S8x2048x1 ![] bcast_S_S8x2048x1),
    StableHlo.TRef.binary (.of main_call2_v10 : StableHlo.TRef sig ⟨S8x2048x1, .f32⟩) (.of main_call2_v11 : StableHlo.TRef sig ⟨S8x2048x1, .f32⟩) (.of main_call2_v12 : StableHlo.TRef sig ⟨S8x2048x1, .f32⟩) Host.divf,
    StableHlo.TRef.nullary (.of main_call2_cst_3 : StableHlo.TRef sig ⟨S_, .f32⟩) (constant S_ .f32 0x00000000#32),
    StableHlo.TRef.binary (.of main_call2_v8 : StableHlo.TRef sig ⟨S_, .f32⟩) (.of main_call2_cst_3 : StableHlo.TRef sig ⟨S_, .f32⟩) (.of main_call2_v13 : StableHlo.TRef sig ⟨S_, .i1⟩) (cmpf .ogt),
    StableHlo.TRef.nullary (.of main_call2_cst_4 : StableHlo.TRef sig ⟨S_, .f32⟩) (constant S_ .f32 0x7FC00000#32),
    StableHlo.TRef.unary (.of main_call2_cst_4 : StableHlo.TRef sig ⟨S_, .f32⟩) (.of main_call2_call0_v0 : StableHlo.TRef sig ⟨S_, .f32⟩) id,
    StableHlo.TRef.unary (.of main_call2_call0_v0 : StableHlo.TRef sig ⟨S_, .f32⟩) (.of main_call2_call0_v1 : StableHlo.TRef sig ⟨S8x2048x1, .f32⟩) (broadcastInDim S8x2048x1 ![] bcast_S_S8x2048x1),
    StableHlo.TRef.ternary (.of main_call2_v13 : StableHlo.TRef sig ⟨S_, .i1⟩) (.of main_call2_v12 : StableHlo.TRef sig ⟨S8x2048x1, .f32⟩) (.of main_call2_call0_v1 : StableHlo.TRef sig ⟨S8x2048x1, .f32⟩) (.of main_v36 : StableHlo.TRef sig ⟨S8x2048x1, .f32⟩) (fun p a b => select (broadcastInDim S8x2048x1 ![] bcast_S_S8x2048x1 p) a b) ]
/-- Each of these operations touches TensorCore buffers only. -/
theorem hostOps0_5_sub : (hostOps0_5 : List (HloOp τ sig (Elt F))).Forall fun op => op.bufs ⊆ StableHlo.tcRefs τ sig :=
  ⟨StableHlo.nullary_bufs_sub .., StableHlo.binary_bufs_sub .., StableHlo.unary_bufs_sub .., StableHlo.nullary_bufs_sub .., StableHlo.unary_bufs_sub .., StableHlo.binary_bufs_sub .., StableHlo.unary_bufs_sub .., StableHlo.binary_bufs_sub .., StableHlo.binary_bufs_sub .., StableHlo.unary_bufs_sub .., StableHlo.nullary_bufs_sub .., StableHlo.binary_bufs_sub .., StableHlo.nullary_bufs_sub .., StableHlo.binary_bufs_sub .., StableHlo.unary_bufs_sub .., StableHlo.unary_bufs_sub .., StableHlo.binary_bufs_sub .., StableHlo.nullary_bufs_sub .., StableHlo.binary_bufs_sub .., StableHlo.nullary_bufs_sub .., StableHlo.unary_bufs_sub .., StableHlo.unary_bufs_sub .., StableHlo.ternary_bufs_sub ..⟩
/-- A stretch of `main`, 14 operations. -/
abbrev hostOps0_6 : List (HloOp τ sig (Elt F)) :=
  [ StableHlo.unary main_v35 main_v37 (broadcastInDim S8x2048x32 ![0, 1, 2] bcast_S8x2048x1_S8x2048x32_0_1_2 : (⟨S8x2048x1, .f32⟩ : BufTy).Contents (Elt F) → (⟨S8x2048x32, .f32⟩ : BufTy).Contents (Elt F)),
    StableHlo.binary main_v31 main_v37 main_v38 (subf : (⟨S8x2048x32, .f32⟩ : BufTy).Contents (Elt F) → (⟨S8x2048x32, .f32⟩ : BufTy).Contents (Elt F) → (⟨S8x2048x32, .f32⟩ : BufTy).Contents (Elt F)),
    StableHlo.nullary main_cst_5 (constant S_ .f32 0x3727C5AC#32),
    StableHlo.unary main_cst_5 main_v39 (broadcastInDim S8x2048x1 ![] bcast_S_S8x2048x1 : (⟨S_, .f32⟩ : BufTy).Contents (Elt F) → (⟨S8x2048x1, .f32⟩ : BufTy).Contents (Elt F)),
    StableHlo.binary main_v36 main_v39 main_v40 (addf : (⟨S8x2048x1, .f32⟩ : BufTy).Contents (Elt F) → (⟨S8x2048x1, .f32⟩ : BufTy).Contents (Elt F) → (⟨S8x2048x1, .f32⟩ : BufTy).Contents (Elt F)),
    StableHlo.unary main_v40 main_v41 (Host.sqrt : (⟨S8x2048x1, .f32⟩ : BufTy).Contents (Elt F) → (⟨S8x2048x1, .f32⟩ : BufTy).Contents (Elt F)),
    StableHlo.unary main_v41 main_v42 (broadcastInDim S8x2048x32 ![0, 1, 2] bcast_S8x2048x1_S8x2048x32_0_1_2 : (⟨S8x2048x1, .f32⟩ : BufTy).Contents (Elt F) → (⟨S8x2048x32, .f32⟩ : BufTy).Contents (Elt F)),
    StableHlo.binary main_v38 main_v42 main_v43 (Host.divf : (⟨S8x2048x32, .f32⟩ : BufTy).Contents (Elt F) → (⟨S8x2048x32, .f32⟩ : BufTy).Contents (Elt F) → (⟨S8x2048x32, .f32⟩ : BufTy).Contents (Elt F)),
    StableHlo.unary main_arg10 main_v44 (broadcastInDim S1x1x32 ![2] bcast_S32_S1x1x32_2 : (⟨S32, .f32⟩ : BufTy).Contents (Elt F) → (⟨S1x1x32, .f32⟩ : BufTy).Contents (Elt F)),
    StableHlo.unary main_v44 main_v45 (broadcastInDim S8x2048x32 ![0, 1, 2] bcast_S1x1x32_S8x2048x32_0_1_2 : (⟨S1x1x32, .f32⟩ : BufTy).Contents (Elt F) → (⟨S8x2048x32, .f32⟩ : BufTy).Contents (Elt F)),
    StableHlo.binary main_v43 main_v45 main_v46 (mulf : (⟨S8x2048x32, .f32⟩ : BufTy).Contents (Elt F) → (⟨S8x2048x32, .f32⟩ : BufTy).Contents (Elt F) → (⟨S8x2048x32, .f32⟩ : BufTy).Contents (Elt F)),
    StableHlo.unary main_arg11 main_v47 (broadcastInDim S1x1x32 ![2] bcast_S32_S1x1x32_2 : (⟨S32, .f32⟩ : BufTy).Contents (Elt F) → (⟨S1x1x32, .f32⟩ : BufTy).Contents (Elt F)),
    StableHlo.unary main_v47 main_v48 (broadcastInDim S8x2048x32 ![0, 1, 2] bcast_S1x1x32_S8x2048x32_0_1_2 : (⟨S1x1x32, .f32⟩ : BufTy).Contents (Elt F) → (⟨S8x2048x32, .f32⟩ : BufTy).Contents (Elt F)),
    StableHlo.binary main_v46 main_v48 main_v49 (addf : (⟨S8x2048x32, .f32⟩ : BufTy).Contents (Elt F) → (⟨S8x2048x32, .f32⟩ : BufTy).Contents (Elt F) → (⟨S8x2048x32, .f32⟩ : BufTy).Contents (Elt F)) ]
/-- Each of these operations touches TensorCore buffers only. -/
theorem hostOps0_6_sub : (hostOps0_6 : List (HloOp τ sig (Elt F))).Forall fun op => op.bufs ⊆ StableHlo.tcRefs τ sig :=
  ⟨StableHlo.unary_bufs_sub .., StableHlo.binary_bufs_sub .., StableHlo.nullary_bufs_sub .., StableHlo.unary_bufs_sub .., StableHlo.binary_bufs_sub .., StableHlo.unary_bufs_sub .., StableHlo.unary_bufs_sub .., StableHlo.binary_bufs_sub .., StableHlo.unary_bufs_sub .., StableHlo.unary_bufs_sub .., StableHlo.binary_bufs_sub .., StableHlo.unary_bufs_sub .., StableHlo.unary_bufs_sub .., StableHlo.binary_bufs_sub ..⟩
/-- A stretch of `relu_1`, 3 operations. -/
abbrev hostOps0_7 : List (HloOp τ sig (Elt F)) :=
  [ StableHlo.TRef.nullary (.of main_call3_cst : StableHlo.TRef sig ⟨S_, .f32⟩) (constant S_ .f32 0x00000000#32),
    StableHlo.TRef.unary (.of main_call3_cst : StableHlo.TRef sig ⟨S_, .f32⟩) (.of main_call3_v0 : StableHlo.TRef sig ⟨S8x2048x32, .f32⟩) (broadcastInDim S8x2048x32 ![] bcast_S_S8x2048x32),
    StableHlo.TRef.binary (.of main_v49 : StableHlo.TRef sig ⟨S8x2048x32, .f32⟩) (.of main_call3_v0 : StableHlo.TRef sig ⟨S8x2048x32, .f32⟩) (.of main_v50 : StableHlo.TRef sig ⟨S8x2048x32, .f32⟩) maximumf ]
/-- Each of these operations touches TensorCore buffers only. -/
theorem hostOps0_7_sub : (hostOps0_7 : List (HloOp τ sig (Elt F))).Forall fun op => op.bufs ⊆ StableHlo.tcRefs τ sig :=
  ⟨StableHlo.nullary_bufs_sub .., StableHlo.unary_bufs_sub .., StableHlo.binary_bufs_sub ..⟩
/-- A stretch of `main`, 15 operations. -/
abbrev hostOps0_8 : List (HloOp τ sig (Elt F)) :=
  [ StableHlo.binary main_v50 main_arg12 main_v51 ((fun l r => Host.dotGeneral dot_S8x2048x32_S32x1_S8x2048x1_2_0_01_1_n_n none l r) : (⟨S8x2048x32, .f32⟩ : BufTy).Contents (Elt F) → (⟨S32x1, .f32⟩ : BufTy).Contents (Elt F) → (⟨S8x2048x1, .f32⟩ : BufTy).Contents (Elt F)),
    StableHlo.unary main_arg13 main_v52 (broadcastInDim S1x1x1 ![2] bcast_S1_S1x1x1_2 : (⟨S1, .f32⟩ : BufTy).Contents (Elt F) → (⟨S1x1x1, .f32⟩ : BufTy).Contents (Elt F)),
    StableHlo.unary main_v52 main_v53 (broadcastInDim S8x2048x1 ![0, 1, 2] bcast_S1x1x1_S8x2048x1_0_1_2 : (⟨S1x1x1, .f32⟩ : BufTy).Contents (Elt F) → (⟨S8x2048x1, .f32⟩ : BufTy).Contents (Elt F)),
    StableHlo.binary main_v51 main_v53 main_v54 (addf : (⟨S8x2048x1, .f32⟩ : BufTy).Contents (Elt F) → (⟨S8x2048x1, .f32⟩ : BufTy).Contents (Elt F) → (⟨S8x2048x1, .f32⟩ : BufTy).Contents (Elt F)),
    StableHlo.reshape main_v54 main_v55 (rfl : (.f32 : EltTy) = .f32) shapeCasts_S8x2048x1_S8x2048,
    StableHlo.unary main_v55 main_v56 (broadcastInDim S8x1x2048 ![0, 2] bcast_S8x2048_S8x1x2048_0_2 : (⟨S8x2048, .f32⟩ : BufTy).Contents (Elt F) → (⟨S8x1x2048, .f32⟩ : BufTy).Contents (Elt F)),
    StableHlo.nullary main_cst_6 (constant S_ .f32 0x00000000#32),
    StableHlo.unary main_cst_6 main_v57 (broadcastInDim S8x1x2048 ![] bcast_S_S8x1x2048 : (⟨S_, .f32⟩ : BufTy).Contents (Elt F) → (⟨S8x1x2048, .f32⟩ : BufTy).Contents (Elt F)),
    StableHlo.nullary main_cst_7 (constant S_ .f32 0x00000000#32),
    StableHlo.unary main_cst_7 main_v58 (broadcastInDim S1024x8x1x2048 ![] bcast_S_S1024x8x1x2048 : (⟨S_, .f32⟩ : BufTy).Contents (Elt F) → (⟨S1024x8x1x2048, .f32⟩ : BufTy).Contents (Elt F)),
    StableHlo.nullary main_c_8 (constantI S_ 32 0#32),
    StableHlo.unary main_c_8 main_v59_0 id,
    StableHlo.unary main_v56 main_v59_1 id,
    StableHlo.unary main_v57 main_v59_2 id,
    StableHlo.unary main_v58 main_v59_3 id ]
/-- Each of these operations touches TensorCore buffers only. -/
theorem hostOps0_8_sub : (hostOps0_8 : List (HloOp τ sig (Elt F))).Forall fun op => op.bufs ⊆ StableHlo.tcRefs τ sig :=
  ⟨StableHlo.binary_bufs_sub .., StableHlo.unary_bufs_sub .., StableHlo.unary_bufs_sub .., StableHlo.binary_bufs_sub .., StableHlo.reshape_bufs_sub .., StableHlo.unary_bufs_sub .., StableHlo.nullary_bufs_sub .., StableHlo.unary_bufs_sub .., StableHlo.nullary_bufs_sub .., StableHlo.unary_bufs_sub .., StableHlo.nullary_bufs_sub .., StableHlo.unary_bufs_sub .., StableHlo.unary_bufs_sub .., StableHlo.unary_bufs_sub .., StableHlo.unary_bufs_sub ..⟩
/-- A stretch of `main`, 5 operations. -/
abbrev hostOps0_9 : List (HloOp τ sig (Elt F)) :=
  [ StableHlo.reshape main_v59_3 main_v60 (rfl : (.f32 : EltTy) = .f32) shapeCasts_S1024x8x1x2048_S1024x8x2048,
    StableHlo.unary main_v60 main_v61 ((transpose S8x1024x2048 [1, 0, 2] · transposes_S1024x8x2048_S8x1024x2048_1_0_2) : (⟨S1024x8x2048, .f32⟩ : BufTy).Contents (Elt F) → (⟨S8x1024x2048, .f32⟩ : BufTy).Contents (Elt F)),
    StableHlo.binary main_v61 main_arg0 main_v62 ((fun l r => Host.dotGeneral dot_S8x1024x2048_S8x2048x3_S8x1024x3_2_1_1_2_0_0 none l r) : (⟨S8x1024x2048, .f32⟩ : BufTy).Contents (Elt F) → (⟨S8x2048x3, .f32⟩ : BufTy).Contents (Elt F) → (⟨S8x1024x3, .f32⟩ : BufTy).Contents (Elt F)),
    StableHlo.binary main_v61 main_v27 main_v63 ((fun l r => Host.dotGeneral dot_S8x1024x2048_S8x2048x64_S8x1024x64_2_1_1_2_0_0 none l r) : (⟨S8x1024x2048, .f32⟩ : BufTy).Contents (Elt F) → (⟨S8x2048x64, .f32⟩ : BufTy).Contents (Elt F) → (⟨S8x1024x64, .f32⟩ : BufTy).Contents (Elt F)),
    StableHlo.unary main_v63 main_v64 ((transpose S8x64x1024 [0, 2, 1] · transposes_S8x1024x64_S8x64x1024_0_2_1) : (⟨S8x1024x64, .f32⟩ : BufTy).Contents (Elt F) → (⟨S8x64x1024, .f32⟩ : BufTy).Contents (Elt F)) ]
/-- Each of these operations touches TensorCore buffers only. -/
theorem hostOps0_9_sub : (hostOps0_9 : List (HloOp τ sig (Elt F))).Forall fun op => op.bufs ⊆ StableHlo.tcRefs τ sig :=
  ⟨StableHlo.reshape_bufs_sub .., StableHlo.unary_bufs_sub .., StableHlo.binary_bufs_sub .., StableHlo.binary_bufs_sub .., StableHlo.unary_bufs_sub ..⟩
/-- A stretch of `argmax_2`, 5 operations. -/
abbrev hostOps0_10 : List (HloOp τ sig (Elt F)) :=
  [ StableHlo.TRef.nullary (.of main_call8_v0 : StableHlo.TRef sig ⟨S8x1024x2048, .i32⟩) (iotaInDim S8x1024x2048 32 2),
    StableHlo.TRef.nullary (.of main_call8_cst : StableHlo.TRef sig ⟨S_, .f32⟩) (constant S_ .f32 0xFF800000#32),
    StableHlo.TRef.nullary (.of main_call8_c : StableHlo.TRef sig ⟨S_, .i32⟩) (constantI S_ 32 0#32),
    StableHlo.TRef.quaternary (.of main_v61 : StableHlo.TRef sig ⟨S8x1024x2048, .f32⟩) (.of main_call8_v0 : StableHlo.TRef sig ⟨S8x1024x2048, .i32⟩) (.of main_call8_cst : StableHlo.TRef sig ⟨S_, .f32⟩) (.of main_call8_c : StableHlo.TRef sig ⟨S_, .i32⟩) (.of main_call8_v1_0 : StableHlo.TRef sig ⟨S8x1024, .f32⟩) (fun x y u v j => (Host.argReduce reducer_argmax_f32_i32 x y u v reducesTo_S8x1024x2048_S8x1024_d2 h_S_ j).1),
    StableHlo.TRef.quaternary (.of main_v61 : StableHlo.TRef sig ⟨S8x1024x2048, .f32⟩) (.of main_call8_v0 : StableHlo.TRef sig ⟨S8x1024x2048, .i32⟩) (.of main_call8_cst : StableHlo.TRef sig ⟨S_, .f32⟩) (.of main_call8_c : StableHlo.TRef sig ⟨S_, .i32⟩) (.of main_v65 : StableHlo.TRef sig ⟨S8x1024, .i32⟩) (fun x y u v j => (Host.argReduce reducer_argmax_f32_i32 x y u v reducesTo_S8x1024x2048_S8x1024_d2 h_S_ j).2) ]
/-- Each of these operations touches TensorCore buffers only. -/
theorem hostOps0_10_sub : (hostOps0_10 : List (HloOp τ sig (Elt F))).Forall fun op => op.bufs ⊆ StableHlo.tcRefs τ sig :=
  ⟨StableHlo.nullary_bufs_sub .., StableHlo.nullary_bufs_sub .., StableHlo.nullary_bufs_sub .., StableHlo.quaternary_bufs_sub .., StableHlo.quaternary_bufs_sub ..⟩
/-- Part 0 of the program: 12 operations of `main`. -/
abbrev main_part0_ops0 : List (HloOp τ sig (Elt F)) :=
  [ StableHlo.unary main_arg1 main_v0 ((transpose S8x2048x64 [0, 2, 1] · transposes_S8x64x2048_S8x2048x64_0_2_1) : (⟨S8x64x2048, .f32⟩ : BufTy).Contents (Elt F) → (⟨S8x2048x64, .f32⟩ : BufTy).Contents (Elt F)),
    StableHlo.binary main_v0 main_arg2 main_v1 ((fun l r => Host.dotGeneral dot_S8x2048x64_S64x64_S8x2048x64_2_0_01_1_n_n none l r) : (⟨S8x2048x64, .f32⟩ : BufTy).Contents (Elt F) → (⟨S64x64, .f32⟩ : BufTy).Contents (Elt F) → (⟨S8x2048x64, .f32⟩ : BufTy).Contents (Elt F)),
    StableHlo.unary main_arg3 main_v2 (broadcastInDim S1x1x64 ![2] bcast_S64_S1x1x64_2 : (⟨S64, .f32⟩ : BufTy).Contents (Elt F) → (⟨S1x1x64, .f32⟩ : BufTy).Contents (Elt F)),
    StableHlo.unary main_v2 main_v3 (broadcastInDim S8x2048x64 ![0, 1, 2] bcast_S1x1x64_S8x2048x64_0_1_2 : (⟨S1x1x64, .f32⟩ : BufTy).Contents (Elt F) → (⟨S8x2048x64, .f32⟩ : BufTy).Contents (Elt F)),
    StableHlo.binary main_v1 main_v3 main_v4 (addf : (⟨S8x2048x64, .f32⟩ : BufTy).Contents (Elt F) → (⟨S8x2048x64, .f32⟩ : BufTy).Contents (Elt F) → (⟨S8x2048x64, .f32⟩ : BufTy).Contents (Elt F)),
    StableHlo.nullary main_cst (constant S_ .f32 0x00000000#32),
    StableHlo.binary main_v4 main_cst main_v5 ((fun x v => Host.reduceAdd x v reducesTo_S8x2048x64_S8x2048_d2 h_S_) : (⟨S8x2048x64, .f32⟩ : BufTy).Contents (Elt F) → (⟨S_, .f32⟩ : BufTy).Contents (Elt F) → (⟨S8x2048, .f32⟩ : BufTy).Contents (Elt F)),
    StableHlo.unary main_v5 main_v6 (broadcastInDim S8x2048x1 ![0, 1] bcast_S8x2048_S8x2048x1_0_1 : (⟨S8x2048, .f32⟩ : BufTy).Contents (Elt F) → (⟨S8x2048x1, .f32⟩ : BufTy).Contents (Elt F)),
    StableHlo.nullary main_cst_0 (constant S_ .f32 0x42800000#32),
    StableHlo.unary main_cst_0 main_v7 (broadcastInDim S8x2048x1 ![] bcast_S_S8x2048x1 : (⟨S_, .f32⟩ : BufTy).Contents (Elt F) → (⟨S8x2048x1, .f32⟩ : BufTy).Contents (Elt F)),
    StableHlo.binary main_v6 main_v7 main_v8 (Host.divf : (⟨S8x2048x1, .f32⟩ : BufTy).Contents (Elt F) → (⟨S8x2048x1, .f32⟩ : BufTy).Contents (Elt F) → (⟨S8x2048x1, .f32⟩ : BufTy).Contents (Elt F)),
    StableHlo.nullary main_c (constantI S_ 32 0#32) ]
/-- Each of these operations touches TensorCore buffers only. -/
theorem main_part0_ops0_sub : (main_part0_ops0 : List (HloOp τ sig (Elt F))).Forall fun op => op.bufs ⊆ StableHlo.tcRefs τ sig :=
  ⟨StableHlo.unary_bufs_sub .., StableHlo.binary_bufs_sub .., StableHlo.unary_bufs_sub .., StableHlo.unary_bufs_sub .., StableHlo.binary_bufs_sub .., StableHlo.nullary_bufs_sub .., StableHlo.binary_bufs_sub .., StableHlo.unary_bufs_sub .., StableHlo.nullary_bufs_sub .., StableHlo.unary_bufs_sub .., StableHlo.binary_bufs_sub .., StableHlo.nullary_bufs_sub ..⟩
/-- Part 0 of the program: 23 operations of `_var`. -/
abbrev main_part0_ops1 : List (HloOp τ sig (Elt F)) :=
  [ StableHlo.TRef.nullary (.of main_call0_cst : StableHlo.TRef sig ⟨S_, .f32⟩) (constant S_ .f32 0x00000000#32),
    StableHlo.TRef.binary (.of main_v4 : StableHlo.TRef sig ⟨S8x2048x64, .f32⟩) (.of main_call0_cst : StableHlo.TRef sig ⟨S_, .f32⟩) (.of main_call0_v0 : StableHlo.TRef sig ⟨S8x2048, .f32⟩) (fun x v => Host.reduceAdd x v reducesTo_S8x2048x64_S8x2048_d2 h_S_),
    StableHlo.TRef.unary (.of main_call0_v0 : StableHlo.TRef sig ⟨S8x2048, .f32⟩) (.of main_call0_v1 : StableHlo.TRef sig ⟨S8x2048x1, .f32⟩) (broadcastInDim S8x2048x1 ![0, 1] bcast_S8x2048_S8x2048x1_0_1),
    StableHlo.TRef.nullary (.of main_call0_cst_0 : StableHlo.TRef sig ⟨S_, .f32⟩) (constant S_ .f32 0x42800000#32),
    StableHlo.TRef.unary (.of main_call0_cst_0 : StableHlo.TRef sig ⟨S_, .f32⟩) (.of main_call0_v2 : StableHlo.TRef sig ⟨S8x2048x1, .f32⟩) (broadcastInDim S8x2048x1 ![] bcast_S_S8x2048x1),
    StableHlo.TRef.binary (.of main_call0_v1 : StableHlo.TRef sig ⟨S8x2048x1, .f32⟩) (.of main_call0_v2 : StableHlo.TRef sig ⟨S8x2048x1, .f32⟩) (.of main_call0_v3 : StableHlo.TRef sig ⟨S8x2048x1, .f32⟩) Host.divf,
    StableHlo.TRef.unary (.of main_call0_v3 : StableHlo.TRef sig ⟨S8x2048x1, .f32⟩) (.of main_call0_v4 : StableHlo.TRef sig ⟨S8x2048x64, .f32⟩) (broadcastInDim S8x2048x64 ![0, 1, 2] bcast_S8x2048x1_S8x2048x64_0_1_2),
    StableHlo.TRef.binary (.of main_v4 : StableHlo.TRef sig ⟨S8x2048x64, .f32⟩) (.of main_call0_v4 : StableHlo.TRef sig ⟨S8x2048x64, .f32⟩) (.of main_call0_v5 : StableHlo.TRef sig ⟨S8x2048x64, .f32⟩) subf,
    StableHlo.TRef.binary (.of main_call0_v5 : StableHlo.TRef sig ⟨S8x2048x64, .f32⟩) (.of main_call0_v5 : StableHlo.TRef sig ⟨S8x2048x64, .f32⟩) (.of main_call0_v6 : StableHlo.TRef sig ⟨S8x2048x64, .f32⟩) mulf,
    StableHlo.TRef.unary (.of main_c : StableHlo.TRef sig ⟨S_, .i32⟩) (.of main_call0_v7 : StableHlo.TRef sig ⟨S_, .f32⟩) (sitofp .f32),
    StableHlo.TRef.nullary (.of main_call0_cst_1 : StableHlo.TRef sig ⟨S_, .f32⟩) (constant S_ .f32 0x42800000#32),
    StableHlo.TRef.binary (.of main_call0_cst_1 : StableHlo.TRef sig ⟨S_, .f32⟩) (.of main_call0_v7 : StableHlo.TRef sig ⟨S_, .f32⟩) (.of main_call0_v8 : StableHlo.TRef sig ⟨S_, .f32⟩) subf,
    StableHlo.TRef.nullary (.of main_call0_cst_2 : StableHlo.TRef sig ⟨S_, .f32⟩) (constant S_ .f32 0x00000000#32),
    StableHlo.TRef.binary (.of main_call0_v6 : StableHlo.TRef sig ⟨S8x2048x64, .f32⟩) (.of main_call0_cst_2 : StableHlo.TRef sig ⟨S_, .f32⟩) (.of main_call0_v9 : StableHlo.TRef sig ⟨S8x2048, .f32⟩) (fun x v => Host.reduceAdd x v reducesTo_S8x2048x64_S8x2048_d2 h_S_),
    StableHlo.TRef.unary (.of main_call0_v9 : StableHlo.TRef sig ⟨S8x2048, .f32⟩) (.of main_call0_v10 : StableHlo.TRef sig ⟨S8x2048x1, .f32⟩) (broadcastInDim S8x2048x1 ![0, 1] bcast_S8x2048_S8x2048x1_0_1),
    StableHlo.TRef.unary (.of main_call0_v8 : StableHlo.TRef sig ⟨S_, .f32⟩) (.of main_call0_v11 : StableHlo.TRef sig ⟨S8x2048x1, .f32⟩) (broadcastInDim S8x2048x1 ![] bcast_S_S8x2048x1),
    StableHlo.TRef.binary (.of main_call0_v10 : StableHlo.TRef sig ⟨S8x2048x1, .f32⟩) (.of main_call0_v11 : StableHlo.TRef sig ⟨S8x2048x1, .f32⟩) (.of main_call0_v12 : StableHlo.TRef sig ⟨S8x2048x1, .f32⟩) Host.divf,
    StableHlo.TRef.nullary (.of main_call0_cst_3 : StableHlo.TRef sig ⟨S_, .f32⟩) (constant S_ .f32 0x00000000#32),
    StableHlo.TRef.binary (.of main_call0_v8 : StableHlo.TRef sig ⟨S_, .f32⟩) (.of main_call0_cst_3 : StableHlo.TRef sig ⟨S_, .f32⟩) (.of main_call0_v13 : StableHlo.TRef sig ⟨S_, .i1⟩) (cmpf .ogt),
    StableHlo.TRef.nullary (.of main_call0_cst_4 : StableHlo.TRef sig ⟨S_, .f32⟩) (constant S_ .f32 0x7FC00000#32),
    StableHlo.TRef.unary (.of main_call0_cst_4 : StableHlo.TRef sig ⟨S_, .f32⟩) (.of main_call0_call0_v0 : StableHlo.TRef sig ⟨S_, .f32⟩) id,
    StableHlo.TRef.unary (.of main_call0_call0_v0 : StableHlo.TRef sig ⟨S_, .f32⟩) (.of main_call0_call0_v1 : StableHlo.TRef sig ⟨S8x2048x1, .f32⟩) (broadcastInDim S8x2048x1 ![] bcast_S_S8x2048x1),
    StableHlo.TRef.ternary (.of main_call0_v13 : StableHlo.TRef sig ⟨S_, .i1⟩) (.of main_call0_v12 : StableHlo.TRef sig ⟨S8x2048x1, .f32⟩) (.of main_call0_call0_v1 : StableHlo.TRef sig ⟨S8x2048x1, .f32⟩) (.of main_v9 : StableHlo.TRef sig ⟨S8x2048x1, .f32⟩) (fun p a b => select (broadcastInDim S8x2048x1 ![] bcast_S_S8x2048x1 p) a b) ]
/-- Each of these operations touches TensorCore buffers only. -/
theorem main_part0_ops1_sub : (main_part0_ops1 : List (HloOp τ sig (Elt F))).Forall fun op => op.bufs ⊆ StableHlo.tcRefs τ sig :=
  ⟨StableHlo.nullary_bufs_sub .., StableHlo.binary_bufs_sub .., StableHlo.unary_bufs_sub .., StableHlo.nullary_bufs_sub .., StableHlo.unary_bufs_sub .., StableHlo.binary_bufs_sub .., StableHlo.unary_bufs_sub .., StableHlo.binary_bufs_sub .., StableHlo.binary_bufs_sub .., StableHlo.unary_bufs_sub .., StableHlo.nullary_bufs_sub .., StableHlo.binary_bufs_sub .., StableHlo.nullary_bufs_sub .., StableHlo.binary_bufs_sub .., StableHlo.unary_bufs_sub .., StableHlo.unary_bufs_sub .., StableHlo.binary_bufs_sub .., StableHlo.nullary_bufs_sub .., StableHlo.binary_bufs_sub .., StableHlo.nullary_bufs_sub .., StableHlo.unary_bufs_sub .., StableHlo.unary_bufs_sub .., StableHlo.ternary_bufs_sub ..⟩
/-- Part 0 of the program: 14 operations of `main`. -/
abbrev main_part0_ops2 : List (HloOp τ sig (Elt F)) :=
  [ StableHlo.unary main_v8 main_v10 (broadcastInDim S8x2048x64 ![0, 1, 2] bcast_S8x2048x1_S8x2048x64_0_1_2 : (⟨S8x2048x1, .f32⟩ : BufTy).Contents (Elt F) → (⟨S8x2048x64, .f32⟩ : BufTy).Contents (Elt F)),
    StableHlo.binary main_v4 main_v10 main_v11 (subf : (⟨S8x2048x64, .f32⟩ : BufTy).Contents (Elt F) → (⟨S8x2048x64, .f32⟩ : BufTy).Contents (Elt F) → (⟨S8x2048x64, .f32⟩ : BufTy).Contents (Elt F)),
    StableHlo.nullary main_cst_1 (constant S_ .f32 0x3727C5AC#32),
    StableHlo.unary main_cst_1 main_v12 (broadcastInDim S8x2048x1 ![] bcast_S_S8x2048x1 : (⟨S_, .f32⟩ : BufTy).Contents (Elt F) → (⟨S8x2048x1, .f32⟩ : BufTy).Contents (Elt F)),
    StableHlo.binary main_v9 main_v12 main_v13 (addf : (⟨S8x2048x1, .f32⟩ : BufTy).Contents (Elt F) → (⟨S8x2048x1, .f32⟩ : BufTy).Contents (Elt F) → (⟨S8x2048x1, .f32⟩ : BufTy).Contents (Elt F)),
    StableHlo.unary main_v13 main_v14 (Host.sqrt : (⟨S8x2048x1, .f32⟩ : BufTy).Contents (Elt F) → (⟨S8x2048x1, .f32⟩ : BufTy).Contents (Elt F)),
    StableHlo.unary main_v14 main_v15 (broadcastInDim S8x2048x64 ![0, 1, 2] bcast_S8x2048x1_S8x2048x64_0_1_2 : (⟨S8x2048x1, .f32⟩ : BufTy).Contents (Elt F) → (⟨S8x2048x64, .f32⟩ : BufTy).Contents (Elt F)),
    StableHlo.binary main_v11 main_v15 main_v16 (Host.divf : (⟨S8x2048x64, .f32⟩ : BufTy).Contents (Elt F) → (⟨S8x2048x64, .f32⟩ : BufTy).Contents (Elt F) → (⟨S8x2048x64, .f32⟩ : BufTy).Contents (Elt F)),
    StableHlo.unary main_arg4 main_v17 (broadcastInDim S1x1x64 ![2] bcast_S64_S1x1x64_2 : (⟨S64, .f32⟩ : BufTy).Contents (Elt F) → (⟨S1x1x64, .f32⟩ : BufTy).Contents (Elt F)),
    StableHlo.unary main_v17 main_v18 (broadcastInDim S8x2048x64 ![0, 1, 2] bcast_S1x1x64_S8x2048x64_0_1_2 : (⟨S1x1x64, .f32⟩ : BufTy).Contents (Elt F) → (⟨S8x2048x64, .f32⟩ : BufTy).Contents (Elt F)),
    StableHlo.binary main_v16 main_v18 main_v19 (mulf : (⟨S8x2048x64, .f32⟩ : BufTy).Contents (Elt F) → (⟨S8x2048x64, .f32⟩ : BufTy).Contents (Elt F) → (⟨S8x2048x64, .f32⟩ : BufTy).Contents (Elt F)),
    StableHlo.unary main_arg5 main_v20 (broadcastInDim S1x1x64 ![2] bcast_S64_S1x1x64_2 : (⟨S64, .f32⟩ : BufTy).Contents (Elt F) → (⟨S1x1x64, .f32⟩ : BufTy).Contents (Elt F)),
    StableHlo.unary main_v20 main_v21 (broadcastInDim S8x2048x64 ![0, 1, 2] bcast_S1x1x64_S8x2048x64_0_1_2 : (⟨S1x1x64, .f32⟩ : BufTy).Contents (Elt F) → (⟨S8x2048x64, .f32⟩ : BufTy).Contents (Elt F)),
    StableHlo.binary main_v19 main_v21 main_v22 (addf : (⟨S8x2048x64, .f32⟩ : BufTy).Contents (Elt F) → (⟨S8x2048x64, .f32⟩ : BufTy).Contents (Elt F) → (⟨S8x2048x64, .f32⟩ : BufTy).Contents (Elt F)) ]
/-- Each of these operations touches TensorCore buffers only. -/
theorem main_part0_ops2_sub : (main_part0_ops2 : List (HloOp τ sig (Elt F))).Forall fun op => op.bufs ⊆ StableHlo.tcRefs τ sig :=
  ⟨StableHlo.unary_bufs_sub .., StableHlo.binary_bufs_sub .., StableHlo.nullary_bufs_sub .., StableHlo.unary_bufs_sub .., StableHlo.binary_bufs_sub .., StableHlo.unary_bufs_sub .., StableHlo.unary_bufs_sub .., StableHlo.binary_bufs_sub .., StableHlo.unary_bufs_sub .., StableHlo.unary_bufs_sub .., StableHlo.binary_bufs_sub .., StableHlo.unary_bufs_sub .., StableHlo.unary_bufs_sub .., StableHlo.binary_bufs_sub ..⟩
/-- Part 0 of the program: 3 operations of `relu`. -/
abbrev main_part0_ops3 : List (HloOp τ sig (Elt F)) :=
  [ StableHlo.TRef.nullary (.of main_call1_cst : StableHlo.TRef sig ⟨S_, .f32⟩) (constant S_ .f32 0x00000000#32),
    StableHlo.TRef.unary (.of main_call1_cst : StableHlo.TRef sig ⟨S_, .f32⟩) (.of main_call1_v0 : StableHlo.TRef sig ⟨S8x2048x64, .f32⟩) (broadcastInDim S8x2048x64 ![] bcast_S_S8x2048x64),
    StableHlo.TRef.binary (.of main_v22 : StableHlo.TRef sig ⟨S8x2048x64, .f32⟩) (.of main_call1_v0 : StableHlo.TRef sig ⟨S8x2048x64, .f32⟩) (.of main_v23 : StableHlo.TRef sig ⟨S8x2048x64, .f32⟩) maximumf ]
/-- Each of these operations touches TensorCore buffers only. -/
theorem main_part0_ops3_sub : (main_part0_ops3 : List (HloOp τ sig (Elt F))).Forall fun op => op.bufs ⊆ StableHlo.tcRefs τ sig :=
  ⟨StableHlo.nullary_bufs_sub .., StableHlo.unary_bufs_sub .., StableHlo.binary_bufs_sub ..⟩
/-- Part 0 of the program: 15 operations of `main`. -/
abbrev main_part0_ops4 : List (HloOp τ sig (Elt F)) :=
  [ StableHlo.binary main_v23 main_arg6 main_v24 ((fun l r => Host.dotGeneral dot_S8x2048x64_S64x64_S8x2048x64_2_0_01_1_n_n none l r) : (⟨S8x2048x64, .f32⟩ : BufTy).Contents (Elt F) → (⟨S64x64, .f32⟩ : BufTy).Contents (Elt F) → (⟨S8x2048x64, .f32⟩ : BufTy).Contents (Elt F)),
    StableHlo.unary main_arg7 main_v25 (broadcastInDim S1x1x64 ![2] bcast_S64_S1x1x64_2 : (⟨S64, .f32⟩ : BufTy).Contents (Elt F) → (⟨S1x1x64, .f32⟩ : BufTy).Contents (Elt F)),
    StableHlo.unary main_v25 main_v26 (broadcastInDim S8x2048x64 ![0, 1, 2] bcast_S1x1x64_S8x2048x64_0_1_2 : (⟨S1x1x64, .f32⟩ : BufTy).Contents (Elt F) → (⟨S8x2048x64, .f32⟩ : BufTy).Contents (Elt F)),
    StableHlo.binary main_v24 main_v26 main_v27 (addf : (⟨S8x2048x64, .f32⟩ : BufTy).Contents (Elt F) → (⟨S8x2048x64, .f32⟩ : BufTy).Contents (Elt F) → (⟨S8x2048x64, .f32⟩ : BufTy).Contents (Elt F)),
    StableHlo.binary main_v27 main_arg8 main_v28 ((fun l r => Host.dotGeneral dot_S8x2048x64_S64x32_S8x2048x32_2_0_01_1_n_n none l r) : (⟨S8x2048x64, .f32⟩ : BufTy).Contents (Elt F) → (⟨S64x32, .f32⟩ : BufTy).Contents (Elt F) → (⟨S8x2048x32, .f32⟩ : BufTy).Contents (Elt F)),
    StableHlo.unary main_arg9 main_v29 (broadcastInDim S1x1x32 ![2] bcast_S32_S1x1x32_2 : (⟨S32, .f32⟩ : BufTy).Contents (Elt F) → (⟨S1x1x32, .f32⟩ : BufTy).Contents (Elt F)),
    StableHlo.unary main_v29 main_v30 (broadcastInDim S8x2048x32 ![0, 1, 2] bcast_S1x1x32_S8x2048x32_0_1_2 : (⟨S1x1x32, .f32⟩ : BufTy).Contents (Elt F) → (⟨S8x2048x32, .f32⟩ : BufTy).Contents (Elt F)),
    StableHlo.binary main_v28 main_v30 main_v31 (addf : (⟨S8x2048x32, .f32⟩ : BufTy).Contents (Elt F) → (⟨S8x2048x32, .f32⟩ : BufTy).Contents (Elt F) → (⟨S8x2048x32, .f32⟩ : BufTy).Contents (Elt F)),
    StableHlo.nullary main_cst_2 (constant S_ .f32 0x00000000#32),
    StableHlo.binary main_v31 main_cst_2 main_v32 ((fun x v => Host.reduceAdd x v reducesTo_S8x2048x32_S8x2048_d2 h_S_) : (⟨S8x2048x32, .f32⟩ : BufTy).Contents (Elt F) → (⟨S_, .f32⟩ : BufTy).Contents (Elt F) → (⟨S8x2048, .f32⟩ : BufTy).Contents (Elt F)),
    StableHlo.unary main_v32 main_v33 (broadcastInDim S8x2048x1 ![0, 1] bcast_S8x2048_S8x2048x1_0_1 : (⟨S8x2048, .f32⟩ : BufTy).Contents (Elt F) → (⟨S8x2048x1, .f32⟩ : BufTy).Contents (Elt F)),
    StableHlo.nullary main_cst_3 (constant S_ .f32 0x42000000#32),
    StableHlo.unary main_cst_3 main_v34 (broadcastInDim S8x2048x1 ![] bcast_S_S8x2048x1 : (⟨S_, .f32⟩ : BufTy).Contents (Elt F) → (⟨S8x2048x1, .f32⟩ : BufTy).Contents (Elt F)),
    StableHlo.binary main_v33 main_v34 main_v35 (Host.divf : (⟨S8x2048x1, .f32⟩ : BufTy).Contents (Elt F) → (⟨S8x2048x1, .f32⟩ : BufTy).Contents (Elt F) → (⟨S8x2048x1, .f32⟩ : BufTy).Contents (Elt F)),
    StableHlo.nullary main_c_4 (constantI S_ 32 0#32) ]
/-- Each of these operations touches TensorCore buffers only. -/
theorem main_part0_ops4_sub : (main_part0_ops4 : List (HloOp τ sig (Elt F))).Forall fun op => op.bufs ⊆ StableHlo.tcRefs τ sig :=
  ⟨StableHlo.binary_bufs_sub .., StableHlo.unary_bufs_sub .., StableHlo.unary_bufs_sub .., StableHlo.binary_bufs_sub .., StableHlo.binary_bufs_sub .., StableHlo.unary_bufs_sub .., StableHlo.unary_bufs_sub .., StableHlo.binary_bufs_sub .., StableHlo.nullary_bufs_sub .., StableHlo.binary_bufs_sub .., StableHlo.unary_bufs_sub .., StableHlo.nullary_bufs_sub .., StableHlo.unary_bufs_sub .., StableHlo.binary_bufs_sub .., StableHlo.nullary_bufs_sub ..⟩
/-- Part 0 of the program: 23 operations of `_var_0`. -/
abbrev main_part0_ops5 : List (HloOp τ sig (Elt F)) :=
  [ StableHlo.TRef.nullary (.of main_call2_cst : StableHlo.TRef sig ⟨S_, .f32⟩) (constant S_ .f32 0x00000000#32),
    StableHlo.TRef.binary (.of main_v31 : StableHlo.TRef sig ⟨S8x2048x32, .f32⟩) (.of main_call2_cst : StableHlo.TRef sig ⟨S_, .f32⟩) (.of main_call2_v0 : StableHlo.TRef sig ⟨S8x2048, .f32⟩) (fun x v => Host.reduceAdd x v reducesTo_S8x2048x32_S8x2048_d2 h_S_),
    StableHlo.TRef.unary (.of main_call2_v0 : StableHlo.TRef sig ⟨S8x2048, .f32⟩) (.of main_call2_v1 : StableHlo.TRef sig ⟨S8x2048x1, .f32⟩) (broadcastInDim S8x2048x1 ![0, 1] bcast_S8x2048_S8x2048x1_0_1),
    StableHlo.TRef.nullary (.of main_call2_cst_0 : StableHlo.TRef sig ⟨S_, .f32⟩) (constant S_ .f32 0x42000000#32),
    StableHlo.TRef.unary (.of main_call2_cst_0 : StableHlo.TRef sig ⟨S_, .f32⟩) (.of main_call2_v2 : StableHlo.TRef sig ⟨S8x2048x1, .f32⟩) (broadcastInDim S8x2048x1 ![] bcast_S_S8x2048x1),
    StableHlo.TRef.binary (.of main_call2_v1 : StableHlo.TRef sig ⟨S8x2048x1, .f32⟩) (.of main_call2_v2 : StableHlo.TRef sig ⟨S8x2048x1, .f32⟩) (.of main_call2_v3 : StableHlo.TRef sig ⟨S8x2048x1, .f32⟩) Host.divf,
    StableHlo.TRef.unary (.of main_call2_v3 : StableHlo.TRef sig ⟨S8x2048x1, .f32⟩) (.of main_call2_v4 : StableHlo.TRef sig ⟨S8x2048x32, .f32⟩) (broadcastInDim S8x2048x32 ![0, 1, 2] bcast_S8x2048x1_S8x2048x32_0_1_2),
    StableHlo.TRef.binary (.of main_v31 : StableHlo.TRef sig ⟨S8x2048x32, .f32⟩) (.of main_call2_v4 : StableHlo.TRef sig ⟨S8x2048x32, .f32⟩) (.of main_call2_v5 : StableHlo.TRef sig ⟨S8x2048x32, .f32⟩) subf,
    StableHlo.TRef.binary (.of main_call2_v5 : StableHlo.TRef sig ⟨S8x2048x32, .f32⟩) (.of main_call2_v5 : StableHlo.TRef sig ⟨S8x2048x32, .f32⟩) (.of main_call2_v6 : StableHlo.TRef sig ⟨S8x2048x32, .f32⟩) mulf,
    StableHlo.TRef.unary (.of main_c_4 : StableHlo.TRef sig ⟨S_, .i32⟩) (.of main_call2_v7 : StableHlo.TRef sig ⟨S_, .f32⟩) (sitofp .f32),
    StableHlo.TRef.nullary (.of main_call2_cst_1 : StableHlo.TRef sig ⟨S_, .f32⟩) (constant S_ .f32 0x42000000#32),
    StableHlo.TRef.binary (.of main_call2_cst_1 : StableHlo.TRef sig ⟨S_, .f32⟩) (.of main_call2_v7 : StableHlo.TRef sig ⟨S_, .f32⟩) (.of main_call2_v8 : StableHlo.TRef sig ⟨S_, .f32⟩) subf,
    StableHlo.TRef.nullary (.of main_call2_cst_2 : StableHlo.TRef sig ⟨S_, .f32⟩) (constant S_ .f32 0x00000000#32),
    StableHlo.TRef.binary (.of main_call2_v6 : StableHlo.TRef sig ⟨S8x2048x32, .f32⟩) (.of main_call2_cst_2 : StableHlo.TRef sig ⟨S_, .f32⟩) (.of main_call2_v9 : StableHlo.TRef sig ⟨S8x2048, .f32⟩) (fun x v => Host.reduceAdd x v reducesTo_S8x2048x32_S8x2048_d2 h_S_),
    StableHlo.TRef.unary (.of main_call2_v9 : StableHlo.TRef sig ⟨S8x2048, .f32⟩) (.of main_call2_v10 : StableHlo.TRef sig ⟨S8x2048x1, .f32⟩) (broadcastInDim S8x2048x1 ![0, 1] bcast_S8x2048_S8x2048x1_0_1),
    StableHlo.TRef.unary (.of main_call2_v8 : StableHlo.TRef sig ⟨S_, .f32⟩) (.of main_call2_v11 : StableHlo.TRef sig ⟨S8x2048x1, .f32⟩) (broadcastInDim S8x2048x1 ![] bcast_S_S8x2048x1),
    StableHlo.TRef.binary (.of main_call2_v10 : StableHlo.TRef sig ⟨S8x2048x1, .f32⟩) (.of main_call2_v11 : StableHlo.TRef sig ⟨S8x2048x1, .f32⟩) (.of main_call2_v12 : StableHlo.TRef sig ⟨S8x2048x1, .f32⟩) Host.divf,
    StableHlo.TRef.nullary (.of main_call2_cst_3 : StableHlo.TRef sig ⟨S_, .f32⟩) (constant S_ .f32 0x00000000#32),
    StableHlo.TRef.binary (.of main_call2_v8 : StableHlo.TRef sig ⟨S_, .f32⟩) (.of main_call2_cst_3 : StableHlo.TRef sig ⟨S_, .f32⟩) (.of main_call2_v13 : StableHlo.TRef sig ⟨S_, .i1⟩) (cmpf .ogt),
    StableHlo.TRef.nullary (.of main_call2_cst_4 : StableHlo.TRef sig ⟨S_, .f32⟩) (constant S_ .f32 0x7FC00000#32),
    StableHlo.TRef.unary (.of main_call2_cst_4 : StableHlo.TRef sig ⟨S_, .f32⟩) (.of main_call2_call0_v0 : StableHlo.TRef sig ⟨S_, .f32⟩) id,
    StableHlo.TRef.unary (.of main_call2_call0_v0 : StableHlo.TRef sig ⟨S_, .f32⟩) (.of main_call2_call0_v1 : StableHlo.TRef sig ⟨S8x2048x1, .f32⟩) (broadcastInDim S8x2048x1 ![] bcast_S_S8x2048x1),
    StableHlo.TRef.ternary (.of main_call2_v13 : StableHlo.TRef sig ⟨S_, .i1⟩) (.of main_call2_v12 : StableHlo.TRef sig ⟨S8x2048x1, .f32⟩) (.of main_call2_call0_v1 : StableHlo.TRef sig ⟨S8x2048x1, .f32⟩) (.of main_v36 : StableHlo.TRef sig ⟨S8x2048x1, .f32⟩) (fun p a b => select (broadcastInDim S8x2048x1 ![] bcast_S_S8x2048x1 p) a b) ]
/-- Each of these operations touches TensorCore buffers only. -/
theorem main_part0_ops5_sub : (main_part0_ops5 : List (HloOp τ sig (Elt F))).Forall fun op => op.bufs ⊆ StableHlo.tcRefs τ sig :=
  ⟨StableHlo.nullary_bufs_sub .., StableHlo.binary_bufs_sub .., StableHlo.unary_bufs_sub .., StableHlo.nullary_bufs_sub .., StableHlo.unary_bufs_sub .., StableHlo.binary_bufs_sub .., StableHlo.unary_bufs_sub .., StableHlo.binary_bufs_sub .., StableHlo.binary_bufs_sub .., StableHlo.unary_bufs_sub .., StableHlo.nullary_bufs_sub .., StableHlo.binary_bufs_sub .., StableHlo.nullary_bufs_sub .., StableHlo.binary_bufs_sub .., StableHlo.unary_bufs_sub .., StableHlo.unary_bufs_sub .., StableHlo.binary_bufs_sub .., StableHlo.nullary_bufs_sub .., StableHlo.binary_bufs_sub .., StableHlo.nullary_bufs_sub .., StableHlo.unary_bufs_sub .., StableHlo.unary_bufs_sub .., StableHlo.ternary_bufs_sub ..⟩
/-- Part 0 of the program: 14 operations of `main`. -/
abbrev main_part0_ops6 : List (HloOp τ sig (Elt F)) :=
  [ StableHlo.unary main_v35 main_v37 (broadcastInDim S8x2048x32 ![0, 1, 2] bcast_S8x2048x1_S8x2048x32_0_1_2 : (⟨S8x2048x1, .f32⟩ : BufTy).Contents (Elt F) → (⟨S8x2048x32, .f32⟩ : BufTy).Contents (Elt F)),
    StableHlo.binary main_v31 main_v37 main_v38 (subf : (⟨S8x2048x32, .f32⟩ : BufTy).Contents (Elt F) → (⟨S8x2048x32, .f32⟩ : BufTy).Contents (Elt F) → (⟨S8x2048x32, .f32⟩ : BufTy).Contents (Elt F)),
    StableHlo.nullary main_cst_5 (constant S_ .f32 0x3727C5AC#32),
    StableHlo.unary main_cst_5 main_v39 (broadcastInDim S8x2048x1 ![] bcast_S_S8x2048x1 : (⟨S_, .f32⟩ : BufTy).Contents (Elt F) → (⟨S8x2048x1, .f32⟩ : BufTy).Contents (Elt F)),
    StableHlo.binary main_v36 main_v39 main_v40 (addf : (⟨S8x2048x1, .f32⟩ : BufTy).Contents (Elt F) → (⟨S8x2048x1, .f32⟩ : BufTy).Contents (Elt F) → (⟨S8x2048x1, .f32⟩ : BufTy).Contents (Elt F)),
    StableHlo.unary main_v40 main_v41 (Host.sqrt : (⟨S8x2048x1, .f32⟩ : BufTy).Contents (Elt F) → (⟨S8x2048x1, .f32⟩ : BufTy).Contents (Elt F)),
    StableHlo.unary main_v41 main_v42 (broadcastInDim S8x2048x32 ![0, 1, 2] bcast_S8x2048x1_S8x2048x32_0_1_2 : (⟨S8x2048x1, .f32⟩ : BufTy).Contents (Elt F) → (⟨S8x2048x32, .f32⟩ : BufTy).Contents (Elt F)),
    StableHlo.binary main_v38 main_v42 main_v43 (Host.divf : (⟨S8x2048x32, .f32⟩ : BufTy).Contents (Elt F) → (⟨S8x2048x32, .f32⟩ : BufTy).Contents (Elt F) → (⟨S8x2048x32, .f32⟩ : BufTy).Contents (Elt F)),
    StableHlo.unary main_arg10 main_v44 (broadcastInDim S1x1x32 ![2] bcast_S32_S1x1x32_2 : (⟨S32, .f32⟩ : BufTy).Contents (Elt F) → (⟨S1x1x32, .f32⟩ : BufTy).Contents (Elt F)),
    StableHlo.unary main_v44 main_v45 (broadcastInDim S8x2048x32 ![0, 1, 2] bcast_S1x1x32_S8x2048x32_0_1_2 : (⟨S1x1x32, .f32⟩ : BufTy).Contents (Elt F) → (⟨S8x2048x32, .f32⟩ : BufTy).Contents (Elt F)),
    StableHlo.binary main_v43 main_v45 main_v46 (mulf : (⟨S8x2048x32, .f32⟩ : BufTy).Contents (Elt F) → (⟨S8x2048x32, .f32⟩ : BufTy).Contents (Elt F) → (⟨S8x2048x32, .f32⟩ : BufTy).Contents (Elt F)),
    StableHlo.unary main_arg11 main_v47 (broadcastInDim S1x1x32 ![2] bcast_S32_S1x1x32_2 : (⟨S32, .f32⟩ : BufTy).Contents (Elt F) → (⟨S1x1x32, .f32⟩ : BufTy).Contents (Elt F)),
    StableHlo.unary main_v47 main_v48 (broadcastInDim S8x2048x32 ![0, 1, 2] bcast_S1x1x32_S8x2048x32_0_1_2 : (⟨S1x1x32, .f32⟩ : BufTy).Contents (Elt F) → (⟨S8x2048x32, .f32⟩ : BufTy).Contents (Elt F)),
    StableHlo.binary main_v46 main_v48 main_v49 (addf : (⟨S8x2048x32, .f32⟩ : BufTy).Contents (Elt F) → (⟨S8x2048x32, .f32⟩ : BufTy).Contents (Elt F) → (⟨S8x2048x32, .f32⟩ : BufTy).Contents (Elt F)) ]
/-- Each of these operations touches TensorCore buffers only. -/
theorem main_part0_ops6_sub : (main_part0_ops6 : List (HloOp τ sig (Elt F))).Forall fun op => op.bufs ⊆ StableHlo.tcRefs τ sig :=
  ⟨StableHlo.unary_bufs_sub .., StableHlo.binary_bufs_sub .., StableHlo.nullary_bufs_sub .., StableHlo.unary_bufs_sub .., StableHlo.binary_bufs_sub .., StableHlo.unary_bufs_sub .., StableHlo.unary_bufs_sub .., StableHlo.binary_bufs_sub .., StableHlo.unary_bufs_sub .., StableHlo.unary_bufs_sub .., StableHlo.binary_bufs_sub .., StableHlo.unary_bufs_sub .., StableHlo.unary_bufs_sub .., StableHlo.binary_bufs_sub ..⟩
/-- Part 0 of the program: 3 operations of `relu_1`. -/
abbrev main_part0_ops7 : List (HloOp τ sig (Elt F)) :=
  [ StableHlo.TRef.nullary (.of main_call3_cst : StableHlo.TRef sig ⟨S_, .f32⟩) (constant S_ .f32 0x00000000#32),
    StableHlo.TRef.unary (.of main_call3_cst : StableHlo.TRef sig ⟨S_, .f32⟩) (.of main_call3_v0 : StableHlo.TRef sig ⟨S8x2048x32, .f32⟩) (broadcastInDim S8x2048x32 ![] bcast_S_S8x2048x32),
    StableHlo.TRef.binary (.of main_v49 : StableHlo.TRef sig ⟨S8x2048x32, .f32⟩) (.of main_call3_v0 : StableHlo.TRef sig ⟨S8x2048x32, .f32⟩) (.of main_v50 : StableHlo.TRef sig ⟨S8x2048x32, .f32⟩) maximumf ]
/-- Each of these operations touches TensorCore buffers only. -/
theorem main_part0_ops7_sub : (main_part0_ops7 : List (HloOp τ sig (Elt F))).Forall fun op => op.bufs ⊆ StableHlo.tcRefs τ sig :=
  ⟨StableHlo.nullary_bufs_sub .., StableHlo.unary_bufs_sub .., StableHlo.binary_bufs_sub ..⟩
/-- Part 0 of the program: 1 operations of `main`. -/
abbrev main_part0_ops8 : List (HloOp τ sig (Elt F)) :=
  [ StableHlo.binary main_v50 main_arg12 main_v51 ((fun l r => Host.dotGeneral dot_S8x2048x32_S32x1_S8x2048x1_2_0_01_1_n_n none l r) : (⟨S8x2048x32, .f32⟩ : BufTy).Contents (Elt F) → (⟨S32x1, .f32⟩ : BufTy).Contents (Elt F) → (⟨S8x2048x1, .f32⟩ : BufTy).Contents (Elt F)) ]
/-- Each of these operations touches TensorCore buffers only. -/
theorem main_part0_ops8_sub : (main_part0_ops8 : List (HloOp τ sig (Elt F))).Forall fun op => op.bufs ⊆ StableHlo.tcRefs τ sig :=
  StableHlo.binary_bufs_sub ..
/-- The first part of the program is the chain of its stretches, up to the last one. -/
theorem main_part0_chain (c : Dev nD) : main_part0 (F := F) c = (Pipeline.chainK
  [ StableHlo.seq main_part0_ops0,
    StableHlo.seq main_part0_ops1,
    StableHlo.seq main_part0_ops2,
    StableHlo.seq main_part0_ops3,
    StableHlo.seq main_part0_ops4,
    StableHlo.seq main_part0_ops5,
    StableHlo.seq main_part0_ops6,
    StableHlo.seq main_part0_ops7 ]
  (StableHlo.seq main_part0_ops8) : Prog (TpuEff nD τ sig (Elt F) (HostLoop.Sig (Pipeline.Sig Λ₀ (Fin 0) fun p => (pcfgs (F := F) p).Adm) 1) .tc) PUnit) := by
  rewrite [StableHlo.chainK_seq_cons, Pipeline.chainK_cons, StableHlo.chainK_seq_cons, Pipeline.chainK_cons, StableHlo.chainK_seq_cons, Pipeline.chainK_cons, StableHlo.chainK_seq_cons, Pipeline.chainK_cons]
  chain_rfl

/-- Part 1 of the program: 14 operations of `main`. -/
abbrev main_part1_ops0 : List (HloOp τ sig (Elt F)) :=
  [ StableHlo.unary main_arg13 main_v52 (broadcastInDim S1x1x1 ![2] bcast_S1_S1x1x1_2 : (⟨S1, .f32⟩ : BufTy).Contents (Elt F) → (⟨S1x1x1, .f32⟩ : BufTy).Contents (Elt F)),
    StableHlo.unary main_v52 main_v53 (broadcastInDim S8x2048x1 ![0, 1, 2] bcast_S1x1x1_S8x2048x1_0_1_2 : (⟨S1x1x1, .f32⟩ : BufTy).Contents (Elt F) → (⟨S8x2048x1, .f32⟩ : BufTy).Contents (Elt F)),
    StableHlo.binary main_v51 main_v53 main_v54 (addf : (⟨S8x2048x1, .f32⟩ : BufTy).Contents (Elt F) → (⟨S8x2048x1, .f32⟩ : BufTy).Contents (Elt F) → (⟨S8x2048x1, .f32⟩ : BufTy).Contents (Elt F)),
    StableHlo.reshape main_v54 main_v55 (rfl : (.f32 : EltTy) = .f32) shapeCasts_S8x2048x1_S8x2048,
    StableHlo.unary main_v55 main_v56 (broadcastInDim S8x1x2048 ![0, 2] bcast_S8x2048_S8x1x2048_0_2 : (⟨S8x2048, .f32⟩ : BufTy).Contents (Elt F) → (⟨S8x1x2048, .f32⟩ : BufTy).Contents (Elt F)),
    StableHlo.nullary main_cst_6 (constant S_ .f32 0x00000000#32),
    StableHlo.unary main_cst_6 main_v57 (broadcastInDim S8x1x2048 ![] bcast_S_S8x1x2048 : (⟨S_, .f32⟩ : BufTy).Contents (Elt F) → (⟨S8x1x2048, .f32⟩ : BufTy).Contents (Elt F)),
    StableHlo.nullary main_cst_7 (constant S_ .f32 0x00000000#32),
    StableHlo.unary main_cst_7 main_v58 (broadcastInDim S1024x8x1x2048 ![] bcast_S_S1024x8x1x2048 : (⟨S_, .f32⟩ : BufTy).Contents (Elt F) → (⟨S1024x8x1x2048, .f32⟩ : BufTy).Contents (Elt F)),
    StableHlo.nullary main_c_8 (constantI S_ 32 0#32),
    StableHlo.unary main_c_8 main_v59_0 id,
    StableHlo.unary main_v56 main_v59_1 id,
    StableHlo.unary main_v57 main_v59_2 id,
    StableHlo.unary main_v58 main_v59_3 id ]
/-- Each of these operations touches TensorCore buffers only. -/
theorem main_part1_ops0_sub : (main_part1_ops0 : List (HloOp τ sig (Elt F))).Forall fun op => op.bufs ⊆ StableHlo.tcRefs τ sig :=
  ⟨StableHlo.unary_bufs_sub .., StableHlo.unary_bufs_sub .., StableHlo.binary_bufs_sub .., StableHlo.reshape_bufs_sub .., StableHlo.unary_bufs_sub .., StableHlo.nullary_bufs_sub .., StableHlo.unary_bufs_sub .., StableHlo.nullary_bufs_sub .., StableHlo.unary_bufs_sub .., StableHlo.nullary_bufs_sub .., StableHlo.unary_bufs_sub .., StableHlo.unary_bufs_sub .., StableHlo.unary_bufs_sub .., StableHlo.unary_bufs_sub ..⟩
/-- Part 1 of the program: 5 operations of `main`. -/
abbrev main_part1_ops1 : List (HloOp τ sig (Elt F)) :=
  [ StableHlo.reshape main_v59_3 main_v60 (rfl : (.f32 : EltTy) = .f32) shapeCasts_S1024x8x1x2048_S1024x8x2048,
    StableHlo.unary main_v60 main_v61 ((transpose S8x1024x2048 [1, 0, 2] · transposes_S1024x8x2048_S8x1024x2048_1_0_2) : (⟨S1024x8x2048, .f32⟩ : BufTy).Contents (Elt F) → (⟨S8x1024x2048, .f32⟩ : BufTy).Contents (Elt F)),
    StableHlo.binary main_v61 main_arg0 main_v62 ((fun l r => Host.dotGeneral dot_S8x1024x2048_S8x2048x3_S8x1024x3_2_1_1_2_0_0 none l r) : (⟨S8x1024x2048, .f32⟩ : BufTy).Contents (Elt F) → (⟨S8x2048x3, .f32⟩ : BufTy).Contents (Elt F) → (⟨S8x1024x3, .f32⟩ : BufTy).Contents (Elt F)),
    StableHlo.binary main_v61 main_v27 main_v63 ((fun l r => Host.dotGeneral dot_S8x1024x2048_S8x2048x64_S8x1024x64_2_1_1_2_0_0 none l r) : (⟨S8x1024x2048, .f32⟩ : BufTy).Contents (Elt F) → (⟨S8x2048x64, .f32⟩ : BufTy).Contents (Elt F) → (⟨S8x1024x64, .f32⟩ : BufTy).Contents (Elt F)),
    StableHlo.unary main_v63 main_v64 ((transpose S8x64x1024 [0, 2, 1] · transposes_S8x1024x64_S8x64x1024_0_2_1) : (⟨S8x1024x64, .f32⟩ : BufTy).Contents (Elt F) → (⟨S8x64x1024, .f32⟩ : BufTy).Contents (Elt F)) ]
/-- Each of these operations touches TensorCore buffers only. -/
theorem main_part1_ops1_sub : (main_part1_ops1 : List (HloOp τ sig (Elt F))).Forall fun op => op.bufs ⊆ StableHlo.tcRefs τ sig :=
  ⟨StableHlo.reshape_bufs_sub .., StableHlo.unary_bufs_sub .., StableHlo.binary_bufs_sub .., StableHlo.binary_bufs_sub .., StableHlo.unary_bufs_sub ..⟩
/-- Part 1 of the program: 5 operations of `argmax_2`. -/
abbrev main_part1_ops2 : List (HloOp τ sig (Elt F)) :=
  [ StableHlo.TRef.nullary (.of main_call8_v0 : StableHlo.TRef sig ⟨S8x1024x2048, .i32⟩) (iotaInDim S8x1024x2048 32 2),
    StableHlo.TRef.nullary (.of main_call8_cst : StableHlo.TRef sig ⟨S_, .f32⟩) (constant S_ .f32 0xFF800000#32),
    StableHlo.TRef.nullary (.of main_call8_c : StableHlo.TRef sig ⟨S_, .i32⟩) (constantI S_ 32 0#32),
    StableHlo.TRef.quaternary (.of main_v61 : StableHlo.TRef sig ⟨S8x1024x2048, .f32⟩) (.of main_call8_v0 : StableHlo.TRef sig ⟨S8x1024x2048, .i32⟩) (.of main_call8_cst : StableHlo.TRef sig ⟨S_, .f32⟩) (.of main_call8_c : StableHlo.TRef sig ⟨S_, .i32⟩) (.of main_call8_v1_0 : StableHlo.TRef sig ⟨S8x1024, .f32⟩) (fun x y u v j => (Host.argReduce reducer_argmax_f32_i32 x y u v reducesTo_S8x1024x2048_S8x1024_d2 h_S_ j).1),
    StableHlo.TRef.quaternary (.of main_v61 : StableHlo.TRef sig ⟨S8x1024x2048, .f32⟩) (.of main_call8_v0 : StableHlo.TRef sig ⟨S8x1024x2048, .i32⟩) (.of main_call8_cst : StableHlo.TRef sig ⟨S_, .f32⟩) (.of main_call8_c : StableHlo.TRef sig ⟨S_, .i32⟩) (.of main_v65 : StableHlo.TRef sig ⟨S8x1024, .i32⟩) (fun x y u v j => (Host.argReduce reducer_argmax_f32_i32 x y u v reducesTo_S8x1024x2048_S8x1024_d2 h_S_ j).2) ]
/-- Each of these operations touches TensorCore buffers only. -/
theorem main_part1_ops2_sub : (main_part1_ops2 : List (HloOp τ sig (Elt F))).Forall fun op => op.bufs ⊆ StableHlo.tcRefs τ sig :=
  ⟨StableHlo.nullary_bufs_sub .., StableHlo.nullary_bufs_sub .., StableHlo.nullary_bufs_sub .., StableHlo.quaternary_bufs_sub .., StableHlo.quaternary_bufs_sub ..⟩
/-- The second part of the program is the chain of its stretches and the loop. -/
theorem main_part1_chain (c : Dev nD) : main_part1 (F := F) c = (Pipeline.chain
  [ StableHlo.seq main_part1_ops0,
    HostLoop.enter 0,
    StableHlo.seq main_part1_ops1,
    StableHlo.seq main_part1_ops2 ] : Prog (TpuEff nD τ sig (Elt F) (HostLoop.Sig (Pipeline.Sig Λ₀ (Fin 0) fun p => (pcfgs (F := F) p).Adm) 1) .tc) PUnit) := by
  rewrite [StableHlo.chain_seq_cons, Pipeline.chain_cons, StableHlo.chain_seq_cons, Pipeline.chain_cons]
  chain_rfl

/-- The program is the chain of the stretches of its two parts. -/
theorem main_chain_windows (c : Dev nD) : main (F := F) c = (Pipeline.chain
  [ StableHlo.seq main_part0_ops0,
    StableHlo.seq main_part0_ops1,
    StableHlo.seq main_part0_ops2,
    StableHlo.seq main_part0_ops3,
    StableHlo.seq main_part0_ops4,
    StableHlo.seq main_part0_ops5,
    StableHlo.seq main_part0_ops6,
    StableHlo.seq main_part0_ops7,
    StableHlo.seq main_part0_ops8,
    StableHlo.seq main_part1_ops0,
    HostLoop.enter 0,
    StableHlo.seq main_part1_ops1,
    StableHlo.seq main_part1_ops2 ] : Prog (TpuEff nD τ sig (Elt F) (HostLoop.Sig (Pipeline.Sig Λ₀ (Fin 0) fun p => (pcfgs (F := F) p).Adm) 1) .tc) PUnit) := by
  show (main_part0 (F := F) c >>= fun _ => main_part1 (F := F) c) = _
  rewrite [main_part1_chain, main_part0_chain, Pipeline.chainK_bind_chain]
  chain_rfl

/-- The program's items; the one stretch that lies in both parts is given by its two pieces. -/
abbrev main_groups (c : Dev nD) : List (StableHlo.Group nD τ sig (Elt F) (HostLoop.Sig (Pipeline.Sig Λ₀ (Fin 0) fun p => (pcfgs (F := F) p).Adm) 1)) :=
  [ .ops [main_part0_ops0],
    .ops [main_part0_ops1],
    .ops [main_part0_ops2],
    .ops [main_part0_ops3],
    .ops [main_part0_ops4],
    .ops [main_part0_ops5],
    .ops [main_part0_ops6],
    .ops [main_part0_ops7],
    .ops [main_part0_ops8, main_part1_ops0],
    .prog (HostLoop.enter 0),
    .ops [main_part1_ops1],
    .ops [main_part1_ops2] ]

/-- Cutting that stretch gives the items of the two parts. -/
theorem main_chain_cut (c : Dev nD) : (Pipeline.chain
  [ StableHlo.seq main_part0_ops0,
    StableHlo.seq main_part0_ops1,
    StableHlo.seq main_part0_ops2,
    StableHlo.seq main_part0_ops3,
    StableHlo.seq main_part0_ops4,
    StableHlo.seq main_part0_ops5,
    StableHlo.seq main_part0_ops6,
    StableHlo.seq main_part0_ops7,
    StableHlo.seq main_part0_ops8,
    StableHlo.seq main_part1_ops0,
    HostLoop.enter 0,
    StableHlo.seq main_part1_ops1,
    StableHlo.seq main_part1_ops2 ] : Prog (TpuEff nD τ sig (Elt F) (HostLoop.Sig (Pipeline.Sig Λ₀ (Fin 0) fun p => (pcfgs (F := F) p).Adm) 1) .tc) PUnit) = Pipeline.chain ((main_groups (F := F) c).flatMap StableHlo.Group.cut) := by
  chain_rfl

/-- Joining its pieces gives the stretches named above. -/
theorem main_chain_whole (c : Dev nD) : Pipeline.chain ((main_groups (F := F) c).map StableHlo.Group.whole) = (Pipeline.chain
  [ StableHlo.seq hostOps0,
    StableHlo.seq hostOps0_1,
    StableHlo.seq hostOps0_2,
    StableHlo.seq hostOps0_3,
    StableHlo.seq hostOps0_4,
    StableHlo.seq hostOps0_5,
    StableHlo.seq hostOps0_6,
    StableHlo.seq hostOps0_7,
    StableHlo.seq hostOps0_8,
    HostLoop.enter 0,
    StableHlo.seq hostOps0_9,
    StableHlo.seq hostOps0_10 ] : Prog (TpuEff nD τ sig (Elt F) (HostLoop.Sig (Pipeline.Sig Λ₀ (Fin 0) fun p => (pcfgs (F := F) p).Adm) 1) .tc) PUnit) := by
  chain_rfl

/-- The program is the chain of its stretches and its loop. -/
theorem main_chain (c : Dev nD) : main (F := F) c = (Pipeline.chain
  [ StableHlo.seq hostOps0,
    StableHlo.seq hostOps0_1,
    StableHlo.seq hostOps0_2,
    StableHlo.seq hostOps0_3,
    StableHlo.seq hostOps0_4,
    StableHlo.seq hostOps0_5,
    StableHlo.seq hostOps0_6,
    StableHlo.seq hostOps0_7,
    StableHlo.seq hostOps0_8,
    HostLoop.enter 0,
    StableHlo.seq hostOps0_9,
    StableHlo.seq hostOps0_10 ] : Prog (TpuEff nD τ sig (Elt F) (HostLoop.Sig (Pipeline.Sig Λ₀ (Fin 0) fun p => (pcfgs (F := F) p).Adm) 1) .tc) PUnit) :=
  (main_chain_windows (F := F) c).trans <| (main_chain_cut (F := F) c).trans <|
    (StableHlo.chain_cut_eq_whole (main_groups (F := F) c)).trans (main_chain_whole (F := F) c)

/-- A stretch of the loop body, 4 operations. -/
abbrev while0Ops0 : List (HloOp τ sig (Elt F)) :=
  [ StableHlo.nullary main_while0b_cst_12 (constant S_ .f32 0x3F800000#32),
    StableHlo.unary main_while0b_cst_12 main_while0b_v66 (broadcastInDim S8x1x2048 ![] bcast_S_S8x1x2048 : (⟨S_, .f32⟩ : BufTy).Contents (Elt F) → (⟨S8x1x2048, .f32⟩ : BufTy).Contents (Elt F)),
    StableHlo.binary main_while0b_v66 main_v59_2 main_while0b_v67 (subf : (⟨S8x1x2048, .f32⟩ : BufTy).Contents (Elt F) → (⟨S8x1x2048, .f32⟩ : BufTy).Contents (Elt F) → (⟨S8x1x2048, .f32⟩ : BufTy).Contents (Elt F)),
    StableHlo.nullary main_while0b_cst_13 (constant S_ .f32 0x00800000#32) ]
/-- Each of these operations touches TensorCore buffers only. -/
theorem while0Ops0_sub : (while0Ops0 : List (HloOp τ sig (Elt F))).Forall fun op => op.bufs ⊆ StableHlo.tcRefs τ sig :=
  ⟨StableHlo.nullary_bufs_sub .., StableHlo.unary_bufs_sub .., StableHlo.binary_bufs_sub .., StableHlo.nullary_bufs_sub ..⟩
/-- A stretch of `clip`, 3 operations. -/
abbrev while0Ops0_1 : List (HloOp τ sig (Elt F)) :=
  [ StableHlo.TRef.unary (.of main_while0b_cst_13 : StableHlo.TRef sig ⟨S_, .f32⟩) (.of main_while0b_call4_v0 : StableHlo.TRef sig ⟨S_, .f32⟩) id,
    StableHlo.TRef.unary (.of main_while0b_call4_v0 : StableHlo.TRef sig ⟨S_, .f32⟩) (.of main_while0b_call4_v1 : StableHlo.TRef sig ⟨S8x1x2048, .f32⟩) (broadcastInDim S8x1x2048 ![] bcast_S_S8x1x2048),
    StableHlo.TRef.binary (.of main_while0b_call4_v1 : StableHlo.TRef sig ⟨S8x1x2048, .f32⟩) (.of main_while0b_v67 : StableHlo.TRef sig ⟨S8x1x2048, .f32⟩) (.of main_while0b_v68 : StableHlo.TRef sig ⟨S8x1x2048, .f32⟩) maximumf ]
/-- Each of these operations touches TensorCore buffers only. -/
theorem while0Ops0_1_sub : (while0Ops0_1 : List (HloOp τ sig (Elt F))).Forall fun op => op.bufs ⊆ StableHlo.tcRefs τ sig :=
  ⟨StableHlo.unary_bufs_sub .., StableHlo.unary_bufs_sub .., StableHlo.binary_bufs_sub ..⟩
/-- A stretch of the loop body, 19 operations. -/
abbrev while0Ops0_2 : List (HloOp τ sig (Elt F)) :=
  [ StableHlo.unary main_while0b_v68 main_while0b_v69 (Host.log : (⟨S8x1x2048, .f32⟩ : BufTy).Contents (Elt F) → (⟨S8x1x2048, .f32⟩ : BufTy).Contents (Elt F)),
    StableHlo.binary main_v59_1 main_while0b_v69 main_while0b_v70 (addf : (⟨S8x1x2048, .f32⟩ : BufTy).Contents (Elt F) → (⟨S8x1x2048, .f32⟩ : BufTy).Contents (Elt F) → (⟨S8x1x2048, .f32⟩ : BufTy).Contents (Elt F)),
    StableHlo.nullary main_while0b_cst_14 (constant S_ .f32 0x3DCCCCCD#32),
    StableHlo.unary main_while0b_cst_14 main_while0b_v71 (broadcastInDim S8x1x2048 ![] bcast_S_S8x1x2048 : (⟨S_, .f32⟩ : BufTy).Contents (Elt F) → (⟨S8x1x2048, .f32⟩ : BufTy).Contents (Elt F)),
    StableHlo.binary main_while0b_v70 main_while0b_v71 main_while0b_v72 (Host.divf : (⟨S8x1x2048, .f32⟩ : BufTy).Contents (Elt F) → (⟨S8x1x2048, .f32⟩ : BufTy).Contents (Elt F) → (⟨S8x1x2048, .f32⟩ : BufTy).Contents (Elt F)),
    StableHlo.nullary main_while0b_cst_15 (constant S_ .f32 0xFF800000#32),
    StableHlo.binary main_while0b_v72 main_while0b_cst_15 main_while0b_v73 ((fun x v => Host.reduce FloatOps.maximumf x v reducesTo_S8x1x2048_S8x1_d2 h_S_) : (⟨S8x1x2048, .f32⟩ : BufTy).Contents (Elt F) → (⟨S_, .f32⟩ : BufTy).Contents (Elt F) → (⟨S8x1, .f32⟩ : BufTy).Contents (Elt F)),
    StableHlo.nullary main_while0b_cst_16 (constant S_ .f32 0xFF800000#32),
    StableHlo.unary main_while0b_cst_16 main_while0b_v74 (broadcastInDim S8x1 ![] bcast_S_S8x1 : (⟨S_, .f32⟩ : BufTy).Contents (Elt F) → (⟨S8x1, .f32⟩ : BufTy).Contents (Elt F)),
    StableHlo.binary main_while0b_v74 main_while0b_v73 main_while0b_v75 (maximumf : (⟨S8x1, .f32⟩ : BufTy).Contents (Elt F) → (⟨S8x1, .f32⟩ : BufTy).Contents (Elt F) → (⟨S8x1, .f32⟩ : BufTy).Contents (Elt F)),
    StableHlo.unary main_while0b_v75 main_while0b_v76 (broadcastInDim S8x1x1 ![0, 1] bcast_S8x1_S8x1x1_0_1 : (⟨S8x1, .f32⟩ : BufTy).Contents (Elt F) → (⟨S8x1x1, .f32⟩ : BufTy).Contents (Elt F)),
    StableHlo.unary main_while0b_v76 main_while0b_v77 (broadcastInDim S8x1x2048 ![0, 1, 2] bcast_S8x1x1_S8x1x2048_0_1_2 : (⟨S8x1x1, .f32⟩ : BufTy).Contents (Elt F) → (⟨S8x1x2048, .f32⟩ : BufTy).Contents (Elt F)),
    StableHlo.binary main_while0b_v72 main_while0b_v77 main_while0b_v78 (subf : (⟨S8x1x2048, .f32⟩ : BufTy).Contents (Elt F) → (⟨S8x1x2048, .f32⟩ : BufTy).Contents (Elt F) → (⟨S8x1x2048, .f32⟩ : BufTy).Contents (Elt F)),
    StableHlo.unary main_while0b_v78 main_while0b_v79 (Host.exp : (⟨S8x1x2048, .f32⟩ : BufTy).Contents (Elt F) → (⟨S8x1x2048, .f32⟩ : BufTy).Contents (Elt F)),
    StableHlo.nullary main_while0b_cst_17 (constant S_ .f32 0x00000000#32),
    StableHlo.binary main_while0b_v79 main_while0b_cst_17 main_while0b_v80 ((fun x v => Host.reduceAdd x v reducesTo_S8x1x2048_S8x1_d2 h_S_) : (⟨S8x1x2048, .f32⟩ : BufTy).Contents (Elt F) → (⟨S_, .f32⟩ : BufTy).Contents (Elt F) → (⟨S8x1, .f32⟩ : BufTy).Contents (Elt F)),
    StableHlo.unary main_while0b_v80 main_while0b_v81 (broadcastInDim S8x1x1 ![0, 1] bcast_S8x1_S8x1x1_0_1 : (⟨S8x1, .f32⟩ : BufTy).Contents (Elt F) → (⟨S8x1x1, .f32⟩ : BufTy).Contents (Elt F)),
    StableHlo.unary main_while0b_v81 main_while0b_v82 (broadcastInDim S8x1x2048 ![0, 1, 2] bcast_S8x1x1_S8x1x2048_0_1_2 : (⟨S8x1x1, .f32⟩ : BufTy).Contents (Elt F) → (⟨S8x1x2048, .f32⟩ : BufTy).Contents (Elt F)),
    StableHlo.binary main_while0b_v79 main_while0b_v82 main_while0b_v83 (Host.divf : (⟨S8x1x2048, .f32⟩ : BufTy).Contents (Elt F) → (⟨S8x1x2048, .f32⟩ : BufTy).Contents (Elt F) → (⟨S8x1x2048, .f32⟩ : BufTy).Contents (Elt F)) ]
/-- Each of these operations touches TensorCore buffers only. -/
theorem while0Ops0_2_sub : (while0Ops0_2 : List (HloOp τ sig (Elt F))).Forall fun op => op.bufs ⊆ StableHlo.tcRefs τ sig :=
  ⟨StableHlo.unary_bufs_sub .., StableHlo.binary_bufs_sub .., StableHlo.nullary_bufs_sub .., StableHlo.unary_bufs_sub .., StableHlo.binary_bufs_sub .., StableHlo.nullary_bufs_sub .., StableHlo.binary_bufs_sub .., StableHlo.nullary_bufs_sub .., StableHlo.unary_bufs_sub .., StableHlo.binary_bufs_sub .., StableHlo.unary_bufs_sub .., StableHlo.unary_bufs_sub .., StableHlo.binary_bufs_sub .., StableHlo.unary_bufs_sub .., StableHlo.nullary_bufs_sub .., StableHlo.binary_bufs_sub .., StableHlo.unary_bufs_sub .., StableHlo.unary_bufs_sub .., StableHlo.binary_bufs_sub ..⟩
/-- A stretch of `argmax`, 5 operations. -/
abbrev while0Ops0_3 : List (HloOp τ sig (Elt F)) :=
  [ StableHlo.TRef.nullary (.of main_while0b_call5_v0 : StableHlo.TRef sig ⟨S8x1x2048, .i32⟩) (iotaInDim S8x1x2048 32 2),
    StableHlo.TRef.nullary (.of main_while0b_call5_cst : StableHlo.TRef sig ⟨S_, .f32⟩) (constant S_ .f32 0xFF800000#32),
    StableHlo.TRef.nullary (.of main_while0b_call5_c : StableHlo.TRef sig ⟨S_, .i32⟩) (constantI S_ 32 0#32),
    StableHlo.TRef.quaternary (.of main_while0b_v83 : StableHlo.TRef sig ⟨S8x1x2048, .f32⟩) (.of main_while0b_call5_v0 : StableHlo.TRef sig ⟨S8x1x2048, .i32⟩) (.of main_while0b_call5_cst : StableHlo.TRef sig ⟨S_, .f32⟩) (.of main_while0b_call5_c : StableHlo.TRef sig ⟨S_, .i32⟩) (.of main_while0b_call5_v1_0 : StableHlo.TRef sig ⟨S8x1, .f32⟩) (fun x y u v j => (Host.argReduce reducer_argmax_f32_i32 x y u v reducesTo_S8x1x2048_S8x1_d2 h_S_ j).1),
    StableHlo.TRef.quaternary (.of main_while0b_v83 : StableHlo.TRef sig ⟨S8x1x2048, .f32⟩) (.of main_while0b_call5_v0 : StableHlo.TRef sig ⟨S8x1x2048, .i32⟩) (.of main_while0b_call5_cst : StableHlo.TRef sig ⟨S_, .f32⟩) (.of main_while0b_call5_c : StableHlo.TRef sig ⟨S_, .i32⟩) (.of main_while0b_v84 : StableHlo.TRef sig ⟨S8x1, .i32⟩) (fun x y u v j => (Host.argReduce reducer_argmax_f32_i32 x y u v reducesTo_S8x1x2048_S8x1_d2 h_S_ j).2) ]
/-- Each of these operations touches TensorCore buffers only. -/
theorem while0Ops0_3_sub : (while0Ops0_3 : List (HloOp τ sig (Elt F))).Forall fun op => op.bufs ⊆ StableHlo.tcRefs τ sig :=
  ⟨StableHlo.nullary_bufs_sub .., StableHlo.nullary_bufs_sub .., StableHlo.nullary_bufs_sub .., StableHlo.quaternary_bufs_sub .., StableHlo.quaternary_bufs_sub ..⟩
/-- A stretch of `_one_hot`, 6 operations. -/
abbrev while0Ops0_4 : List (HloOp τ sig (Elt F)) :=
  [ StableHlo.TRef.unary (.of main_while0b_v84 : StableHlo.TRef sig ⟨S8x1, .i32⟩) (.of main_while0b_call6_v0 : StableHlo.TRef sig ⟨S8x1x1, .i32⟩) (broadcastInDim S8x1x1 ![0, 1] bcast_S8x1_S8x1x1_0_1),
    StableHlo.TRef.nullary (.of main_while0b_call6_v1 : StableHlo.TRef sig ⟨S1x1x2048, .i32⟩) (iotaInDim S1x1x2048 32 2),
    StableHlo.TRef.unary (.of main_while0b_call6_v0 : StableHlo.TRef sig ⟨S8x1x1, .i32⟩) (.of main_while0b_call6_v2 : StableHlo.TRef sig ⟨S8x1x2048, .i32⟩) (broadcastInDim S8x1x2048 ![0, 1, 2] bcast_S8x1x1_S8x1x2048_0_1_2),
    StableHlo.TRef.unary (.of main_while0b_call6_v1 : StableHlo.TRef sig ⟨S1x1x2048, .i32⟩) (.of main_while0b_call6_v3 : StableHlo.TRef sig ⟨S8x1x2048, .i32⟩) (broadcastInDim S8x1x2048 ![0, 1, 2] bcast_S1x1x2048_S8x1x2048_0_1_2),
    StableHlo.TRef.binary (.of main_while0b_call6_v2 : StableHlo.TRef sig ⟨S8x1x2048, .i32⟩) (.of main_while0b_call6_v3 : StableHlo.TRef sig ⟨S8x1x2048, .i32⟩) (.of main_while0b_call6_v4 : StableHlo.TRef sig ⟨S8x1x2048, .i1⟩) (cmpi .eq),
    StableHlo.TRef.unary (.of main_while0b_call6_v4 : StableHlo.TRef sig ⟨S8x1x2048, .i1⟩) (.of main_while0b_v85 : StableHlo.TRef sig ⟨S8x1x2048, .f32⟩) (uitofp .f32) ]
/-- Each of these operations touches TensorCore buffers only. -/
theorem while0Ops0_4_sub : (while0Ops0_4 : List (HloOp τ sig (Elt F))).Forall fun op => op.bufs ⊆ StableHlo.tcRefs τ sig :=
  ⟨StableHlo.unary_bufs_sub .., StableHlo.nullary_bufs_sub .., StableHlo.unary_bufs_sub .., StableHlo.unary_bufs_sub .., StableHlo.binary_bufs_sub .., StableHlo.unary_bufs_sub ..⟩
/-- A stretch of the loop body, 2 operations. -/
abbrev while0Ops0_5 : List (HloOp τ sig (Elt F)) :=
  [ StableHlo.binary main_while0b_v85 main_while0b_v83 main_while0b_v86 (subf : (⟨S8x1x2048, .f32⟩ : BufTy).Contents (Elt F) → (⟨S8x1x2048, .f32⟩ : BufTy).Contents (Elt F) → (⟨S8x1x2048, .f32⟩ : BufTy).Contents (Elt F)),
    StableHlo.binary main_while0b_v86 main_while0b_v83 main_while0b_v87 (addf : (⟨S8x1x2048, .f32⟩ : BufTy).Contents (Elt F) → (⟨S8x1x2048, .f32⟩ : BufTy).Contents (Elt F) → (⟨S8x1x2048, .f32⟩ : BufTy).Contents (Elt F)) ]
/-- Each of these operations touches TensorCore buffers only. -/
theorem while0Ops0_5_sub : (while0Ops0_5 : List (HloOp τ sig (Elt F))).Forall fun op => op.bufs ⊆ StableHlo.tcRefs τ sig :=
  ⟨StableHlo.binary_bufs_sub .., StableHlo.binary_bufs_sub ..⟩
/-- A stretch of `dynamic_update_index_in_dim`, 5 operations. -/
abbrev while0Ops0_6 : List (HloOp τ sig (Elt F)) :=
  [ StableHlo.TRef.unary (.of main_while0b_v87 : StableHlo.TRef sig ⟨S8x1x2048, .f32⟩) (.of main_while0b_call7_v0 : StableHlo.TRef sig ⟨S1x8x1x2048, .f32⟩) (broadcastInDim S1x8x1x2048 ![1, 2, 3] bcast_S8x1x2048_S1x8x1x2048_1_2_3),
    StableHlo.TRef.nullary (.of main_while0b_call7_c : StableHlo.TRef sig ⟨S_, .i32⟩) (constantI S_ 32 0#32),
    StableHlo.TRef.nullary (.of main_while0b_call7_c_0 : StableHlo.TRef sig ⟨S_, .i32⟩) (constantI S_ 32 0#32),
    StableHlo.TRef.nullary (.of main_while0b_call7_c_1 : StableHlo.TRef sig ⟨S_, .i32⟩) (constantI S_ 32 0#32),
    StableHlo.TRef.binaryIndexed (.of main_v59_3 : StableHlo.TRef sig ⟨S1024x8x1x2048, .f32⟩) (.of main_while0b_call7_v0 : StableHlo.TRef sig ⟨S1x8x1x2048, .f32⟩) ![(.of main_v59_0 : StableHlo.TRef sig ⟨S_, .i32⟩), (.of main_while0b_call7_c : StableHlo.TRef sig ⟨S_, .i32⟩), (.of main_while0b_call7_c_0 : StableHlo.TRef sig ⟨S_, .i32⟩), (.of main_while0b_call7_c_1 : StableHlo.TRef sig ⟨S_, .i32⟩)] (.of main_while0b_v88 : StableHlo.TRef sig ⟨S1024x8x1x2048, .f32⟩) (fun x u i => Host.dynamicUpdateSlice x u (fun k => (i k (Shape.Idx.first h_S_)).toInt) updateFits_S1024x8x1x2048_S1x8x1x2048) ]
/-- Each of these operations touches TensorCore buffers only. -/
theorem while0Ops0_6_sub : (while0Ops0_6 : List (HloOp τ sig (Elt F))).Forall fun op => op.bufs ⊆ StableHlo.tcRefs τ sig :=
  ⟨StableHlo.unary_bufs_sub .., StableHlo.nullary_bufs_sub .., StableHlo.nullary_bufs_sub .., StableHlo.nullary_bufs_sub .., StableHlo.binaryIndexed_bufs_sub ..⟩
/-- A stretch of the loop body, 6 operations. -/
abbrev while0Ops0_7 : List (HloOp τ sig (Elt F)) :=
  [ StableHlo.nullary main_while0b_c_18 (constantI S_ 32 1#32),
    StableHlo.binary main_v59_0 main_while0b_c_18 main_while0b_v89 (addi : (⟨S_, .i32⟩ : BufTy).Contents (Elt F) → (⟨S_, .i32⟩ : BufTy).Contents (Elt F) → (⟨S_, .i32⟩ : BufTy).Contents (Elt F)),
    StableHlo.unary main_while0b_v89 main_v59_0 id,
    StableHlo.unary main_while0b_v70 main_v59_1 id,
    StableHlo.unary main_while0b_v87 main_v59_2 id,
    StableHlo.unary main_while0b_v88 main_v59_3 id ]
/-- Each of these operations touches TensorCore buffers only. -/
theorem while0Ops0_7_sub : (while0Ops0_7 : List (HloOp τ sig (Elt F))).Forall fun op => op.bufs ⊆ StableHlo.tcRefs τ sig :=
  ⟨StableHlo.nullary_bufs_sub .., StableHlo.binary_bufs_sub .., StableHlo.unary_bufs_sub .., StableHlo.unary_bufs_sub .., StableHlo.unary_bufs_sub .., StableHlo.unary_bufs_sub ..⟩
/-- The loop's body is the chain of its stretches. -/
theorem while0_body_chain : main_while0_body (F := F) = (Pipeline.chain
  [ StableHlo.seq while0Ops0,
    StableHlo.seq while0Ops0_1,
    StableHlo.seq while0Ops0_2,
    StableHlo.seq while0Ops0_3,
    StableHlo.seq while0Ops0_4,
    StableHlo.seq while0Ops0_5,
    StableHlo.seq while0Ops0_6,
    StableHlo.seq while0Ops0_7 ] : Prog (TpuEff nD τ sig (Elt F) (HostLoop.Sig (Pipeline.Sig Λ₀ (Fin 0) fun p => (pcfgs (F := F) p).Adm) 1) .tc) PUnit) := by
  rewrite [StableHlo.chain_seq_cons, Pipeline.chain_cons, StableHlo.chain_seq_cons, Pipeline.chain_cons, Pipeline.chain_cons, StableHlo.chain_seq_cons, Pipeline.chain_cons, StableHlo.chain_seq_cons]
  chain_rfl

end Cert.ReferenceIdeal.Gen

end
-- ==== Proof.RefTrip.lean ====
/- The reference's own run, part two: it terminates, and one trip of its loop is the map `STEP` on the four carried buffers. -/
module

public import proofs.«01_k».proof.Proof.RefOps
public import proofs.«01_k».proof.Proof.Gen.ReferenceIdeal
public import Idealize.ShloMosaic.Lib.Pipeline.Regions
public import Idealize.ShloMosaic.Lib.StableHlo.RunLoop
public import Idealize.ShloMosaic.Lib.StableHlo.RunRead
public import Idealize.ShloMosaic.Lib.Scf.ExitTest
public import Idealize.ShloMosaic.Lib.Scf.Counter

@[expose] public section

set_option maxRecDepth 1288

noncomputable section

namespace Cert.ReferenceIdeal.Value

open Cert.ReferenceIdeal Cert.ReferenceIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.StableHlo
open Idealize.ShloMosaic.Pipeline (ucRefs sub_ucRefs)

variable {F : FTy → Type} [FloatOps F]

/-! ## The stretches: none allocates a buffer, and what each writes -/

/-- No operation of `hostOps0` allocates a buffer. -/
theorem hostOps0_fresh : (hostOps0 : List (HloOp τ sig (Elt F))).Forall fun op => op.fresh = ∅ :=
  StableHlo.forall_fresh_of_map rfl
/-- The reference each operation of `hostOps0` writes, in order. -/
abbrev hostOps0_W : List (Ref sig .tc) := [main_v0, main_v1, main_v2, main_v3, main_v4, main_cst, main_v5, main_v6, main_cst_0, main_v7, main_v8, main_c]
theorem hostOps0_writes : (hostOps0 : List (HloOp τ sig (Elt F))).Forall fun op => op.writes ⊆ (hostOps0_W.map (Proc.devRef (τ := τ) .tc)).toFinset :=
  StableHlo.forall_writes_sub_of_map rfl
/-- No operation of `hostOps0_1` allocates a buffer. -/
theorem hostOps0_1_fresh : (hostOps0_1 : List (HloOp τ sig (Elt F))).Forall fun op => op.fresh = ∅ :=
  StableHlo.forall_fresh_of_map rfl
/-- The reference each operation of `hostOps0_1` writes, in order. -/
abbrev hostOps0_1_W : List (Ref sig .tc) := [main_call0_cst, main_call0_v0, main_call0_v1, main_call0_cst_0, main_call0_v2, main_call0_v3, main_call0_v4, main_call0_v5, main_call0_v6, main_call0_v7, main_call0_cst_1, main_call0_v8, main_call0_cst_2, main_call0_v9, main_call0_v10, main_call0_v11, main_call0_v12, main_call0_cst_3, main_call0_v13, main_call0_cst_4, main_call0_call0_v0, main_call0_call0_v1, main_v9]
theorem hostOps0_1_writes : (hostOps0_1 : List (HloOp τ sig (Elt F))).Forall fun op => op.writes ⊆ (hostOps0_1_W.map (Proc.devRef (τ := τ) .tc)).toFinset :=
  StableHlo.forall_writes_sub_of_map rfl
/-- No operation of `hostOps0_2` allocates a buffer. -/
theorem hostOps0_2_fresh : (hostOps0_2 : List (HloOp τ sig (Elt F))).Forall fun op => op.fresh = ∅ :=
  StableHlo.forall_fresh_of_map rfl
/-- The reference each operation of `hostOps0_2` writes, in order. -/
abbrev hostOps0_2_W : List (Ref sig .tc) := [main_v10, main_v11, main_cst_1, main_v12, main_v13, main_v14, main_v15, main_v16, main_v17, main_v18, main_v19, main_v20, main_v21, main_v22]
theorem hostOps0_2_writes : (hostOps0_2 : List (HloOp τ sig (Elt F))).Forall fun op => op.writes ⊆ (hostOps0_2_W.map (Proc.devRef (τ := τ) .tc)).toFinset :=
  StableHlo.forall_writes_sub_of_map rfl
/-- No operation of `hostOps0_3` allocates a buffer. -/
theorem hostOps0_3_fresh : (hostOps0_3 : List (HloOp τ sig (Elt F))).Forall fun op => op.fresh = ∅ :=
  StableHlo.forall_fresh_of_map rfl
/-- The reference each operation of `hostOps0_3` writes, in order. -/
abbrev hostOps0_3_W : List (Ref sig .tc) := [main_call1_cst, main_call1_v0, main_v23]
theorem hostOps0_3_writes : (hostOps0_3 : List (HloOp τ sig (Elt F))).Forall fun op => op.writes ⊆ (hostOps0_3_W.map (Proc.devRef (τ := τ) .tc)).toFinset :=
  StableHlo.forall_writes_sub_of_map rfl
/-- No operation of `hostOps0_4` allocates a buffer. -/
theorem hostOps0_4_fresh : (hostOps0_4 : List (HloOp τ sig (Elt F))).Forall fun op => op.fresh = ∅ :=
  StableHlo.forall_fresh_of_map rfl
/-- The reference each operation of `hostOps0_4` writes, in order. -/
abbrev hostOps0_4_W : List (Ref sig .tc) := [main_v24, main_v25, main_v26, main_v27, main_v28, main_v29, main_v30, main_v31, main_cst_2, main_v32, main_v33, main_cst_3, main_v34, main_v35, main_c_4]
theorem hostOps0_4_writes : (hostOps0_4 : List (HloOp τ sig (Elt F))).Forall fun op => op.writes ⊆ (hostOps0_4_W.map (Proc.devRef (τ := τ) .tc)).toFinset :=
  StableHlo.forall_writes_sub_of_map rfl
/-- No operation of `hostOps0_5` allocates a buffer. -/
theorem hostOps0_5_fresh : (hostOps0_5 : List (HloOp τ sig (Elt F))).Forall fun op => op.fresh = ∅ :=
  StableHlo.forall_fresh_of_map rfl
/-- The reference each operation of `hostOps0_5` writes, in order. -/
abbrev hostOps0_5_W : List (Ref sig .tc) := [main_call2_cst, main_call2_v0, main_call2_v1, main_call2_cst_0, main_call2_v2, main_call2_v3, main_call2_v4, main_call2_v5, main_call2_v6, main_call2_v7, main_call2_cst_1, main_call2_v8, main_call2_cst_2, main_call2_v9, main_call2_v10, main_call2_v11, main_call2_v12, main_call2_cst_3, main_call2_v13, main_call2_cst_4, main_call2_call0_v0, main_call2_call0_v1, main_v36]
theorem hostOps0_5_writes : (hostOps0_5 : List (HloOp τ sig (Elt F))).Forall fun op => op.writes ⊆ (hostOps0_5_W.map (Proc.devRef (τ := τ) .tc)).toFinset :=
  StableHlo.forall_writes_sub_of_map rfl
/-- No operation of `hostOps0_6` allocates a buffer. -/
theorem hostOps0_6_fresh : (hostOps0_6 : List (HloOp τ sig (Elt F))).Forall fun op => op.fresh = ∅ :=
  StableHlo.forall_fresh_of_map rfl
/-- The reference each operation of `hostOps0_6` writes, in order. -/
abbrev hostOps0_6_W : List (Ref sig .tc) := [main_v37, main_v38, main_cst_5, main_v39, main_v40, main_v41, main_v42, main_v43, main_v44, main_v45, main_v46, main_v47, main_v48, main_v49]
theorem hostOps0_6_writes : (hostOps0_6 : List (HloOp τ sig (Elt F))).Forall fun op => op.writes ⊆ (hostOps0_6_W.map (Proc.devRef (τ := τ) .tc)).toFinset :=
  StableHlo.forall_writes_sub_of_map rfl
/-- No operation of `hostOps0_7` allocates a buffer. -/
theorem hostOps0_7_fresh : (hostOps0_7 : List (HloOp τ sig (Elt F))).Forall fun op => op.fresh = ∅ :=
  StableHlo.forall_fresh_of_map rfl
/-- The reference each operation of `hostOps0_7` writes, in order. -/
abbrev hostOps0_7_W : List (Ref sig .tc) := [main_call3_cst, main_call3_v0, main_v50]
theorem hostOps0_7_writes : (hostOps0_7 : List (HloOp τ sig (Elt F))).Forall fun op => op.writes ⊆ (hostOps0_7_W.map (Proc.devRef (τ := τ) .tc)).toFinset :=
  StableHlo.forall_writes_sub_of_map rfl
/-- No operation of `hostOps0_8` allocates a buffer. -/
theorem hostOps0_8_fresh : (hostOps0_8 : List (HloOp τ sig (Elt F))).Forall fun op => op.fresh = ∅ :=
  StableHlo.forall_fresh_of_map rfl
/-- The reference each operation of `hostOps0_8` writes, in order. -/
abbrev hostOps0_8_W : List (Ref sig .tc) := [main_v51, main_v52, main_v53, main_v54, main_v55, main_v56, main_cst_6, main_v57, main_cst_7, main_v58, main_c_8, main_v59_0, main_v59_1, main_v59_2, main_v59_3]
theorem hostOps0_8_writes : (hostOps0_8 : List (HloOp τ sig (Elt F))).Forall fun op => op.writes ⊆ (hostOps0_8_W.map (Proc.devRef (τ := τ) .tc)).toFinset :=
  StableHlo.forall_writes_sub_of_map rfl
/-- No operation of `while0Ops0` allocates a buffer. -/
theorem while0Ops0_fresh : (while0Ops0 : List (HloOp τ sig (Elt F))).Forall fun op => op.fresh = ∅ :=
  StableHlo.forall_fresh_of_map rfl
/-- The reference each operation of `while0Ops0` writes, in order. -/
abbrev while0Ops0_W : List (Ref sig .tc) := [main_while0b_cst_12, main_while0b_v66, main_while0b_v67, main_while0b_cst_13]
theorem while0Ops0_writes : (while0Ops0 : List (HloOp τ sig (Elt F))).Forall fun op => op.writes ⊆ (while0Ops0_W.map (Proc.devRef (τ := τ) .tc)).toFinset :=
  StableHlo.forall_writes_sub_of_map rfl
/-- No operation of `while0Ops0_1` allocates a buffer. -/
theorem while0Ops0_1_fresh : (while0Ops0_1 : List (HloOp τ sig (Elt F))).Forall fun op => op.fresh = ∅ :=
  StableHlo.forall_fresh_of_map rfl
/-- The reference each operation of `while0Ops0_1` writes, in order. -/
abbrev while0Ops0_1_W : List (Ref sig .tc) := [main_while0b_call4_v0, main_while0b_call4_v1, main_while0b_v68]
theorem while0Ops0_1_writes : (while0Ops0_1 : List (HloOp τ sig (Elt F))).Forall fun op => op.writes ⊆ (while0Ops0_1_W.map (Proc.devRef (τ := τ) .tc)).toFinset :=
  StableHlo.forall_writes_sub_of_map rfl
/-- No operation of `while0Ops0_2` allocates a buffer. -/
theorem while0Ops0_2_fresh : (while0Ops0_2 : List (HloOp τ sig (Elt F))).Forall fun op => op.fresh = ∅ :=
  StableHlo.forall_fresh_of_map rfl
/-- The reference each operation of `while0Ops0_2` writes, in order. -/
abbrev while0Ops0_2_W : List (Ref sig .tc) := [main_while0b_v69, main_while0b_v70, main_while0b_cst_14, main_while0b_v71, main_while0b_v72, main_while0b_cst_15, main_while0b_v73, main_while0b_cst_16, main_while0b_v74, main_while0b_v75, main_while0b_v76, main_while0b_v77, main_while0b_v78, main_while0b_v79, main_while0b_cst_17, main_while0b_v80, main_while0b_v81, main_while0b_v82, main_while0b_v83]
theorem while0Ops0_2_writes : (while0Ops0_2 : List (HloOp τ sig (Elt F))).Forall fun op => op.writes ⊆ (while0Ops0_2_W.map (Proc.devRef (τ := τ) .tc)).toFinset :=
  StableHlo.forall_writes_sub_of_map rfl
/-- No operation of `while0Ops0_3` allocates a buffer. -/
theorem while0Ops0_3_fresh : (while0Ops0_3 : List (HloOp τ sig (Elt F))).Forall fun op => op.fresh = ∅ :=
  StableHlo.forall_fresh_of_map rfl
/-- The reference each operation of `while0Ops0_3` writes, in order. -/
abbrev while0Ops0_3_W : List (Ref sig .tc) := [main_while0b_call5_v0, main_while0b_call5_cst, main_while0b_call5_c, main_while0b_call5_v1_0, main_while0b_v84]
theorem while0Ops0_3_writes : (while0Ops0_3 : List (HloOp τ sig (Elt F))).Forall fun op => op.writes ⊆ (while0Ops0_3_W.map (Proc.devRef (τ := τ) .tc)).toFinset :=
  StableHlo.forall_writes_sub_of_map rfl
/-- No operation of `while0Ops0_4` allocates a buffer. -/
theorem while0Ops0_4_fresh : (while0Ops0_4 : List (HloOp τ sig (Elt F))).Forall fun op => op.fresh = ∅ :=
  StableHlo.forall_fresh_of_map rfl
/-- The reference each operation of `while0Ops0_4` writes, in order. -/
abbrev while0Ops0_4_W : List (Ref sig .tc) := [main_while0b_call6_v0, main_while0b_call6_v1, main_while0b_call6_v2, main_while0b_call6_v3, main_while0b_call6_v4, main_while0b_v85]
theorem while0Ops0_4_writes : (while0Ops0_4 : List (HloOp τ sig (Elt F))).Forall fun op => op.writes ⊆ (while0Ops0_4_W.map (Proc.devRef (τ := τ) .tc)).toFinset :=
  StableHlo.forall_writes_sub_of_map rfl
/-- No operation of `while0Ops0_5` allocates a buffer. -/
theorem while0Ops0_5_fresh : (while0Ops0_5 : List (HloOp τ sig (Elt F))).Forall fun op => op.fresh = ∅ :=
  StableHlo.forall_fresh_of_map rfl
/-- The reference each operation of `while0Ops0_5` writes, in order. -/
abbrev while0Ops0_5_W : List (Ref sig .tc) := [main_while0b_v86, main_while0b_v87]
theorem while0Ops0_5_writes : (while0Ops0_5 : List (HloOp τ sig (Elt F))).Forall fun op => op.writes ⊆ (while0Ops0_5_W.map (Proc.devRef (τ := τ) .tc)).toFinset :=
  StableHlo.forall_writes_sub_of_map rfl
/-- No operation of `while0Ops0_6` allocates a buffer. -/
theorem while0Ops0_6_fresh : (while0Ops0_6 : List (HloOp τ sig (Elt F))).Forall fun op => op.fresh = ∅ :=
  StableHlo.forall_fresh_of_map rfl
/-- The reference each operation of `while0Ops0_6` writes, in order. -/
abbrev while0Ops0_6_W : List (Ref sig .tc) := [main_while0b_call7_v0, main_while0b_call7_c, main_while0b_call7_c_0, main_while0b_call7_c_1, main_while0b_v88]
theorem while0Ops0_6_writes : (while0Ops0_6 : List (HloOp τ sig (Elt F))).Forall fun op => op.writes ⊆ (while0Ops0_6_W.map (Proc.devRef (τ := τ) .tc)).toFinset :=
  StableHlo.forall_writes_sub_of_map rfl
/-- No operation of `while0Ops0_7` allocates a buffer. -/
theorem while0Ops0_7_fresh : (while0Ops0_7 : List (HloOp τ sig (Elt F))).Forall fun op => op.fresh = ∅ :=
  StableHlo.forall_fresh_of_map rfl
/-- The reference each operation of `while0Ops0_7` writes, in order. -/
abbrev while0Ops0_7_W : List (Ref sig .tc) := [main_while0b_c_18, main_while0b_v89, main_v59_0, main_v59_1, main_v59_2, main_v59_3]
theorem while0Ops0_7_writes : (while0Ops0_7 : List (HloOp τ sig (Elt F))).Forall fun op => op.writes ⊆ (while0Ops0_7_W.map (Proc.devRef (τ := τ) .tc)).toFinset :=
  StableHlo.forall_writes_sub_of_map rfl
/-- No operation of `hostOps0_9` allocates a buffer. -/
theorem hostOps0_9_fresh : (hostOps0_9 : List (HloOp τ sig (Elt F))).Forall fun op => op.fresh = ∅ :=
  StableHlo.forall_fresh_of_map rfl
/-- No operation of `hostOps0_10` allocates a buffer. -/
theorem hostOps0_10_fresh : (hostOps0_10 : List (HloOp τ sig (Elt F))).Forall fun op => op.fresh = ∅ :=
  StableHlo.forall_fresh_of_map rfl

/-- The condition region's two operations: the bound, and the trip counter compared with it. -/
abbrev condOps : List (HloOp τ sig (Elt F)) :=
  [ StableHlo.nullary main_while0c_c_12 (constantI S_ 32 1024#32),
    StableHlo.binary main_v59_0 main_while0c_c_12 main_while0c_v66 (cmpi .slt) ]

/-- @main's stretches before the loop, the loop body's, and @main's after the loop. -/
abbrev preI : List (List (HloOp τ sig (Elt F))) := [hostOps0, hostOps0_1, hostOps0_2, hostOps0_3, hostOps0_4, hostOps0_5, hostOps0_6, hostOps0_7, hostOps0_8]
abbrev bodyI : List (List (HloOp τ sig (Elt F))) := [while0Ops0, while0Ops0_1, while0Ops0_2, while0Ops0_3, while0Ops0_4, while0Ops0_5, while0Ops0_6, while0Ops0_7]
abbrev postI : List (List (HloOp τ sig (Elt F))) := [hostOps0_9, hostOps0_10]

theorem hpre : Plain (preI (F := F)) := .cons hostOps0_sub (hf := List.forall_iff_forall_mem.mp hostOps0_fresh) (.cons hostOps0_1_sub (hf := List.forall_iff_forall_mem.mp hostOps0_1_fresh) (.cons hostOps0_2_sub (hf := List.forall_iff_forall_mem.mp hostOps0_2_fresh) (.cons hostOps0_3_sub (hf := List.forall_iff_forall_mem.mp hostOps0_3_fresh) (.cons hostOps0_4_sub (hf := List.forall_iff_forall_mem.mp hostOps0_4_fresh) (.cons hostOps0_5_sub (hf := List.forall_iff_forall_mem.mp hostOps0_5_fresh) (.cons hostOps0_6_sub (hf := List.forall_iff_forall_mem.mp hostOps0_6_fresh) (.cons hostOps0_7_sub (hf := List.forall_iff_forall_mem.mp hostOps0_7_fresh) (.cons hostOps0_8_sub (hf := List.forall_iff_forall_mem.mp hostOps0_8_fresh) (.nil)))))))))
theorem hbodyI : Plain (bodyI (F := F)) := .cons while0Ops0_sub (hf := List.forall_iff_forall_mem.mp while0Ops0_fresh) (.cons while0Ops0_1_sub (hf := List.forall_iff_forall_mem.mp while0Ops0_1_fresh) (.cons while0Ops0_2_sub (hf := List.forall_iff_forall_mem.mp while0Ops0_2_fresh) (.cons while0Ops0_3_sub (hf := List.forall_iff_forall_mem.mp while0Ops0_3_fresh) (.cons while0Ops0_4_sub (hf := List.forall_iff_forall_mem.mp while0Ops0_4_fresh) (.cons while0Ops0_5_sub (hf := List.forall_iff_forall_mem.mp while0Ops0_5_fresh) (.cons while0Ops0_6_sub (hf := List.forall_iff_forall_mem.mp while0Ops0_6_fresh) (.cons while0Ops0_7_sub (hf := List.forall_iff_forall_mem.mp while0Ops0_7_fresh) (.nil))))))))
theorem hpost : Plain (postI (F := F)) := .cons hostOps0_9_sub (hf := List.forall_iff_forall_mem.mp hostOps0_9_fresh) (.cons hostOps0_10_sub (hf := List.forall_iff_forall_mem.mp hostOps0_10_fresh) (.nil))

/-- The reference each operation of `condOps` writes, in order. -/
abbrev condOps_W : List (Ref sig .tc) := [main_while0c_c_12, main_while0c_v66]
theorem condOps_writes : (condOps : List (HloOp τ sig (Elt F))).Forall fun op => op.writes ⊆ (condOps_W.map (Proc.devRef (τ := τ) .tc)).toFinset :=
  StableHlo.forall_writes_sub_of_map rfl

variable (m : (ℓ : Loc nD τ sig) → Buf (Elt F) ℓ) (ρ : Dev nD → PrngReg)

/-- Every buffer's contents before the `k`-th run of the condition, counted from 0. -/
abbrev atK (k : ℕ) (c : Dev nD) : Valuation τ sig (Elt F) := atTrip condOps bodyI (entryContents preI m) k c

/-- The trip counter (`main_v59_0`) is written by one stretch of the body, `while0Ops0_7`: not by the condition, nor by the
    body's other stretches. -/
theorem ctr_cond (V : Valuation τ sig (Elt F)) : after condOps V (Proc.devRef .tc main_v59_0) = V (Proc.devRef .tc main_v59_0) :=
  after_of_writes_sub condOps V condOps_writes (by decide +kernel)
theorem ctr_while0Ops0 (V : Valuation τ sig (Elt F)) : after while0Ops0 V (Proc.devRef .tc main_v59_0) = V (Proc.devRef .tc main_v59_0) :=
  after_of_writes_sub while0Ops0 V while0Ops0_writes (by decide +kernel)
theorem ctr_while0Ops0_1 (V : Valuation τ sig (Elt F)) : after while0Ops0_1 V (Proc.devRef .tc main_v59_0) = V (Proc.devRef .tc main_v59_0) :=
  after_of_writes_sub while0Ops0_1 V while0Ops0_1_writes (by decide +kernel)
theorem ctr_while0Ops0_2 (V : Valuation τ sig (Elt F)) : after while0Ops0_2 V (Proc.devRef .tc main_v59_0) = V (Proc.devRef .tc main_v59_0) :=
  after_of_writes_sub while0Ops0_2 V while0Ops0_2_writes (by decide +kernel)
theorem ctr_while0Ops0_3 (V : Valuation τ sig (Elt F)) : after while0Ops0_3 V (Proc.devRef .tc main_v59_0) = V (Proc.devRef .tc main_v59_0) :=
  after_of_writes_sub while0Ops0_3 V while0Ops0_3_writes (by decide +kernel)
theorem ctr_while0Ops0_4 (V : Valuation τ sig (Elt F)) : after while0Ops0_4 V (Proc.devRef .tc main_v59_0) = V (Proc.devRef .tc main_v59_0) :=
  after_of_writes_sub while0Ops0_4 V while0Ops0_4_writes (by decide +kernel)
theorem ctr_while0Ops0_5 (V : Valuation τ sig (Elt F)) : after while0Ops0_5 V (Proc.devRef .tc main_v59_0) = V (Proc.devRef .tc main_v59_0) :=
  after_of_writes_sub while0Ops0_5 V while0Ops0_5_writes (by decide +kernel)
theorem ctr_while0Ops0_6 (V : Valuation τ sig (Elt F)) : after while0Ops0_6 V (Proc.devRef .tc main_v59_0) = V (Proc.devRef .tc main_v59_0) :=
  after_of_writes_sub while0Ops0_6 V while0Ops0_6_writes (by decide +kernel)

set_option maxRecDepth 100000 in
/-- `while0Ops0_7` leaves the counter one step on. -/
theorem ctr_step (X : Valuation τ sig (Elt F)) :
    after while0Ops0_7 X (Proc.devRef .tc main_v59_0) = addi (X (Proc.devRef .tc main_v59_0)) (constantI S_ 32 1#32) := by
  after_results
  rfl

/-- The counter is the loop's lower bound at the loop's entry: its last writer before the loop read back. -/
theorem ctr_entry (c : Dev nD) : entryContents preI m c (Proc.devRef .tc main_v59_0) = fun _ => (0#32 : BitVec 32) := by
  simp only [entryContents, afterL_cons, afterL_nil]
  after_reads_simp
  rfl

/-- Before the `k`-th condition the counter is the loop's induction variable at `k`. -/
theorem atK_ctr (c : Dev nD) : ∀ k, atK m k c (Proc.devRef .tc main_v59_0) = fun _ => Scf.iv 0#32 1#32 k
  | 0 => by rw [show atK m 0 c = entryContents preI m c from rfl, ctr_entry, Scf.iv_zero]
  | k + 1 => by
    rw [show atK m (k + 1) c = afterL bodyI (after condOps (atK m k c)) from rfl]
    simp only [afterL_cons, afterL_nil]
    rw [ctr_step, ctr_while0Ops0_6, ctr_while0Ops0_5, ctr_while0Ops0_4, ctr_while0Ops0_3, ctr_while0Ops0_2, ctr_while0Ops0_1, ctr_while0Ops0, ctr_cond, atK_ctr c k, Scf.iv_succ]
    rfl

set_option backward.isDefEq.respectTransparency.types false in
/-- The condition's specification at the fold. -/
theorem cond_spec : CondSpec (pcfgs (F := F)) defs₀ loops (main_while0_cond (F := F)) condOps bodyI (entryContents preI m) 1024 := by
  intro k hk c bd
  have hctr := atK_ctr m c k
  unfold main_while0_cond
  rw [wp_bind]
  iintro ⟨Hb, Hh⟩
  iapply (wp_hlo_within (Variants.lift Variants.none) (c : Thread nD τ) bd Set.univ (sub_ucRefs _ (nullary_bufs_sub ..))) $$ [Hb Hh]
  · isplitl [Hb]; · iexact Hb
    iexact Hh
  iintro ⟨Hb, Hh⟩
  rw [wp_ret]; imodintro
  iapply (wp_hlo_within (Variants.lift Variants.none) (c : Thread nD τ) bd Set.univ (sub_ucRefs _ (binary_bufs_sub ..))) $$ [Hb Hh]
  · isplitl [Hb]; · iexact Hb
    iexact Hh
  iintro ⟨Hb, Hh⟩
  rw [HostLoop.elt_apply, wp_ret]; imodintro
  isplitr
  · ipureintro
    show Iff (IntOp.cmpi .slt (HloOp.result _ (atK m k c) main_v59_0 HostLoop.idx0)
        (HloOp.result _ (atK m k c) main_while0c_c_12 HostLoop.idx0) = 1#1) (k < 1024)
    rw [nullary_result_ne _ _ _ _ (by decide), nullary_result, hctr]
    exact Scf.cmpi_slt_iv_ub_iff (lb := 0#32) (ub := 1024#32) (st := 1#32) (by decide) (show k ≤ Scf.trips 0#32 1024#32 1#32 from hk)
  isplitl [Hb]; · iexact Hb
  rw [after_cons, after_cons, after_nil]; iexact Hh

set_option maxRecDepth 100000 in
/-- The reference ends, from any memory, with the contents that its operations compute one after the other. -/
theorem run_fold : θ_run (defs (F := F)) (onTc (τ := τ) (main (F := F))) ⟨m, fun _ => 0, ρ⟩
    (fun r => ∀ (c : Dev nD) (b : Ref sig .tc), (Proc.devRef .tc b : DevRef τ sig).isScoped = false →
      r.2.mem ((c.tc : Thread nD τ).loc b) = finalContents condOps preI bodyI postI 1024 m c (Proc.devRef .tc b)) :=
  run_loop (pcfgs (F := F)) defs₀ loops main 0 main_while0_cond main_while0_body rfl preI bodyI postI condOps hpre hbodyI hpost
    (fun c => by rw [main_chain]; rfl) (by rw [while0_body_chain]; rfl) 1024 m ρ (cond_spec m)

/-! ## One trip's values -/

/-- The body's operations 1 … 4 of 50. -/
abbrev trip_w0 : List (HloOp τ sig (Elt F)) :=
  [ StableHlo.nullary main_while0b_cst_12 (constant S_ .f32 0x3F800000#32),
    StableHlo.unary main_while0b_cst_12 main_while0b_v66 (broadcastInDim S8x1x2048 ![] bcast_S_S8x1x2048 : (⟨S_, .f32⟩ : BufTy).Contents (Elt F) → (⟨S8x1x2048, .f32⟩ : BufTy).Contents (Elt F)),
    StableHlo.binary main_while0b_v66 main_v59_2 main_while0b_v67 (subf : (⟨S8x1x2048, .f32⟩ : BufTy).Contents (Elt F) → (⟨S8x1x2048, .f32⟩ : BufTy).Contents (Elt F) → (⟨S8x1x2048, .f32⟩ : BufTy).Contents (Elt F)),
    StableHlo.nullary main_while0b_cst_13 (constant S_ .f32 0x00800000#32) ]

/-- The body's operations 5 … 7 of 50. -/
abbrev trip_w1 : List (HloOp τ sig (Elt F)) :=
  [ StableHlo.TRef.unary (.of main_while0b_cst_13 : StableHlo.TRef sig ⟨S_, .f32⟩) (.of main_while0b_call4_v0 : StableHlo.TRef sig ⟨S_, .f32⟩) id,
    StableHlo.TRef.unary (.of main_while0b_call4_v0 : StableHlo.TRef sig ⟨S_, .f32⟩) (.of main_while0b_call4_v1 : StableHlo.TRef sig ⟨S8x1x2048, .f32⟩) (broadcastInDim S8x1x2048 ![] bcast_S_S8x1x2048),
    StableHlo.TRef.binary (.of main_while0b_call4_v1 : StableHlo.TRef sig ⟨S8x1x2048, .f32⟩) (.of main_while0b_v67 : StableHlo.TRef sig ⟨S8x1x2048, .f32⟩) (.of main_while0b_v68 : StableHlo.TRef sig ⟨S8x1x2048, .f32⟩) maximumf ]

/-- The body's operations 8 … 26 of 50. -/
abbrev trip_w2 : List (HloOp τ sig (Elt F)) :=
  [ StableHlo.unary main_while0b_v68 main_while0b_v69 (Host.log : (⟨S8x1x2048, .f32⟩ : BufTy).Contents (Elt F) → (⟨S8x1x2048, .f32⟩ : BufTy).Contents (Elt F)),
    StableHlo.binary main_v59_1 main_while0b_v69 main_while0b_v70 (addf : (⟨S8x1x2048, .f32⟩ : BufTy).Contents (Elt F) → (⟨S8x1x2048, .f32⟩ : BufTy).Contents (Elt F) → (⟨S8x1x2048, .f32⟩ : BufTy).Contents (Elt F)),
    StableHlo.nullary main_while0b_cst_14 (constant S_ .f32 0x3DCCCCCD#32),
    StableHlo.unary main_while0b_cst_14 main_while0b_v71 (broadcastInDim S8x1x2048 ![] bcast_S_S8x1x2048 : (⟨S_, .f32⟩ : BufTy).Contents (Elt F) → (⟨S8x1x2048, .f32⟩ : BufTy).Contents (Elt F)),
    StableHlo.binary main_while0b_v70 main_while0b_v71 main_while0b_v72 (Host.divf : (⟨S8x1x2048, .f32⟩ : BufTy).Contents (Elt F) → (⟨S8x1x2048, .f32⟩ : BufTy).Contents (Elt F) → (⟨S8x1x2048, .f32⟩ : BufTy).Contents (Elt F)),
    StableHlo.nullary main_while0b_cst_15 (constant S_ .f32 0xFF800000#32),
    StableHlo.binary main_while0b_v72 main_while0b_cst_15 main_while0b_v73 ((fun x v => Host.reduce FloatOps.maximumf x v reducesTo_S8x1x2048_S8x1_d2 h_S_) : (⟨S8x1x2048, .f32⟩ : BufTy).Contents (Elt F) → (⟨S_, .f32⟩ : BufTy).Contents (Elt F) → (⟨S8x1, .f32⟩ : BufTy).Contents (Elt F)),
    StableHlo.nullary main_while0b_cst_16 (constant S_ .f32 0xFF800000#32),
    StableHlo.unary main_while0b_cst_16 main_while0b_v74 (broadcastInDim S8x1 ![] bcast_S_S8x1 : (⟨S_, .f32⟩ : BufTy).Contents (Elt F) → (⟨S8x1, .f32⟩ : BufTy).Contents (Elt F)),
    StableHlo.binary main_while0b_v74 main_while0b_v73 main_while0b_v75 (maximumf : (⟨S8x1, .f32⟩ : BufTy).Contents (Elt F) → (⟨S8x1, .f32⟩ : BufTy).Contents (Elt F) → (⟨S8x1, .f32⟩ : BufTy).Contents (Elt F)),
    StableHlo.unary main_while0b_v75 main_while0b_v76 (broadcastInDim S8x1x1 ![0, 1] bcast_S8x1_S8x1x1_0_1 : (⟨S8x1, .f32⟩ : BufTy).Contents (Elt F) → (⟨S8x1x1, .f32⟩ : BufTy).Contents (Elt F)),
    StableHlo.unary main_while0b_v76 main_while0b_v77 (broadcastInDim S8x1x2048 ![0, 1, 2] bcast_S8x1x1_S8x1x2048_0_1_2 : (⟨S8x1x1, .f32⟩ : BufTy).Contents (Elt F) → (⟨S8x1x2048, .f32⟩ : BufTy).Contents (Elt F)),
    StableHlo.binary main_while0b_v72 main_while0b_v77 main_while0b_v78 (subf : (⟨S8x1x2048, .f32⟩ : BufTy).Contents (Elt F) → (⟨S8x1x2048, .f32⟩ : BufTy).Contents (Elt F) → (⟨S8x1x2048, .f32⟩ : BufTy).Contents (Elt F)),
    StableHlo.unary main_while0b_v78 main_while0b_v79 (Host.exp : (⟨S8x1x2048, .f32⟩ : BufTy).Contents (Elt F) → (⟨S8x1x2048, .f32⟩ : BufTy).Contents (Elt F)),
    StableHlo.nullary main_while0b_cst_17 (constant S_ .f32 0x00000000#32),
    StableHlo.binary main_while0b_v79 main_while0b_cst_17 main_while0b_v80 ((fun x v => Host.reduceAdd x v reducesTo_S8x1x2048_S8x1_d2 h_S_) : (⟨S8x1x2048, .f32⟩ : BufTy).Contents (Elt F) → (⟨S_, .f32⟩ : BufTy).Contents (Elt F) → (⟨S8x1, .f32⟩ : BufTy).Contents (Elt F)),
    StableHlo.unary main_while0b_v80 main_while0b_v81 (broadcastInDim S8x1x1 ![0, 1] bcast_S8x1_S8x1x1_0_1 : (⟨S8x1, .f32⟩ : BufTy).Contents (Elt F) → (⟨S8x1x1, .f32⟩ : BufTy).Contents (Elt F)),
    StableHlo.unary main_while0b_v81 main_while0b_v82 (broadcastInDim S8x1x2048 ![0, 1, 2] bcast_S8x1x1_S8x1x2048_0_1_2 : (⟨S8x1x1, .f32⟩ : BufTy).Contents (Elt F) → (⟨S8x1x2048, .f32⟩ : BufTy).Contents (Elt F)),
    StableHlo.binary main_while0b_v79 main_while0b_v82 main_while0b_v83 (Host.divf : (⟨S8x1x2048, .f32⟩ : BufTy).Contents (Elt F) → (⟨S8x1x2048, .f32⟩ : BufTy).Contents (Elt F) → (⟨S8x1x2048, .f32⟩ : BufTy).Contents (Elt F)) ]

/-- The body's operations 27 … 31 of 50. -/
abbrev trip_w3 : List (HloOp τ sig (Elt F)) :=
  [ StableHlo.TRef.nullary (.of main_while0b_call5_v0 : StableHlo.TRef sig ⟨S8x1x2048, .i32⟩) (iotaInDim S8x1x2048 32 2),
    StableHlo.TRef.nullary (.of main_while0b_call5_cst : StableHlo.TRef sig ⟨S_, .f32⟩) (constant S_ .f32 0xFF800000#32),
    StableHlo.TRef.nullary (.of main_while0b_call5_c : StableHlo.TRef sig ⟨S_, .i32⟩) (constantI S_ 32 0#32),
    StableHlo.TRef.quaternary (.of main_while0b_v83 : StableHlo.TRef sig ⟨S8x1x2048, .f32⟩) (.of main_while0b_call5_v0 : StableHlo.TRef sig ⟨S8x1x2048, .i32⟩) (.of main_while0b_call5_cst : StableHlo.TRef sig ⟨S_, .f32⟩) (.of main_while0b_call5_c : StableHlo.TRef sig ⟨S_, .i32⟩) (.of main_while0b_call5_v1_0 : StableHlo.TRef sig ⟨S8x1, .f32⟩) (fun x y u v j => (Host.argReduce reducer_argmax_f32_i32 x y u v reducesTo_S8x1x2048_S8x1_d2 h_S_ j).1),
    StableHlo.TRef.quaternary (.of main_while0b_v83 : StableHlo.TRef sig ⟨S8x1x2048, .f32⟩) (.of main_while0b_call5_v0 : StableHlo.TRef sig ⟨S8x1x2048, .i32⟩) (.of main_while0b_call5_cst : StableHlo.TRef sig ⟨S_, .f32⟩) (.of main_while0b_call5_c : StableHlo.TRef sig ⟨S_, .i32⟩) (.of main_while0b_v84 : StableHlo.TRef sig ⟨S8x1, .i32⟩) (fun x y u v j => (Host.argReduce reducer_argmax_f32_i32 x y u v reducesTo_S8x1x2048_S8x1_d2 h_S_ j).2) ]

/-- The body's operations 32 … 37 of 50. -/
abbrev trip_w4 : List (HloOp τ sig (Elt F)) :=
  [ StableHlo.TRef.unary (.of main_while0b_v84 : StableHlo.TRef sig ⟨S8x1, .i32⟩) (.of main_while0b_call6_v0 : StableHlo.TRef sig ⟨S8x1x1, .i32⟩) (broadcastInDim S8x1x1 ![0, 1] bcast_S8x1_S8x1x1_0_1),
    StableHlo.TRef.nullary (.of main_while0b_call6_v1 : StableHlo.TRef sig ⟨S1x1x2048, .i32⟩) (iotaInDim S1x1x2048 32 2),
    StableHlo.TRef.unary (.of main_while0b_call6_v0 : StableHlo.TRef sig ⟨S8x1x1, .i32⟩) (.of main_while0b_call6_v2 : StableHlo.TRef sig ⟨S8x1x2048, .i32⟩) (broadcastInDim S8x1x2048 ![0, 1, 2] bcast_S8x1x1_S8x1x2048_0_1_2),
    StableHlo.TRef.unary (.of main_while0b_call6_v1 : StableHlo.TRef sig ⟨S1x1x2048, .i32⟩) (.of main_while0b_call6_v3 : StableHlo.TRef sig ⟨S8x1x2048, .i32⟩) (broadcastInDim S8x1x2048 ![0, 1, 2] bcast_S1x1x2048_S8x1x2048_0_1_2),
    StableHlo.TRef.binary (.of main_while0b_call6_v2 : StableHlo.TRef sig ⟨S8x1x2048, .i32⟩) (.of main_while0b_call6_v3 : StableHlo.TRef sig ⟨S8x1x2048, .i32⟩) (.of main_while0b_call6_v4 : StableHlo.TRef sig ⟨S8x1x2048, .i1⟩) (cmpi .eq),
    StableHlo.TRef.unary (.of main_while0b_call6_v4 : StableHlo.TRef sig ⟨S8x1x2048, .i1⟩) (.of main_while0b_v85 : StableHlo.TRef sig ⟨S8x1x2048, .f32⟩) (uitofp .f32) ]

/-- The body's operations 38 … 39 of 50. -/
abbrev trip_w5 : List (HloOp τ sig (Elt F)) :=
  [ StableHlo.binary main_while0b_v85 main_while0b_v83 main_while0b_v86 (subf : (⟨S8x1x2048, .f32⟩ : BufTy).Contents (Elt F) → (⟨S8x1x2048, .f32⟩ : BufTy).Contents (Elt F) → (⟨S8x1x2048, .f32⟩ : BufTy).Contents (Elt F)),
    StableHlo.binary main_while0b_v86 main_while0b_v83 main_while0b_v87 (addf : (⟨S8x1x2048, .f32⟩ : BufTy).Contents (Elt F) → (⟨S8x1x2048, .f32⟩ : BufTy).Contents (Elt F) → (⟨S8x1x2048, .f32⟩ : BufTy).Contents (Elt F)) ]

/-- The body's operations 40 … 44 of 50. -/
abbrev trip_w6 : List (HloOp τ sig (Elt F)) :=
  [ StableHlo.TRef.unary (.of main_while0b_v87 : StableHlo.TRef sig ⟨S8x1x2048, .f32⟩) (.of main_while0b_call7_v0 : StableHlo.TRef sig ⟨S1x8x1x2048, .f32⟩) (broadcastInDim S1x8x1x2048 ![1, 2, 3] bcast_S8x1x2048_S1x8x1x2048_1_2_3),
    StableHlo.TRef.nullary (.of main_while0b_call7_c : StableHlo.TRef sig ⟨S_, .i32⟩) (constantI S_ 32 0#32),
    StableHlo.TRef.nullary (.of main_while0b_call7_c_0 : StableHlo.TRef sig ⟨S_, .i32⟩) (constantI S_ 32 0#32),
    StableHlo.TRef.nullary (.of main_while0b_call7_c_1 : StableHlo.TRef sig ⟨S_, .i32⟩) (constantI S_ 32 0#32),
    StableHlo.TRef.binaryIndexed (.of main_v59_3 : StableHlo.TRef sig ⟨S1024x8x1x2048, .f32⟩) (.of main_while0b_call7_v0 : StableHlo.TRef sig ⟨S1x8x1x2048, .f32⟩) ![(.of main_v59_0 : StableHlo.TRef sig ⟨S_, .i32⟩), (.of main_while0b_call7_c : StableHlo.TRef sig ⟨S_, .i32⟩), (.of main_while0b_call7_c_0 : StableHlo.TRef sig ⟨S_, .i32⟩), (.of main_while0b_call7_c_1 : StableHlo.TRef sig ⟨S_, .i32⟩)] (.of main_while0b_v88 : StableHlo.TRef sig ⟨S1024x8x1x2048, .f32⟩) (fun x u i => Host.dynamicUpdateSlice x u (fun k => (i k (Shape.Idx.first h_S_)).toInt) updateFits_S1024x8x1x2048_S1x8x1x2048) ]

set_option maxRecDepth 5000 in
/-- `while0Ops0` is its windows in order. -/
theorem while0Ops0_cut : (while0Ops0 : List (HloOp τ sig (Elt F))) = trip_w0 := rfl
set_option maxRecDepth 5000 in
/-- `while0Ops0_1` is its windows in order. -/
theorem while0Ops0_1_cut : (while0Ops0_1 : List (HloOp τ sig (Elt F))) = trip_w1 := rfl
set_option maxRecDepth 5000 in
/-- `while0Ops0_2` is its windows in order. -/
theorem while0Ops0_2_cut : (while0Ops0_2 : List (HloOp τ sig (Elt F))) = trip_w2 := rfl
set_option maxRecDepth 5000 in
/-- `while0Ops0_3` is its windows in order. -/
theorem while0Ops0_3_cut : (while0Ops0_3 : List (HloOp τ sig (Elt F))) = trip_w3 := rfl
set_option maxRecDepth 5000 in
/-- `while0Ops0_4` is its windows in order. -/
theorem while0Ops0_4_cut : (while0Ops0_4 : List (HloOp τ sig (Elt F))) = trip_w4 := rfl
set_option maxRecDepth 5000 in
/-- `while0Ops0_5` is its windows in order. -/
theorem while0Ops0_5_cut : (while0Ops0_5 : List (HloOp τ sig (Elt F))) = trip_w5 := rfl
set_option maxRecDepth 5000 in
/-- `while0Ops0_6` is its windows in order. -/
theorem while0Ops0_6_cut : (while0Ops0_6 : List (HloOp τ sig (Elt F))) = trip_w6 := rfl

set_option maxRecDepth 8192 in
/-- The value `main_while0b_v70` in a trip, from the buffers that the loop carries. -/
def res_main_while0b_v70 (V0 : Valuation τ sig (Elt F)) : (Proc.devRef .tc main_while0b_v70 : DevRef τ sig).ty.Contents (Elt F) :=
  addf (V0 (Proc.devRef .tc main_v59_1)) (Host.log (maximumf (broadcastInDim S8x1x2048 ![] bcast_S_S8x1x2048 (id (constant S_ .f32 0x00800000#32))) (subf (broadcastInDim S8x1x2048 ![] bcast_S_S8x1x2048 (constant S_ .f32 0x3F800000#32)) (V0 (Proc.devRef .tc main_v59_2)))))

set_option maxRecDepth 8192 in
/-- The value `main_while0b_v72` in a trip, from the buffers that the loop carries. -/
def res_main_while0b_v72 (V0 : Valuation τ sig (Elt F)) : (Proc.devRef .tc main_while0b_v72 : DevRef τ sig).ty.Contents (Elt F) :=
  Host.divf (res_main_while0b_v70 V0) (broadcastInDim S8x1x2048 ![] bcast_S_S8x1x2048 (constant S_ .f32 0x3DCCCCCD#32))

set_option maxRecDepth 8192 in
/-- The value `main_while0b_v79` in a trip, from the buffers that the loop carries. -/
def res_main_while0b_v79 (V0 : Valuation τ sig (Elt F)) : (Proc.devRef .tc main_while0b_v79 : DevRef τ sig).ty.Contents (Elt F) :=
  Host.exp (subf (res_main_while0b_v72 V0) (broadcastInDim S8x1x2048 ![0, 1, 2] bcast_S8x1x1_S8x1x2048_0_1_2 (broadcastInDim S8x1x1 ![0, 1] bcast_S8x1_S8x1x1_0_1 (maximumf (broadcastInDim S8x1 ![] bcast_S_S8x1 (constant S_ .f32 0xFF800000#32)) (Host.reduce FloatOps.maximumf (res_main_while0b_v72 V0) (constant S_ .f32 0xFF800000#32) reducesTo_S8x1x2048_S8x1_d2 h_S_)))))

set_option maxRecDepth 8192 in
/-- The value `main_while0b_v83` in a trip, from the buffers that the loop carries. -/
def res_main_while0b_v83 (V0 : Valuation τ sig (Elt F)) : (Proc.devRef .tc main_while0b_v83 : DevRef τ sig).ty.Contents (Elt F) :=
  Host.divf (res_main_while0b_v79 V0) (broadcastInDim S8x1x2048 ![0, 1, 2] bcast_S8x1x1_S8x1x2048_0_1_2 (broadcastInDim S8x1x1 ![0, 1] bcast_S8x1_S8x1x1_0_1 (Host.reduceAdd (res_main_while0b_v79 V0) (constant S_ .f32 0x00000000#32) reducesTo_S8x1x2048_S8x1_d2 h_S_)))

set_option maxRecDepth 8192 in
/-- The value `main_while0b_call5_v0` in a trip, from the buffers that the loop carries. -/
def res_main_while0b_call5_v0 (V0 : Valuation τ sig (Elt F)) : (Proc.devRef .tc main_while0b_call5_v0 : DevRef τ sig).ty.Contents (Elt F) :=
  iotaInDim S8x1x2048 32 2

set_option maxRecDepth 8192 in
/-- The value `main_while0b_call5_cst` in a trip, from the buffers that the loop carries. -/
def res_main_while0b_call5_cst (V0 : Valuation τ sig (Elt F)) : (Proc.devRef .tc main_while0b_call5_cst : DevRef τ sig).ty.Contents (Elt F) :=
  constant S_ .f32 0xFF800000#32

set_option maxRecDepth 8192 in
/-- The value `main_while0b_call5_c` in a trip, from the buffers that the loop carries. -/
def res_main_while0b_call5_c (V0 : Valuation τ sig (Elt F)) : (Proc.devRef .tc main_while0b_call5_c : DevRef τ sig).ty.Contents (Elt F) :=
  constantI S_ 32 0#32

set_option maxRecDepth 8192 in
/-- The value `main_while0b_v87` in a trip, from the buffers that the loop carries. -/
def res_main_while0b_v87 (V0 : Valuation τ sig (Elt F)) : (Proc.devRef .tc main_while0b_v87 : DevRef τ sig).ty.Contents (Elt F) :=
  addf (subf (uitofp .f32 (cmpi .eq (broadcastInDim S8x1x2048 ![0, 1, 2] bcast_S8x1x1_S8x1x2048_0_1_2 (broadcastInDim S8x1x1 ![0, 1] bcast_S8x1_S8x1x1_0_1 ((fun j => (Host.argReduce reducer_argmax_f32_i32 (res_main_while0b_v83 V0) (res_main_while0b_call5_v0 V0) (res_main_while0b_call5_cst V0) (res_main_while0b_call5_c V0) reducesTo_S8x1x2048_S8x1_d2 h_S_ j).2)))) (broadcastInDim S8x1x2048 ![0, 1, 2] bcast_S1x1x2048_S8x1x2048_0_1_2 (iotaInDim S1x1x2048 32 2)))) (res_main_while0b_v83 V0)) (res_main_while0b_v83 V0)

/-- The device's buffer contents before the body's first window. -/
def val0 (V0 : Valuation τ sig (Elt F)) : Valuation τ sig (Elt F) := V0
theorem val0_main_v59_2 (V0 : Valuation τ sig (Elt F)) : val0 V0 (no_index (Proc.devRef .tc main_v59_2)) = V0 (Proc.devRef .tc main_v59_2) := rfl
theorem val0_main_v59_1 (V0 : Valuation τ sig (Elt F)) : val0 V0 (no_index (Proc.devRef .tc main_v59_1)) = V0 (Proc.devRef .tc main_v59_1) := rfl
theorem val0_main_v59_3 (V0 : Valuation τ sig (Elt F)) : val0 V0 (no_index (Proc.devRef .tc main_v59_3)) = V0 (Proc.devRef .tc main_v59_3) := rfl
theorem val0_main_v59_0 (V0 : Valuation τ sig (Elt F)) : val0 V0 (no_index (Proc.devRef .tc main_v59_0)) = V0 (Proc.devRef .tc main_v59_0) := rfl

/-- The device's buffer contents after the body's first 1 window. -/
def val1 (V0 : Valuation τ sig (Elt F)) : Valuation τ sig (Elt F) := after trip_w0 (val0 V0)
/-- The buffers that window `trip_w0`'s operations write. -/
abbrev trip_w0_W : List (Ref sig .tc) := [main_while0b_cst_12, main_while0b_v66, main_while0b_v67, main_while0b_cst_13]
set_option maxRecDepth 8192 in
theorem trip_w0_writes : (trip_w0 : List (HloOp τ sig (Elt F))).Forall fun op => op.writes ⊆ (trip_w0_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that window `trip_w0` does not write keeps its contents through it. -/
theorem val1_keep (V0 : Valuation τ sig (Elt F)) (r : Ref sig .tc) (h : r ∉ trip_w0_W) :
    val1 V0 (Proc.devRef .tc r) = val0 V0 (Proc.devRef .tc r) :=
  after_of_writes_sub trip_w0 _ trip_w0_writes h
theorem val1_main_v59_2 (V0 : Valuation τ sig (Elt F)) : val1 V0 (no_index (Proc.devRef .tc main_v59_2)) = V0 (Proc.devRef .tc main_v59_2) :=
  (val1_keep V0 main_v59_2 (by decide)).trans (val0_main_v59_2 V0)
theorem val1_main_v59_1 (V0 : Valuation τ sig (Elt F)) : val1 V0 (no_index (Proc.devRef .tc main_v59_1)) = V0 (Proc.devRef .tc main_v59_1) :=
  (val1_keep V0 main_v59_1 (by decide)).trans (val0_main_v59_1 V0)
theorem val1_main_v59_3 (V0 : Valuation τ sig (Elt F)) : val1 V0 (no_index (Proc.devRef .tc main_v59_3)) = V0 (Proc.devRef .tc main_v59_3) :=
  (val1_keep V0 main_v59_3 (by decide)).trans (val0_main_v59_3 V0)
theorem val1_main_v59_0 (V0 : Valuation τ sig (Elt F)) : val1 V0 (no_index (Proc.devRef .tc main_v59_0)) = V0 (Proc.devRef .tc main_v59_0) :=
  (val1_keep V0 main_v59_0 (by decide)).trans (val0_main_v59_0 V0)
set_option maxRecDepth 8192 in
theorem val1_main_while0b_v67 (V0 : Valuation τ sig (Elt F)) : val1 V0 (no_index (Proc.devRef .tc main_while0b_v67)) = subf (broadcastInDim S8x1x2048 ![] bcast_S_S8x1x2048 (constant S_ .f32 0x3F800000#32)) (V0 (Proc.devRef .tc main_v59_2)) := by
  unfold val1
  simp only [trip_w0]
  after_results_entrywise [val0_main_v59_2, cast_eq]
set_option maxRecDepth 8192 in
theorem val1_main_while0b_cst_13 (V0 : Valuation τ sig (Elt F)) : val1 V0 (no_index (Proc.devRef .tc main_while0b_cst_13)) = constant S_ .f32 0x00800000#32 := by
  unfold val1
  simp only [trip_w0]
  after_results_entrywise [cast_eq]

/-- The device's buffer contents after the body's first 2 windows. -/
def val2 (V0 : Valuation τ sig (Elt F)) : Valuation τ sig (Elt F) := after trip_w1 (val1 V0)
/-- The buffers that window `trip_w1`'s operations write. -/
abbrev trip_w1_W : List (Ref sig .tc) := [main_while0b_call4_v0, main_while0b_call4_v1, main_while0b_v68]
set_option maxRecDepth 8192 in
theorem trip_w1_writes : (trip_w1 : List (HloOp τ sig (Elt F))).Forall fun op => op.writes ⊆ (trip_w1_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that window `trip_w1` does not write keeps its contents through it. -/
theorem val2_keep (V0 : Valuation τ sig (Elt F)) (r : Ref sig .tc) (h : r ∉ trip_w1_W) :
    val2 V0 (Proc.devRef .tc r) = val1 V0 (Proc.devRef .tc r) :=
  after_of_writes_sub trip_w1 _ trip_w1_writes h
theorem val2_main_v59_2 (V0 : Valuation τ sig (Elt F)) : val2 V0 (no_index (Proc.devRef .tc main_v59_2)) = V0 (Proc.devRef .tc main_v59_2) :=
  (val2_keep V0 main_v59_2 (by decide)).trans (val1_main_v59_2 V0)
theorem val2_main_v59_1 (V0 : Valuation τ sig (Elt F)) : val2 V0 (no_index (Proc.devRef .tc main_v59_1)) = V0 (Proc.devRef .tc main_v59_1) :=
  (val2_keep V0 main_v59_1 (by decide)).trans (val1_main_v59_1 V0)
theorem val2_main_v59_3 (V0 : Valuation τ sig (Elt F)) : val2 V0 (no_index (Proc.devRef .tc main_v59_3)) = V0 (Proc.devRef .tc main_v59_3) :=
  (val2_keep V0 main_v59_3 (by decide)).trans (val1_main_v59_3 V0)
theorem val2_main_v59_0 (V0 : Valuation τ sig (Elt F)) : val2 V0 (no_index (Proc.devRef .tc main_v59_0)) = V0 (Proc.devRef .tc main_v59_0) :=
  (val2_keep V0 main_v59_0 (by decide)).trans (val1_main_v59_0 V0)
set_option maxRecDepth 8192 in
theorem val2_main_while0b_v68 (V0 : Valuation τ sig (Elt F)) : val2 V0 (no_index (Proc.devRef .tc main_while0b_v68)) = maximumf (broadcastInDim S8x1x2048 ![] bcast_S_S8x1x2048 (id (constant S_ .f32 0x00800000#32))) (subf (broadcastInDim S8x1x2048 ![] bcast_S_S8x1x2048 (constant S_ .f32 0x3F800000#32)) (V0 (Proc.devRef .tc main_v59_2))) := by
  unfold val2
  simp only [trip_w1]
  after_results_entrywise [val1_main_while0b_v67, val1_main_while0b_cst_13, cast_eq]

/-- The device's buffer contents after the body's first 3 windows. -/
def val3 (V0 : Valuation τ sig (Elt F)) : Valuation τ sig (Elt F) := after trip_w2 (val2 V0)
/-- The buffers that window `trip_w2`'s operations write. -/
abbrev trip_w2_W : List (Ref sig .tc) := [main_while0b_v69, main_while0b_v70, main_while0b_cst_14, main_while0b_v71, main_while0b_v72, main_while0b_cst_15, main_while0b_v73, main_while0b_cst_16, main_while0b_v74, main_while0b_v75, main_while0b_v76, main_while0b_v77, main_while0b_v78, main_while0b_v79, main_while0b_cst_17, main_while0b_v80, main_while0b_v81, main_while0b_v82, main_while0b_v83]
set_option maxRecDepth 8192 in
theorem trip_w2_writes : (trip_w2 : List (HloOp τ sig (Elt F))).Forall fun op => op.writes ⊆ (trip_w2_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that window `trip_w2` does not write keeps its contents through it. -/
theorem val3_keep (V0 : Valuation τ sig (Elt F)) (r : Ref sig .tc) (h : r ∉ trip_w2_W) :
    val3 V0 (Proc.devRef .tc r) = val2 V0 (Proc.devRef .tc r) :=
  after_of_writes_sub trip_w2 _ trip_w2_writes h
theorem val3_main_v59_2 (V0 : Valuation τ sig (Elt F)) : val3 V0 (no_index (Proc.devRef .tc main_v59_2)) = V0 (Proc.devRef .tc main_v59_2) :=
  (val3_keep V0 main_v59_2 (by decide)).trans (val2_main_v59_2 V0)
theorem val3_main_v59_1 (V0 : Valuation τ sig (Elt F)) : val3 V0 (no_index (Proc.devRef .tc main_v59_1)) = V0 (Proc.devRef .tc main_v59_1) :=
  (val3_keep V0 main_v59_1 (by decide)).trans (val2_main_v59_1 V0)
theorem val3_main_v59_3 (V0 : Valuation τ sig (Elt F)) : val3 V0 (no_index (Proc.devRef .tc main_v59_3)) = V0 (Proc.devRef .tc main_v59_3) :=
  (val3_keep V0 main_v59_3 (by decide)).trans (val2_main_v59_3 V0)
theorem val3_main_v59_0 (V0 : Valuation τ sig (Elt F)) : val3 V0 (no_index (Proc.devRef .tc main_v59_0)) = V0 (Proc.devRef .tc main_v59_0) :=
  (val3_keep V0 main_v59_0 (by decide)).trans (val2_main_v59_0 V0)
set_option maxRecDepth 8192 in
set_option maxHeartbeats 1900000 in
theorem val3_main_while0b_v70 (V0 : Valuation τ sig (Elt F)) : val3 V0 (no_index (Proc.devRef .tc main_while0b_v70)) = res_main_while0b_v70 V0 := by
  unfold val3
  simp only [trip_w2]
  after_results_entrywise [val2_main_while0b_v68, val2_main_v59_1, res_main_while0b_v70, cast_eq]
set_option maxRecDepth 8192 in
set_option maxHeartbeats 1900000 in
theorem val3_main_while0b_v83 (V0 : Valuation τ sig (Elt F)) : val3 V0 (no_index (Proc.devRef .tc main_while0b_v83)) = res_main_while0b_v83 V0 := by
  unfold val3
  simp only [trip_w2]
  after_results_entrywise [val2_main_while0b_v68, val2_main_v59_1, res_main_while0b_v70, res_main_while0b_v72, res_main_while0b_v79, res_main_while0b_v83, cast_eq]

/-- The device's buffer contents after the body's first 4 windows. -/
def val4 (V0 : Valuation τ sig (Elt F)) : Valuation τ sig (Elt F) := after trip_w3 (val3 V0)
/-- The buffers that window `trip_w3`'s operations write. -/
abbrev trip_w3_W : List (Ref sig .tc) := [main_while0b_call5_v0, main_while0b_call5_cst, main_while0b_call5_c, main_while0b_call5_v1_0, main_while0b_v84]
set_option maxRecDepth 8192 in
theorem trip_w3_writes : (trip_w3 : List (HloOp τ sig (Elt F))).Forall fun op => op.writes ⊆ (trip_w3_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that window `trip_w3` does not write keeps its contents through it. -/
theorem val4_keep (V0 : Valuation τ sig (Elt F)) (r : Ref sig .tc) (h : r ∉ trip_w3_W) :
    val4 V0 (Proc.devRef .tc r) = val3 V0 (Proc.devRef .tc r) :=
  after_of_writes_sub trip_w3 _ trip_w3_writes h
theorem val4_main_v59_2 (V0 : Valuation τ sig (Elt F)) : val4 V0 (no_index (Proc.devRef .tc main_v59_2)) = V0 (Proc.devRef .tc main_v59_2) :=
  (val4_keep V0 main_v59_2 (by decide)).trans (val3_main_v59_2 V0)
theorem val4_main_v59_1 (V0 : Valuation τ sig (Elt F)) : val4 V0 (no_index (Proc.devRef .tc main_v59_1)) = V0 (Proc.devRef .tc main_v59_1) :=
  (val4_keep V0 main_v59_1 (by decide)).trans (val3_main_v59_1 V0)
theorem val4_main_v59_3 (V0 : Valuation τ sig (Elt F)) : val4 V0 (no_index (Proc.devRef .tc main_v59_3)) = V0 (Proc.devRef .tc main_v59_3) :=
  (val4_keep V0 main_v59_3 (by decide)).trans (val3_main_v59_3 V0)
theorem val4_main_v59_0 (V0 : Valuation τ sig (Elt F)) : val4 V0 (no_index (Proc.devRef .tc main_v59_0)) = V0 (Proc.devRef .tc main_v59_0) :=
  (val4_keep V0 main_v59_0 (by decide)).trans (val3_main_v59_0 V0)
theorem val4_main_while0b_v70 (V0 : Valuation τ sig (Elt F)) : val4 V0 (no_index (Proc.devRef .tc main_while0b_v70)) = res_main_while0b_v70 V0 :=
  (val4_keep V0 main_while0b_v70 (by decide)).trans (val3_main_while0b_v70 V0)
theorem val4_main_while0b_v83 (V0 : Valuation τ sig (Elt F)) : val4 V0 (no_index (Proc.devRef .tc main_while0b_v83)) = res_main_while0b_v83 V0 :=
  (val4_keep V0 main_while0b_v83 (by decide)).trans (val3_main_while0b_v83 V0)
set_option maxRecDepth 8192 in
theorem val4_main_while0b_v84 (V0 : Valuation τ sig (Elt F)) : val4 V0 (no_index (Proc.devRef .tc main_while0b_v84)) = (fun j => (Host.argReduce reducer_argmax_f32_i32 (res_main_while0b_v83 V0) (res_main_while0b_call5_v0 V0) (res_main_while0b_call5_cst V0) (res_main_while0b_call5_c V0) reducesTo_S8x1x2048_S8x1_d2 h_S_ j).2) := by
  unfold val4
  simp only [trip_w3]
  after_results_entrywise [val3_main_while0b_v83, res_main_while0b_call5_v0, res_main_while0b_call5_cst, res_main_while0b_call5_c, cast_eq]

/-- The device's buffer contents after the body's first 5 windows. -/
def val5 (V0 : Valuation τ sig (Elt F)) : Valuation τ sig (Elt F) := after trip_w4 (val4 V0)
/-- The buffers that window `trip_w4`'s operations write. -/
abbrev trip_w4_W : List (Ref sig .tc) := [main_while0b_call6_v0, main_while0b_call6_v1, main_while0b_call6_v2, main_while0b_call6_v3, main_while0b_call6_v4, main_while0b_v85]
set_option maxRecDepth 8192 in
theorem trip_w4_writes : (trip_w4 : List (HloOp τ sig (Elt F))).Forall fun op => op.writes ⊆ (trip_w4_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that window `trip_w4` does not write keeps its contents through it. -/
theorem val5_keep (V0 : Valuation τ sig (Elt F)) (r : Ref sig .tc) (h : r ∉ trip_w4_W) :
    val5 V0 (Proc.devRef .tc r) = val4 V0 (Proc.devRef .tc r) :=
  after_of_writes_sub trip_w4 _ trip_w4_writes h
theorem val5_main_v59_2 (V0 : Valuation τ sig (Elt F)) : val5 V0 (no_index (Proc.devRef .tc main_v59_2)) = V0 (Proc.devRef .tc main_v59_2) :=
  (val5_keep V0 main_v59_2 (by decide)).trans (val4_main_v59_2 V0)
theorem val5_main_v59_1 (V0 : Valuation τ sig (Elt F)) : val5 V0 (no_index (Proc.devRef .tc main_v59_1)) = V0 (Proc.devRef .tc main_v59_1) :=
  (val5_keep V0 main_v59_1 (by decide)).trans (val4_main_v59_1 V0)
theorem val5_main_v59_3 (V0 : Valuation τ sig (Elt F)) : val5 V0 (no_index (Proc.devRef .tc main_v59_3)) = V0 (Proc.devRef .tc main_v59_3) :=
  (val5_keep V0 main_v59_3 (by decide)).trans (val4_main_v59_3 V0)
theorem val5_main_v59_0 (V0 : Valuation τ sig (Elt F)) : val5 V0 (no_index (Proc.devRef .tc main_v59_0)) = V0 (Proc.devRef .tc main_v59_0) :=
  (val5_keep V0 main_v59_0 (by decide)).trans (val4_main_v59_0 V0)
theorem val5_main_while0b_v70 (V0 : Valuation τ sig (Elt F)) : val5 V0 (no_index (Proc.devRef .tc main_while0b_v70)) = res_main_while0b_v70 V0 :=
  (val5_keep V0 main_while0b_v70 (by decide)).trans (val4_main_while0b_v70 V0)
theorem val5_main_while0b_v83 (V0 : Valuation τ sig (Elt F)) : val5 V0 (no_index (Proc.devRef .tc main_while0b_v83)) = res_main_while0b_v83 V0 :=
  (val5_keep V0 main_while0b_v83 (by decide)).trans (val4_main_while0b_v83 V0)
set_option maxRecDepth 8192 in
theorem val5_main_while0b_v85 (V0 : Valuation τ sig (Elt F)) : val5 V0 (no_index (Proc.devRef .tc main_while0b_v85)) = uitofp .f32 (cmpi .eq (broadcastInDim S8x1x2048 ![0, 1, 2] bcast_S8x1x1_S8x1x2048_0_1_2 (broadcastInDim S8x1x1 ![0, 1] bcast_S8x1_S8x1x1_0_1 ((fun j => (Host.argReduce reducer_argmax_f32_i32 (res_main_while0b_v83 V0) (res_main_while0b_call5_v0 V0) (res_main_while0b_call5_cst V0) (res_main_while0b_call5_c V0) reducesTo_S8x1x2048_S8x1_d2 h_S_ j).2)))) (broadcastInDim S8x1x2048 ![0, 1, 2] bcast_S1x1x2048_S8x1x2048_0_1_2 (iotaInDim S1x1x2048 32 2))) := by
  unfold val5
  simp only [trip_w4]
  after_results_entrywise [val4_main_while0b_v84, cast_eq]

/-- The device's buffer contents after the body's first 6 windows. -/
def val6 (V0 : Valuation τ sig (Elt F)) : Valuation τ sig (Elt F) := after trip_w5 (val5 V0)
/-- The buffers that window `trip_w5`'s operations write. -/
abbrev trip_w5_W : List (Ref sig .tc) := [main_while0b_v86, main_while0b_v87]
set_option maxRecDepth 8192 in
theorem trip_w5_writes : (trip_w5 : List (HloOp τ sig (Elt F))).Forall fun op => op.writes ⊆ (trip_w5_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that window `trip_w5` does not write keeps its contents through it. -/
theorem val6_keep (V0 : Valuation τ sig (Elt F)) (r : Ref sig .tc) (h : r ∉ trip_w5_W) :
    val6 V0 (Proc.devRef .tc r) = val5 V0 (Proc.devRef .tc r) :=
  after_of_writes_sub trip_w5 _ trip_w5_writes h
theorem val6_main_v59_2 (V0 : Valuation τ sig (Elt F)) : val6 V0 (no_index (Proc.devRef .tc main_v59_2)) = V0 (Proc.devRef .tc main_v59_2) :=
  (val6_keep V0 main_v59_2 (by decide)).trans (val5_main_v59_2 V0)
theorem val6_main_v59_1 (V0 : Valuation τ sig (Elt F)) : val6 V0 (no_index (Proc.devRef .tc main_v59_1)) = V0 (Proc.devRef .tc main_v59_1) :=
  (val6_keep V0 main_v59_1 (by decide)).trans (val5_main_v59_1 V0)
theorem val6_main_v59_3 (V0 : Valuation τ sig (Elt F)) : val6 V0 (no_index (Proc.devRef .tc main_v59_3)) = V0 (Proc.devRef .tc main_v59_3) :=
  (val6_keep V0 main_v59_3 (by decide)).trans (val5_main_v59_3 V0)
theorem val6_main_v59_0 (V0 : Valuation τ sig (Elt F)) : val6 V0 (no_index (Proc.devRef .tc main_v59_0)) = V0 (Proc.devRef .tc main_v59_0) :=
  (val6_keep V0 main_v59_0 (by decide)).trans (val5_main_v59_0 V0)
theorem val6_main_while0b_v70 (V0 : Valuation τ sig (Elt F)) : val6 V0 (no_index (Proc.devRef .tc main_while0b_v70)) = res_main_while0b_v70 V0 :=
  (val6_keep V0 main_while0b_v70 (by decide)).trans (val5_main_while0b_v70 V0)
set_option maxRecDepth 8192 in
theorem val6_main_while0b_v87 (V0 : Valuation τ sig (Elt F)) : val6 V0 (no_index (Proc.devRef .tc main_while0b_v87)) = res_main_while0b_v87 V0 := by
  unfold val6
  simp only [trip_w5]
  after_results_entrywise [val5_main_while0b_v83, val5_main_while0b_v85, res_main_while0b_v87, cast_eq]

/-- The device's buffer contents after the body's first 7 windows. -/
def val7 (V0 : Valuation τ sig (Elt F)) : Valuation τ sig (Elt F) := after trip_w6 (val6 V0)
/-- The buffers that window `trip_w6`'s operations write. -/
abbrev trip_w6_W : List (Ref sig .tc) := [main_while0b_call7_v0, main_while0b_call7_c, main_while0b_call7_c_0, main_while0b_call7_c_1, main_while0b_v88]
set_option maxRecDepth 8192 in
theorem trip_w6_writes : (trip_w6 : List (HloOp τ sig (Elt F))).Forall fun op => op.writes ⊆ (trip_w6_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that window `trip_w6` does not write keeps its contents through it. -/
theorem val7_keep (V0 : Valuation τ sig (Elt F)) (r : Ref sig .tc) (h : r ∉ trip_w6_W) :
    val7 V0 (Proc.devRef .tc r) = val6 V0 (Proc.devRef .tc r) :=
  after_of_writes_sub trip_w6 _ trip_w6_writes h
theorem val7_main_v59_2 (V0 : Valuation τ sig (Elt F)) : val7 V0 (no_index (Proc.devRef .tc main_v59_2)) = V0 (Proc.devRef .tc main_v59_2) :=
  (val7_keep V0 main_v59_2 (by decide)).trans (val6_main_v59_2 V0)
theorem val7_main_v59_1 (V0 : Valuation τ sig (Elt F)) : val7 V0 (no_index (Proc.devRef .tc main_v59_1)) = V0 (Proc.devRef .tc main_v59_1) :=
  (val7_keep V0 main_v59_1 (by decide)).trans (val6_main_v59_1 V0)
theorem val7_main_v59_3 (V0 : Valuation τ sig (Elt F)) : val7 V0 (no_index (Proc.devRef .tc main_v59_3)) = V0 (Proc.devRef .tc main_v59_3) :=
  (val7_keep V0 main_v59_3 (by decide)).trans (val6_main_v59_3 V0)
theorem val7_main_v59_0 (V0 : Valuation τ sig (Elt F)) : val7 V0 (no_index (Proc.devRef .tc main_v59_0)) = V0 (Proc.devRef .tc main_v59_0) :=
  (val7_keep V0 main_v59_0 (by decide)).trans (val6_main_v59_0 V0)
theorem val7_main_while0b_v70 (V0 : Valuation τ sig (Elt F)) : val7 V0 (no_index (Proc.devRef .tc main_while0b_v70)) = res_main_while0b_v70 V0 :=
  (val7_keep V0 main_while0b_v70 (by decide)).trans (val6_main_while0b_v70 V0)
theorem val7_main_while0b_v87 (V0 : Valuation τ sig (Elt F)) : val7 V0 (no_index (Proc.devRef .tc main_while0b_v87)) = res_main_while0b_v87 V0 :=
  (val7_keep V0 main_while0b_v87 (by decide)).trans (val6_main_while0b_v87 V0)
set_option maxRecDepth 8192 in
theorem val7_main_while0b_v88 (V0 : Valuation τ sig (Elt F)) : val7 V0 (no_index (Proc.devRef .tc main_while0b_v88)) = Host.dynamicUpdateSlice (V0 (Proc.devRef .tc main_v59_3)) (broadcastInDim S1x8x1x2048 ![1, 2, 3] bcast_S8x1x2048_S1x8x1x2048_1_2_3 (res_main_while0b_v87 V0)) (fun k => (((![V0 (Proc.devRef .tc main_v59_0), constantI S_ 32 0#32, constantI S_ 32 0#32, constantI S_ 32 0#32] : Fin 4 → (⟨S_, .i32⟩ : BufTy).Contents (Elt F))) k (Shape.Idx.first h_S_)).toInt) updateFits_S1024x8x1x2048_S1x8x1x2048 := by
  unfold val7
  simp only [trip_w6]
  after_results_entrywise [val6_main_v59_0, val6_main_while0b_v87, val6_main_v59_3, cast_eq]

set_option maxRecDepth 8192 in
/-- The body's stretches before `while0Ops0_7`, from any contents: their windows in order. -/
theorem trip_windows (V0 : Valuation τ sig (Elt F)) : after while0Ops0_6 (after while0Ops0_5 (after while0Ops0_4 (after while0Ops0_3 (after while0Ops0_2 (after while0Ops0_1 (after while0Ops0 (V0))))))) = val7 V0 := by
  simp only [while0Ops0_cut, while0Ops0_1_cut, while0Ops0_2_cut, while0Ops0_3_cut, while0Ops0_4_cut, while0Ops0_5_cut, while0Ops0_6_cut, after_append]
  rfl

set_option maxRecDepth 8192 in
set_option maxHeartbeats 2000000 in
/-- `main_v59_0` after one trip's body, from any contents. -/
theorem trip_main_v59_0 (V0 : Valuation τ sig (Elt F)) : afterL bodyI V0 (no_index (Proc.devRef .tc main_v59_0)) = id (addi (V0 (Proc.devRef .tc main_v59_0)) (constantI S_ 32 1#32)) := by
  simp only [bodyI, afterL_cons, afterL_nil, trip_windows]
  after_results
  all_goals (try simp only [val7_main_while0b_v70, val7_main_while0b_v87, val7_main_while0b_v88, val7_main_v59_0, val7_main_v59_1, val7_main_v59_2, val7_main_v59_3]) <;> rfl
set_option maxRecDepth 8192 in
set_option maxHeartbeats 2000000 in
/-- `main_v59_1` after one trip's body, from any contents. -/
theorem trip_main_v59_1 (V0 : Valuation τ sig (Elt F)) : afterL bodyI V0 (no_index (Proc.devRef .tc main_v59_1)) = id (res_main_while0b_v70 V0) := by
  simp only [bodyI, afterL_cons, afterL_nil, trip_windows]
  after_results
  all_goals (try simp only [val7_main_while0b_v70, val7_main_while0b_v87, val7_main_while0b_v88, val7_main_v59_0, val7_main_v59_1, val7_main_v59_2, val7_main_v59_3]) <;> rfl
set_option maxRecDepth 8192 in
set_option maxHeartbeats 2000000 in
/-- `main_v59_2` after one trip's body, from any contents. -/
theorem trip_main_v59_2 (V0 : Valuation τ sig (Elt F)) : afterL bodyI V0 (no_index (Proc.devRef .tc main_v59_2)) = id (res_main_while0b_v87 V0) := by
  simp only [bodyI, afterL_cons, afterL_nil, trip_windows]
  after_results
  all_goals (try simp only [val7_main_while0b_v70, val7_main_while0b_v87, val7_main_while0b_v88, val7_main_v59_0, val7_main_v59_1, val7_main_v59_2, val7_main_v59_3]) <;> rfl
set_option maxRecDepth 8192 in
set_option maxHeartbeats 2000000 in
/-- `main_v59_3` after one trip's body, from any contents. -/
theorem trip_main_v59_3 (V0 : Valuation τ sig (Elt F)) : afterL bodyI V0 (no_index (Proc.devRef .tc main_v59_3)) = id (Host.dynamicUpdateSlice (V0 (Proc.devRef .tc main_v59_3)) (broadcastInDim S1x8x1x2048 ![1, 2, 3] bcast_S8x1x2048_S1x8x1x2048_1_2_3 (res_main_while0b_v87 V0)) (fun k => (((![V0 (Proc.devRef .tc main_v59_0), constantI S_ 32 0#32, constantI S_ 32 0#32, constantI S_ 32 0#32] : Fin 4 → (⟨S_, .i32⟩ : BufTy).Contents (Elt F))) k (Shape.Idx.first h_S_)).toInt) updateFits_S1024x8x1x2048_S1x8x1x2048) := by
  simp only [bodyI, afterL_cons, afterL_nil, trip_windows]
  after_results
  all_goals (try simp only [val7_main_while0b_v70, val7_main_while0b_v87, val7_main_while0b_v88, val7_main_v59_0, val7_main_v59_1, val7_main_v59_2, val7_main_v59_3]) <;> rfl

/-- The loop's carried buffers. -/
abbrev carriedRefs : List (Ref sig .tc) := [main_v59_0, main_v59_1, main_v59_2, main_v59_3]
/-- Two contents agree on the carried buffers: all that one trip reads. -/
def Agree (V V' : Valuation τ sig (Elt F)) : Prop := ∀ j ∈ carriedRefs, V (Proc.devRef .tc j) = V' (Proc.devRef .tc j)

set_option maxRecDepth 8192 in
theorem res_main_while0b_v70_congr {V0 V0' : Valuation τ sig (Elt F)} (h : Agree V0 V0') : res_main_while0b_v70 V0 = res_main_while0b_v70 V0' := by
  unfold res_main_while0b_v70
  rw [h main_v59_1 (by decide), h main_v59_2 (by decide)]
set_option maxRecDepth 8192 in
theorem res_main_while0b_v72_congr {V0 V0' : Valuation τ sig (Elt F)} (h : Agree V0 V0') : res_main_while0b_v72 V0 = res_main_while0b_v72 V0' := by
  unfold res_main_while0b_v72
  rw [res_main_while0b_v70_congr h]
set_option maxRecDepth 8192 in
theorem res_main_while0b_v79_congr {V0 V0' : Valuation τ sig (Elt F)} (h : Agree V0 V0') : res_main_while0b_v79 V0 = res_main_while0b_v79 V0' := by
  unfold res_main_while0b_v79
  rw [res_main_while0b_v72_congr h]
set_option maxRecDepth 8192 in
theorem res_main_while0b_v83_congr {V0 V0' : Valuation τ sig (Elt F)} (h : Agree V0 V0') : res_main_while0b_v83 V0 = res_main_while0b_v83 V0' := by
  unfold res_main_while0b_v83
  rw [res_main_while0b_v79_congr h]
set_option maxRecDepth 8192 in
theorem res_main_while0b_call5_v0_congr {V0 V0' : Valuation τ sig (Elt F)} (h : Agree V0 V0') : res_main_while0b_call5_v0 V0 = res_main_while0b_call5_v0 V0' := by
  unfold res_main_while0b_call5_v0
  rfl
set_option maxRecDepth 8192 in
theorem res_main_while0b_call5_cst_congr {V0 V0' : Valuation τ sig (Elt F)} (h : Agree V0 V0') : res_main_while0b_call5_cst V0 = res_main_while0b_call5_cst V0' := by
  unfold res_main_while0b_call5_cst
  rfl
set_option maxRecDepth 8192 in
theorem res_main_while0b_call5_c_congr {V0 V0' : Valuation τ sig (Elt F)} (h : Agree V0 V0') : res_main_while0b_call5_c V0 = res_main_while0b_call5_c V0' := by
  unfold res_main_while0b_call5_c
  rfl
set_option maxRecDepth 8192 in
theorem res_main_while0b_v87_congr {V0 V0' : Valuation τ sig (Elt F)} (h : Agree V0 V0') : res_main_while0b_v87 V0 = res_main_while0b_v87 V0' := by
  unfold res_main_while0b_v87
  rw [res_main_while0b_v83_congr h, res_main_while0b_call5_v0_congr h, res_main_while0b_call5_cst_congr h, res_main_while0b_call5_c_congr h]

set_option maxRecDepth 8192 in
/-- `main_v59_0` after one trip, of the contents before it. -/
def step_main_v59_0 (V0 : Valuation τ sig (Elt F)) : (Proc.devRef .tc main_v59_0 : DevRef τ sig).ty.Contents (Elt F) :=
  id (addi (V0 (Proc.devRef .tc main_v59_0)) (constantI S_ 32 1#32))
set_option maxRecDepth 8192 in
theorem step_main_v59_0_congr {V0 V0' : Valuation τ sig (Elt F)} (h : Agree V0 V0') : step_main_v59_0 V0 = step_main_v59_0 V0' := by
  unfold step_main_v59_0
  rw [h main_v59_0 (by decide)]
set_option maxRecDepth 8192 in
/-- `main_v59_1` after one trip, of the contents before it. -/
def step_main_v59_1 (V0 : Valuation τ sig (Elt F)) : (Proc.devRef .tc main_v59_1 : DevRef τ sig).ty.Contents (Elt F) :=
  id (res_main_while0b_v70 V0)
set_option maxRecDepth 8192 in
theorem step_main_v59_1_congr {V0 V0' : Valuation τ sig (Elt F)} (h : Agree V0 V0') : step_main_v59_1 V0 = step_main_v59_1 V0' := by
  unfold step_main_v59_1
  rw [res_main_while0b_v70_congr h]
set_option maxRecDepth 8192 in
/-- `main_v59_2` after one trip, of the contents before it. -/
def step_main_v59_2 (V0 : Valuation τ sig (Elt F)) : (Proc.devRef .tc main_v59_2 : DevRef τ sig).ty.Contents (Elt F) :=
  id (res_main_while0b_v87 V0)
set_option maxRecDepth 8192 in
theorem step_main_v59_2_congr {V0 V0' : Valuation τ sig (Elt F)} (h : Agree V0 V0') : step_main_v59_2 V0 = step_main_v59_2 V0' := by
  unfold step_main_v59_2
  rw [res_main_while0b_v87_congr h]
set_option maxRecDepth 8192 in
/-- `main_v59_3` after one trip, of the contents before it. -/
def step_main_v59_3 (V0 : Valuation τ sig (Elt F)) : (Proc.devRef .tc main_v59_3 : DevRef τ sig).ty.Contents (Elt F) :=
  id (Host.dynamicUpdateSlice (V0 (Proc.devRef .tc main_v59_3)) (broadcastInDim S1x8x1x2048 ![1, 2, 3] bcast_S8x1x2048_S1x8x1x2048_1_2_3 (res_main_while0b_v87 V0)) (fun k => (((![V0 (Proc.devRef .tc main_v59_0), constantI S_ 32 0#32, constantI S_ 32 0#32, constantI S_ 32 0#32] : Fin 4 → (⟨S_, .i32⟩ : BufTy).Contents (Elt F))) k (Shape.Idx.first h_S_)).toInt) updateFits_S1024x8x1x2048_S1x8x1x2048)
set_option maxRecDepth 8192 in
theorem step_main_v59_3_congr {V0 V0' : Valuation τ sig (Elt F)} (h : Agree V0 V0') : step_main_v59_3 V0 = step_main_v59_3 V0' := by
  unfold step_main_v59_3
  rw [res_main_while0b_v87_congr h, h main_v59_3 (by decide), h main_v59_0 (by decide)]

/-- One trip on the buffers that the loop carries; it leaves the other buffers alone. -/
def STEP (V0 : Valuation τ sig (Elt F)) : Valuation τ sig (Elt F) :=
  Function.update (Function.update (Function.update (Function.update (V0) (Proc.devRef .tc main_v59_0) (step_main_v59_0 V0)) (Proc.devRef .tc main_v59_1) (step_main_v59_1 V0)) (Proc.devRef .tc main_v59_2) (step_main_v59_2 V0)) (Proc.devRef .tc main_v59_3) (step_main_v59_3 V0)

theorem STEP_main_v59_0 (V0 : Valuation τ sig (Elt F)) : STEP V0 (Proc.devRef .tc main_v59_0) = step_main_v59_0 V0 := by
  unfold STEP; rw [Function.update_of_ne (devRef_ne_of_ne (by decide))]; rw [Function.update_of_ne (devRef_ne_of_ne (by decide))]; rw [Function.update_of_ne (devRef_ne_of_ne (by decide))]; rw [Function.update_self]
theorem STEP_main_v59_1 (V0 : Valuation τ sig (Elt F)) : STEP V0 (Proc.devRef .tc main_v59_1) = step_main_v59_1 V0 := by
  unfold STEP; rw [Function.update_of_ne (devRef_ne_of_ne (by decide))]; rw [Function.update_of_ne (devRef_ne_of_ne (by decide))]; rw [Function.update_self]
theorem STEP_main_v59_2 (V0 : Valuation τ sig (Elt F)) : STEP V0 (Proc.devRef .tc main_v59_2) = step_main_v59_2 V0 := by
  unfold STEP; rw [Function.update_of_ne (devRef_ne_of_ne (by decide))]; rw [Function.update_self]
theorem STEP_main_v59_3 (V0 : Valuation τ sig (Elt F)) : STEP V0 (Proc.devRef .tc main_v59_3) = step_main_v59_3 V0 := by
  unfold STEP; rw [Function.update_self]

/-- The condition's operations write none of the carried buffers. -/
theorem cond_keeps (X : Valuation τ sig (Elt F)) : Agree (after condOps X) X := by
  intro j hj
  refine after_of_forall_not_mem condOps X fun op hop => ?_
  fin_cases hop <;> fin_cases hj <;> exact fun h => devRef_ne_of_ne (by decide) (Finset.mem_singleton.mp h)

set_option maxRecDepth 8192 in
/-- One trip (the condition's operations, then the body's stretches) is `STEP` on the carried buffers. -/
theorem trip_agree (X : Valuation τ sig (Elt F)) : Agree (afterL bodyI (after condOps X)) (STEP X) := by
  have hc := cond_keeps X
  intro j hj
  fin_cases hj
  · exact (trip_main_v59_0 (after condOps X)).trans ((step_main_v59_0_congr hc).trans (STEP_main_v59_0 X).symm)
  · exact (trip_main_v59_1 (after condOps X)).trans ((step_main_v59_1_congr hc).trans (STEP_main_v59_1 X).symm)
  · exact (trip_main_v59_2 (after condOps X)).trans ((step_main_v59_2_congr hc).trans (STEP_main_v59_2 X).symm)
  · exact (trip_main_v59_3 (after condOps X)).trans ((step_main_v59_3_congr hc).trans (STEP_main_v59_3 X).symm)

set_option maxRecDepth 8192 in
/-- `STEP` reads the carried buffers only. -/
theorem STEP_congr {V V' : Valuation τ sig (Elt F)} (h : Agree V V') : Agree (STEP V) (STEP V') := by
  intro j hj
  fin_cases hj
  · rw [STEP_main_v59_0, STEP_main_v59_0]; exact step_main_v59_0_congr h
  · rw [STEP_main_v59_1, STEP_main_v59_1]; exact step_main_v59_1_congr h
  · rw [STEP_main_v59_2, STEP_main_v59_2]; exact step_main_v59_2_congr h
  · rw [STEP_main_v59_3, STEP_main_v59_3]; exact step_main_v59_3_congr h

/-- Before the `k`-th condition the carried buffers are `STEP` iterated `k` times on the loop's entry. -/
theorem atK_agree (c : Dev nD) : ∀ k, Agree (atK m k c) (STEP^[k] (entryContents preI m c))
  | 0 => fun _ _ => rfl
  | k + 1 => fun j hj => by
    rw [Function.iterate_succ_apply']
    exact (trip_agree (atK m k c) j hj).trans (STEP_congr (atK_agree c k) j hj)

end Cert.ReferenceIdeal.Value

end
-- ==== Proof.RefFrame.lean ====
/- What the reference's run leaves in a buffer that no operation of the loop writes, and the reference's frame. -/
module

public import proofs.«01_k».proof.Proof.RefTrip
public import Idealize.ShloMosaic.Lib.Quiescent

@[expose] public section

set_option maxRecDepth 16384

noncomputable section

namespace Cert.ReferenceIdeal.Value

open Cert.ReferenceIdeal Cert.ReferenceIdeal.Gen
open Idealize.ShloMosaic Idealize.ShloMosaic.TcCoe Idealize.ShloMosaic.Tactic
open Idealize.SL.Sem
open Idealize.ShloMosaic.StableHlo

variable {F : FTy → Type} [FloatOps F]
variable (m : (ℓ : Loc nD τ sig) → Buf (Elt F) ℓ) (ρ : Dev nD → PrngReg)

/-- The buffers written by the first stretch after the loop, in order. -/
abbrev hostOps0_9_W : List (Ref sig .tc) := [main_v60, main_v61, main_v62, main_v63, main_v64]
theorem hostOps0_9_writes : (hostOps0_9 : List (HloOp τ sig (Elt F))).Forall fun op => op.writes ⊆ (hostOps0_9_W.map (Proc.devRef (τ := τ) .tc)).toFinset :=
  StableHlo.forall_writes_sub_of_map rfl
/-- The buffers written by the second stretch after the loop, in order. -/
abbrev hostOps0_10_W : List (Ref sig .tc) := [main_call8_v0, main_call8_cst, main_call8_c, main_call8_v1_0, main_v65]
theorem hostOps0_10_writes : (hostOps0_10 : List (HloOp τ sig (Elt F))).Forall fun op => op.writes ⊆ (hostOps0_10_W.map (Proc.devRef (τ := τ) .tc)).toFinset :=
  StableHlo.forall_writes_sub_of_map rfl

/-- The buffers the loop writes: its condition's and its body's. -/
abbrev loopW : List (Ref sig .tc) :=
  condOps_W ++ (while0Ops0_W ++ (while0Ops0_1_W ++ (while0Ops0_2_W ++ (while0Ops0_3_W ++ (while0Ops0_4_W ++ (while0Ops0_5_W ++ (while0Ops0_6_W ++ while0Ops0_7_W)))))))
/-- The buffers written before the loop. -/
abbrev preW : List (Ref sig .tc) :=
  hostOps0_W ++ (hostOps0_1_W ++ (hostOps0_2_W ++ (hostOps0_3_W ++ (hostOps0_4_W ++ (hostOps0_5_W ++ (hostOps0_6_W ++ (hostOps0_7_W ++ hostOps0_8_W)))))))
/-- The buffers written after the loop. -/
abbrev postW : List (Ref sig .tc) := hostOps0_9_W ++ hostOps0_10_W

/-- A trip leaves alone what the loop does not write. -/
theorem trip_keep (V : Valuation τ sig (Elt F)) (r : Ref sig .tc) (h : r ∉ loopW) :
    afterL bodyI (after condOps V) (Proc.devRef .tc r) = V (Proc.devRef .tc r) := by
  simp only [loopW, List.mem_append, not_or] at h
  obtain ⟨hc, h0, h1, h2, h3, h4, h5, h6, h7⟩ := h
  simp only [bodyI, afterL_cons, afterL_nil]
  rw [after_of_writes_sub while0Ops0_7 _ while0Ops0_7_writes h7, after_of_writes_sub while0Ops0_6 _ while0Ops0_6_writes h6,
    after_of_writes_sub while0Ops0_5 _ while0Ops0_5_writes h5, after_of_writes_sub while0Ops0_4 _ while0Ops0_4_writes h4,
    after_of_writes_sub while0Ops0_3 _ while0Ops0_3_writes h3, after_of_writes_sub while0Ops0_2 _ while0Ops0_2_writes h2,
    after_of_writes_sub while0Ops0_1 _ while0Ops0_1_writes h1, after_of_writes_sub while0Ops0 _ while0Ops0_writes h0,
    after_of_writes_sub condOps _ condOps_writes hc]

/-- Before any run of the condition, a buffer the loop does not write is as the loop found it. -/
theorem atK_keep (c : Dev nD) (r : Ref sig .tc) (h : r ∉ loopW) :
    ∀ k, atK m k c (Proc.devRef .tc r) = entryContents preI m c (Proc.devRef .tc r)
  | 0 => rfl
  | k + 1 => (trip_keep (atK m k c) r h).trans (atK_keep c r h k)

/-- What the operations before the loop do not write is as at the launch. -/
theorem entry_keep (c : Dev nD) (r : Ref sig .tc) (h : r ∉ preW) :
    entryContents preI m c (Proc.devRef .tc r) = launchContents m c (Proc.devRef .tc r) := by
  simp only [preW, List.mem_append, not_or] at h
  obtain ⟨h0, h1, h2, h3, h4, h5, h6, h7, h8⟩ := h
  simp only [entryContents, afterL_cons, afterL_nil]
  rw [after_of_writes_sub hostOps0_8 _ hostOps0_8_writes h8, after_of_writes_sub hostOps0_7 _ hostOps0_7_writes h7,
    after_of_writes_sub hostOps0_6 _ hostOps0_6_writes h6, after_of_writes_sub hostOps0_5 _ hostOps0_5_writes h5,
    after_of_writes_sub hostOps0_4 _ hostOps0_4_writes h4, after_of_writes_sub hostOps0_3 _ hostOps0_3_writes h3,
    after_of_writes_sub hostOps0_2 _ hostOps0_2_writes h2, after_of_writes_sub hostOps0_1 _ hostOps0_1_writes h1,
    after_of_writes_sub hostOps0 _ hostOps0_writes h0]

/-- The contents when the loop is left: the condition's last run writes its own two buffers only. -/
abbrev exitV (c : Dev nD) : Valuation τ sig (Elt F) := after condOps (atK m 1024 c)

/-- The final contents are the later operations on those. -/
theorem final_eq (c : Dev nD) : finalContents condOps preI bodyI postI 1024 m c = after hostOps0_10 (after hostOps0_9 (exitV m c)) := by
  simp only [finalContents, postI, afterL_cons, afterL_nil]

/-- A buffer nothing writes ends as it was at the launch. -/
theorem final_keep (c : Dev nD) (r : Ref sig .tc) (hl : r ∉ loopW) (hp : r ∉ preW) (hq : r ∉ postW) :
    finalContents condOps preI bodyI postI 1024 m c (Proc.devRef .tc r) = launchContents m c (Proc.devRef .tc r) := by
  simp only [postW, List.mem_append, not_or] at hq
  rw [final_eq, after_of_writes_sub hostOps0_10 _ hostOps0_10_writes hq.2, after_of_writes_sub hostOps0_9 _ hostOps0_9_writes hq.1]
  have hl' := hl
  simp only [loopW, List.mem_append, not_or] at hl'
  rw [exitV, after_of_writes_sub condOps _ condOps_writes hl'.1, atK_keep m c r hl, entry_keep m c r hp]

/-- The reference runs, its arguments end unchanged and every counter reads zero. -/
theorem frame : θ_run (defs (F := F)) (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13))
      ∧ r.2.sem = fun _ => 0) :=
  (θ_run _ _ _).mono (fun r h => ⟨fun c =>
    have k : ∀ b : Ref sig .tc, (Proc.devRef .tc b : DevRef τ sig).isScoped = false → b ∉ loopW → b ∉ preW → b ∉ postW →
        r.2.mem ((c.tc : Thread nD τ).loc b) = m ((c.tc : Thread nD τ).loc b) := fun b hb h1 h2 h3 =>
      (h c b hb).trans (final_keep m c b h1 h2 h3)
    ⟨k main_arg0 rfl (by decide +kernel) (by decide +kernel) (by decide +kernel), k main_arg1 rfl (by decide +kernel) (by decide +kernel) (by decide +kernel),
     k main_arg2 rfl (by decide +kernel) (by decide +kernel) (by decide +kernel), k main_arg3 rfl (by decide +kernel) (by decide +kernel) (by decide +kernel),
     k main_arg4 rfl (by decide +kernel) (by decide +kernel) (by decide +kernel), k main_arg5 rfl (by decide +kernel) (by decide +kernel) (by decide +kernel),
     k main_arg6 rfl (by decide +kernel) (by decide +kernel) (by decide +kernel), k main_arg7 rfl (by decide +kernel) (by decide +kernel) (by decide +kernel),
     k main_arg8 rfl (by decide +kernel) (by decide +kernel) (by decide +kernel), k main_arg9 rfl (by decide +kernel) (by decide +kernel) (by decide +kernel),
     k main_arg10 rfl (by decide +kernel) (by decide +kernel) (by decide +kernel), k main_arg11 rfl (by decide +kernel) (by decide +kernel) (by decide +kernel),
     k main_arg12 rfl (by decide +kernel) (by decide +kernel) (by decide +kernel), k main_arg13 rfl (by decide +kernel) (by decide +kernel) (by decide +kernel)⟩,
    sem_eq_zero_of_no_sems (by decide) r.2⟩) (run_fold m ρ)

end Cert.ReferenceIdeal.Value

end
-- ==== Proof.Pick.lean ====
module

public import Idealize.ShloMosaic.Lib.Pointwise

/-!
  Choosing the places of the greatest scores, one after the other.

  A row of real scores is given. `best w S p` says that place `p` is not in the set `S` of the places taken so far, and
  that no place outside `S` has a greater score, nor the same score at a smaller place. `taken w k` is the set of the
  first `k` places chosen in this way, and `pick w k` the place chosen next. Both programs compute these places; the
  facts below are the arithmetic that they do on one row to find one of them.
-/

@[expose] public section

noncomputable section

namespace TopPick

open Idealize.ShloMosaic

/-- The place `p` holds the greatest entry of the row, and the first such entry. -/
def FirstMax {N : Nat} (r : Fin N → ℝ) (p : Fin N) : Prop := ∀ n, r n < r p ∨ (r n = r p ∧ p ≤ n)

theorem FirstMax.le {N : Nat} {r : Fin N → ℝ} {p : Fin N} (h : FirstMax r p) (n : Fin N) : r n ≤ r p := by
  rcases h n with h | h
  · exact h.le
  · exact h.1.le

/-- Outside `S`, the place `p` has the greatest score, and the first such. -/
def Best (w : Fin 2048 → ℝ) (S : Finset (Fin 2048)) (p : Fin 2048) : Prop :=
  p ∉ S ∧ ∀ n, n ∉ S → w n < w p ∨ (w n = w p ∧ p ≤ n)

theorem best_exists (w : Fin 2048 → ℝ) (S : Finset (Fin 2048)) (h : ∃ n, n ∉ S) : ∃ p, Best w S p := by
  obtain ⟨n, hn⟩ := h
  have hne : (Finset.univ.filter (fun q => q ∉ S)).Nonempty := ⟨n, by simp [hn]⟩
  obtain ⟨q, hq, hmax⟩ := Finset.exists_max_image _ w hne
  have hne' : (Finset.univ.filter (fun x => x ∉ S ∧ w x = w q)).Nonempty := ⟨q, by simpa using hq⟩
  obtain ⟨p, hp, hmin⟩ := Finset.exists_min_image _ id hne'
  simp only [Finset.mem_filter, Finset.mem_univ, true_and] at hq hp hmax hmin
  refine ⟨p, hp.1, fun x hx => ?_⟩
  rcases (hmax x hx).lt_or_eq with hlt | heq
  · exact Or.inl (by rw [hp.2]; exact hlt)
  · exact Or.inr ⟨by rw [hp.2]; exact heq, hmin x ⟨hx, heq⟩⟩

/-- The place chosen when those of `S` are taken. -/
def sel (w : Fin 2048 → ℝ) (S : Finset (Fin 2048)) : Fin 2048 :=
  open Classical in if h : ∃ p, Best w S p then h.choose else 0

theorem best_sel (w : Fin 2048 → ℝ) (S : Finset (Fin 2048)) (h : ∃ n, n ∉ S) : Best w S (sel w S) := by
  have hp := best_exists w S h
  unfold sel
  rw [dif_pos hp]
  exact hp.choose_spec

/-- The first `k` places chosen. -/
def taken (w : Fin 2048 → ℝ) : Nat → Finset (Fin 2048)
  | 0 => ∅
  | k + 1 => insert (sel w (taken w k)) (taken w k)

/-- The place chosen after `k` others. -/
def pick (w : Fin 2048 → ℝ) (k : Nat) : Fin 2048 := sel w (taken w k)

theorem taken_succ (w : Fin 2048 → ℝ) (k : Nat) : taken w (k + 1) = insert (pick w k) (taken w k) := rfl

theorem card_taken_le (w : Fin 2048 → ℝ) (k : Nat) : (taken w k).card ≤ k := by
  induction k with
  | zero => simp [taken]
  | succ k ih => exact (Finset.card_insert_le _ _).trans (by omega)

theorem exists_free (w : Fin 2048 → ℝ) (k : Nat) (hk : k < 2048) : ∃ n, n ∉ taken w k := by
  by_contra h
  push Not at h
  have h2 : taken w k = Finset.univ := Finset.eq_univ_iff_forall.2 h
  have h3 := card_taken_le w k
  rw [h2, Finset.card_univ, Fintype.card_fin] at h3
  omega

theorem best_pick (w : Fin 2048 → ℝ) (k : Nat) (hk : k < 2048) : Best w (taken w k) (pick w k) :=
  best_sel w _ (exists_free w k hk)

/-- A row that keeps the order of the scores outside `S`, and puts the places of `S` below them all, has its first
    maximum at the chosen place. -/
theorem firstMax_of_best {w : Fin 2048 → ℝ} {S : Finset (Fin 2048)} {p : Fin 2048} (h : Best w S p) (r : Fin 2048 → ℝ)
    (hlt : ∀ a b, a ∉ S → b ∉ S → w a < w b → r a < r b) (heq : ∀ a b, a ∉ S → b ∉ S → w a = w b → r a = r b)
    (hlow : ∀ a b, a ∈ S → b ∉ S → r a < r b) : FirstMax r p := fun n => by
  by_cases hn : n ∈ S
  · exact Or.inl (hlow n p hn h.1)
  · rcases h.2 n hn with h1 | h1
    · exact Or.inl (hlt n p hn h.1 h1)
    · exact Or.inr ⟨heq n p hn h.1 h1.1, h1.2⟩

/-! ### One row's softmax -/

/-- The greatest entry, as the programs compute it. -/
theorem fold_max {N : Nat} {r : Fin N → ℝ} {p : Fin N} (h : FirstMax r p) :
    Finset.fold max (⊥ : EReal) (fun n => (r n : EReal)) Finset.univ = (r p : EReal) := by
  apply le_antisymm
  · rw [Finset.fold_max_le]
    exact ⟨bot_le, fun n _ => EReal.coe_le_coe_iff.2 (h.le n)⟩
  · rw [Finset.le_fold_max]
    exact Or.inr ⟨p, Finset.mem_univ p, le_rfl⟩

theorem coe_sum {N : Nat} (s : Finset (Fin N)) (f : Fin N → ℝ) : ∑ x ∈ s, (f x : EReal) = ((∑ x ∈ s, f x : ℝ) : EReal) := by
  classical
  induction s using Finset.induction_on with
  | empty => simp
  | insert a s ha ih => rw [Finset.sum_insert ha, Finset.sum_insert ha, ih, EReal.coe_add]

/-- The sum of the exponentials of a row less its greatest entry. -/
def expSum {N : Nat} (r : Fin N → ℝ) (p : Fin N) : ℝ := ∑ x, Real.exp (r x - r p)

theorem expSum_pos {N : Nat} (r : Fin N → ℝ) (p : Fin N) : 0 < expSum r p :=
  Finset.sum_pos (fun _ _ => Real.exp_pos _) ⟨p, Finset.mem_univ p⟩

/-- The softmax of a row. -/
def soft {N : Nat} (r : Fin N → ℝ) (p : Fin N) (n : Fin N) : ℝ := Real.exp (r n - r p) / expSum r p

theorem exp_sub {a b : ℝ} : Ideal.exp ((a : EReal) - (b : EReal)) = ((Real.exp (a - b) : ℝ) : EReal) := by
  rw [← EReal.coe_sub, Ideal.exp_coe]

theorem div_coe_coe {a b : ℝ} (h : b ≠ 0) : Ideal.div (a : EReal) (b : EReal) = ((a / b : ℝ) : EReal) := by
  rw [Ideal.div_coe h, ← EReal.coe_mul, mul_one_div]

/-- A row's exponentials are summed to a positive real. -/
theorem sum_exp {N : Nat} (r : Fin N → ℝ) (p : Fin N) :
    (∑ x, Ideal.exp ((r x : EReal) - (r p : EReal))) = (expSum r p : EReal) := by
  simp only [exp_sub]
  exact coe_sum _ _

theorem soft_eq {N : Nat} (r : Fin N → ℝ) (p n : Fin N) :
    Ideal.div (Ideal.exp ((r n : EReal) - (r p : EReal))) (expSum r p : EReal) = (soft r p n : EReal) := by
  rw [exp_sub, div_coe_coe (expSum_pos r p).ne']
  rfl

/-- The softmax keeps the order of the row. -/
theorem firstMax_soft {N : Nat} {r : Fin N → ℝ} {p : Fin N} (h : FirstMax r p) : FirstMax (soft r p) p := fun n => by
  have hs := expSum_pos r p
  rcases h n with h | h
  · exact Or.inl (div_lt_div_of_pos_right (Real.exp_lt_exp.2 (by linarith)) hs)
  · exact Or.inr ⟨by unfold soft; rw [h.1], h.2⟩

/-! ### The first place of the greatest softmax, by a minimum of places -/

theorem toInt_word (n : Fin 2048) : (BitVec.ofNat 32 n.val).toInt = (n.val : Int) := by
  have := n.isLt
  rw [BitVec.toInt_ofNat']
  simp [Int.bmod]
  omega

theorem word_inj {a b : Fin 2048} (h : BitVec.ofNat 32 a.val = BitVec.ofNat 32 b.val) : a = b := by
  have h2 := congrArg BitVec.toInt h
  rw [toInt_word, toInt_word] at h2
  exact Fin.ext (by exact_mod_cast h2)

theorem toInt_minsi (a b : BitVec 32) : (IntOp.minsi a b).toInt = min a.toInt b.toInt := by
  unfold IntOp.minsi
  by_cases h : a.slt b
  · rw [if_pos h]; rw [BitVec.slt_iff_toInt_lt] at h; exact (min_eq_left h.le).symm
  · rw [if_neg h]; rw [BitVec.slt_iff_toInt_lt] at h; exact (min_eq_right (not_lt.1 h)).symm

/-- A minimum of words over a row: the word that is least of all. -/
theorem fold_minsi {N : Nat} (c : BitVec 32) (f : Fin N → BitVec 32) (p : Fin N) (hc : (f p).toInt ≤ c.toInt)
    (h : ∀ n, (f p).toInt ≤ (f n).toInt) : Finset.fold IntOp.minsi c f Finset.univ = f p := by
  apply BitVec.toInt_inj.1
  have hh : (Finset.fold IntOp.minsi c f Finset.univ).toInt = Finset.fold min c.toInt (fun n => (f n).toInt) Finset.univ := by
    rw [← Finset.fold_hom (m := BitVec.toInt) toInt_minsi]
  rw [hh]
  apply le_antisymm
  · rw [Finset.fold_min_le]; exact Or.inr ⟨p, Finset.mem_univ p, le_rfl⟩
  · rw [Finset.le_fold_min]; exact ⟨hc, fun n _ => h n⟩

/-- The kernel's choice on a row: the least place whose softmax equals one over the sum. -/
theorem min_place {r : Fin 2048 → ℝ} {p : Fin 2048} (h : FirstMax r p) :
    Finset.fold IntOp.minsi (2147483647#32)
      (fun x : Fin 2048 =>
        if Ideal.div (Ideal.exp ((r x : EReal) - (r p : EReal))) (expSum r p : EReal)
            = Ideal.div (1 : EReal) (expSum r p : EReal) then BitVec.ofNat 32 x.val else 2048#32) Finset.univ
      = BitVec.ofNat 32 p.val := by
  have hs := expSum_pos r p
  have hone : Ideal.div (1 : EReal) (expSum r p : EReal) = ((1 / expSum r p : ℝ) : EReal) := by
    rw [← EReal.coe_one, div_coe_coe hs.ne']
  have key : ∀ x : Fin 2048, (if Ideal.div (Ideal.exp ((r x : EReal) - (r p : EReal))) (expSum r p : EReal)
            = Ideal.div (1 : EReal) (expSum r p : EReal) then BitVec.ofNat 32 x.val else 2048#32)
      = if r x = r p then BitVec.ofNat 32 x.val else 2048#32 := fun x => by
    rw [soft_eq, hone]
    congr 1
    rw [EReal.coe_eq_coe_iff, soft, div_left_inj' hs.ne', ← Real.exp_zero, Real.exp_eq_exp, sub_eq_zero]
  simp only [key]
  have hp : (if r p = r p then BitVec.ofNat 32 p.val else 2048#32) = BitVec.ofNat 32 p.val := if_pos rfl
  rw [fold_minsi _ (fun x : Fin 2048 => if r x = r p then BitVec.ofNat 32 x.val else 2048#32) p]
  · exact hp
  · rw [hp, toInt_word]; have := p.isLt
    have h9 : (2147483647#32).toInt = 2147483647 := by decide
    rw [h9]; omega
  · intro n
    rw [hp, toInt_word]
    have hpl := p.isLt
    by_cases hn : r n = r p
    · rw [if_pos hn, toInt_word]
      rcases h n with h | h
      · exact absurd hn h.ne
      · exact_mod_cast h.2
    · rw [if_neg hn]
      have h9 : (2048#32).toInt = 2048 := by decide
      rw [h9]; omega

/-! ### Comparisons and selections -/

theorem eq_yes {w : Nat} {a b : BitVec w} (h : a = b) : IntOp.cmpi CmpIPredicate.eq a b = 1#1 := by
  subst h
  show BitVec.ofBool (a == a) = 1#1
  rw [beq_self_eq_true]; rfl

theorem eq_no {w : Nat} {a b : BitVec w} (h : a ≠ b) : IntOp.cmpi CmpIPredicate.eq a b = 0#1 := by
  show BitVec.ofBool (a == b) = 0#1
  rw [beq_eq_false_iff_ne.2 h]; rfl

theorem select_yes {α : Type} (x y : α) : Scalar.select (1#1) x y = x := rfl

theorem select_no {α : Type} (x y : α) : Scalar.select (0#1) x y = y := rfl

/-! ### Sums against a row with a single one -/

theorem sum_oneHot {N : Nat} (f : Fin N → EReal) (p : Fin N) :
    ∑ x, f x * (if x = p then (1 : EReal) else 0) = f p := by
  rw [Finset.sum_eq_single p]
  · rw [if_pos rfl, mul_one]
  · intro b _ hb; rw [if_neg hb, mul_zero]
  · intro h; exact absurd (Finset.mem_univ p) h

theorem sum_oneHot' {N : Nat} (f : Fin N → EReal) (p : Fin N) :
    ∑ x, (if x = p then (1 : EReal) else 0) * f x = f p := by
  rw [← sum_oneHot f p]
  exact Finset.sum_congr rfl fun x _ => mul_comm _ _

end TopPick

end
-- ==== Proof.Consts.lean ====
module

public import proofs.«01_k».proof.Proof.Pick

/-!
  The literal constants of the two programs, as real numbers.
-/

@[expose] public section

noncomputable section

namespace TopPick

open Idealize.ShloMosaic

/-- The temperature, the single precision number nearest to one tenth. -/
def temp : ℝ := 13421773 / 134217728

theorem temp_pos : 0 < temp := by unfold temp; norm_num

theorem lit_temp : Ideal.ofBits .f32 0x3DCCCCCD#32 = (temp : EReal) := by
  simp [Ideal.ofBits, Ideal.ieee, -EReal.coe_mul, temp]; norm_num

theorem lit_low : Ideal.ofBits .f32 0xC79C4000#32 = ((-80000 : ℝ) : EReal) := by
  simp [Ideal.ofBits, Ideal.ieee, -EReal.coe_mul]; norm_num

theorem lit_bot : Ideal.ofBits .f32 0xFF800000#32 = (⊥ : EReal) := by
  simp [Ideal.ofBits, Ideal.ieee]

theorem lit_64 : Ideal.ofBits .f32 0x42800000#32 = ((64 : ℝ) : EReal) := by
  simp [Ideal.ofBits, Ideal.ieee, -EReal.coe_mul]; norm_num

theorem lit_87 : Ideal.ofBits .f32 0x42AE0000#32 = ((87 : ℝ) : EReal) := by
  simp [Ideal.ofBits, Ideal.ieee, -EReal.coe_mul]; norm_num

theorem lit_7000 : Ideal.ofBits .f32 0x45DAC000#32 = ((7000 : ℝ) : EReal) := by
  simp [Ideal.ofBits, Ideal.ieee, -EReal.coe_mul]; norm_num

/-- The least positive normal number of single precision. -/
def tiny : ℝ := (2 : ℝ) ^ (-126 : Int)

theorem lit_tiny : Ideal.ofBits .f32 0x00800000#32 = (tiny : EReal) := by
  simp [Ideal.ofBits, Ideal.ieee, -EReal.coe_mul, tiny]; norm_num

theorem tiny_pos : 0 < tiny := by unfold tiny; positivity

theorem tiny_le_one : tiny ≤ 1 := by unfold tiny; norm_num

/-- Its logarithm is below `-87`. -/
theorem log_tiny : Real.log tiny < -87 := by
  unfold tiny
  rw [Real.log_zpow]
  have h : (29 / 42 : ℝ) < Real.log 2 := by
    rw [Real.lt_log_iff_exp_lt (by norm_num)]
    refine lt_of_le_of_lt (Real.exp_bound' (by norm_num) (by norm_num) (n := 6) (by norm_num)) ?_
    norm_num [Finset.sum_range_succ, Nat.factorial]
  push_cast
  linarith

end TopPick

end
-- ==== Proof.KernelPick.lean ====
module

public import proofs.«01_k».proof.Proof.Gen.KernelIdeal.Frame
public import proofs.«01_k».proof.Proof.Consts
public import Idealize.ShloMosaic.Lib.Pointwise

/-!
  The kernel's loop: its index output holds, at `(b, k)`, the place that row `b` of the scores has chosen after `k`
  others.
-/

@[expose] public section

set_option maxRecDepth 16384

noncomputable section

namespace Cert.KernelIdeal.Value

open Cert.KernelIdeal Cert.KernelIdeal.Gen Idealize.ShloMosaic Idealize.ShloMosaic.TcCoe TopPick

/-- A property that the first value has and every trip passes on holds of the loop's result. -/
theorem fold_ind {σ : Type} {n : Nat} (P : Nat → σ → Prop) (g : Fin n → σ → σ) (init : σ) (h0 : P 0 init)
    (hs : ∀ (k : Fin n) (a : σ), P k.val a → P (k.val + 1) (g k a)) : P n (Scf.fold g init) := by
  rw [Scf.fold_eq]
  have key : ∀ k, k ≤ n → P k (((List.finRange n).take k).foldl (fun acc k => g k acc) init) := by
    intro k
    induction k with
    | zero => intro _; simpa using h0
    | succ k ih =>
      intro hk
      have h1 := hs ⟨k, hk⟩ _ (ih (by omega))
      rw [List.take_succ_eq_append_getElem (by simpa using hk), List.foldl_append]
      simpa using h1
  have := key n le_rfl
  rwa [List.take_of_length_le (by simp)] at this

variable {w : Fin 8 → Fin 2048 → ℝ}

/-- The row that the kernel compares when the places of `S` are taken. -/
def low (w : Fin 2048 → ℝ) (S : Finset (Fin 2048)) (n : Fin 2048) : ℝ := if n ∈ S then -80000 else w n / temp

theorem low_firstMax {w : Fin 2048 → ℝ} (hw : ∀ n, |w n| ≤ 7000) {S : Finset (Fin 2048)} {p : Fin 2048} (h : Best w S p) :
    FirstMax (low w S) p := by
  have ht := temp_pos
  refine firstMax_of_best h _ (fun a b ha hb hab => ?_) (fun a b ha hb hab => ?_) (fun a b ha hb => ?_)
  · unfold low; rw [if_neg ha, if_neg hb]; exact div_lt_div_of_pos_right hab ht
  · unfold low; rw [if_neg ha, if_neg hb, hab]
  · unfold low; rw [if_pos ha, if_neg hb, lt_div_iff₀ ht]
    have := (abs_le.1 (hw b)).1
    unfold temp
    linarith

/-- The places of a row and of the results, numbered. -/
abbrev lanes : IVec S8x2048 32 := iota Kind.tc S8x2048 32 [1] iota_S8x2048_d1_w32
abbrev ranks : IVec S8x1024 32 := iota Kind.tc S8x1024 32 [1] iota_S8x1024_d1_w32

/-- The chosen place of a trip. -/
theorem pay48_at (y : FVec Ideal S8x2048 .f32) (p : IVec S8x1 32) (b : Fin 8) (r : Fin 2048 → ℝ) (q : Fin 2048)
    (hr : FirstMax r q) (hy : ∀ n, k0_pay47 lanes y p (ix2 b n) = (r n : EReal)) :
    k0_pay48 lanes y p (ix2 b 0) = BitVec.ofNat 32 q.val := by
  unfold k0_pay48
  revert hy
  generalize k0_pay47 lanes y p = yy
  intro hy
  pointwise []
  simp only [hy, lit_bot, fold_max hr, sum_exp]
  exact min_place hr

theorem iv_eq (k : Nat) : Scf.iv 0#32 1#32 k = BitVec.ofNat 32 k := by
  simp [Scf.iv]

/-- What holds before trip `k`. -/
def Inv (w : Fin 8 → Fin 2048 → ℝ) (k : Nat) (a : FVec Ideal S8x2048 .f32 × IVec S8x1 32 × IVec S8x1024 32) : Prop :=
  (∀ b n, k0_pay47 lanes a.1 a.2.1 (ix2 b n) = (low (w b) (taken (w b) k) n : EReal))
    ∧ ∀ (b : Fin 8) (j : Fin 1024), j.val < k → a.2.2 (ix2 b j) = BitVec.ofNat 32 (pick (w b) j.val).val

theorem inv_zero (x2 : Vec Ideal S8x2048 .f32) (hx : ∀ b n, x2 (ix2 b n) = (w b n : EReal)) :
    Inv w 0 (k0_pay44 x2, k0_pay45 4294967295#32, k0_pay46) := by
  refine ⟨fun b n => ?_, fun b j hj => absurd hj (Nat.not_lt_zero _)⟩
  pointwise [k0_pay47, k0_pay44, k0_pay45]
  have h2 : BitVec.ofNat 32 n.val ≠ 4294967295#32 := fun h => by
    have h3 := congrArg BitVec.toInt h
    rw [toInt_word] at h3
    have h9 : (4294967295#32).toInt = -1 := by decide
    omega
  rw [eq_no h2, select_no, hx, lit_temp, div_coe_coe temp_pos.ne']
  simp [low, taken]

theorem inv_succ (hw : ∀ b n, |w b n| ≤ 7000) (k : Fin k0_t1_loop.trips) (a : FVec Ideal S8x2048 .f32 × IVec S8x1 32 × IVec S8x1024 32)
    (ha : Inv w k.val a) :
    Inv w (k.val + 1) (k0_pay47 lanes a.1 a.2.1, k0_pay48 lanes a.1 a.2.1, k0_pay49 lanes ranks k a.1 a.2.1 a.2.2) := by
  obtain ⟨y, p, q⟩ := a
  obtain ⟨hy, hq⟩ := ha
  dsimp only at hy hq ⊢
  have hk : k.val < 1024 := k.isLt
  have hp : ∀ b, k0_pay48 lanes y p (ix2 b 0) = BitVec.ofNat 32 (pick (w b) k.val).val := fun b =>
    pay48_at y p b _ _ (low_firstMax (hw b) (best_pick (w b) k.val (by omega))) (hy b)
  refine ⟨fun b n => ?_, fun b j hj => ?_⟩
  · dsimp only
    generalize k0_pay48 lanes y p = pp at hp
    generalize k0_pay47 lanes y p = yy at hy
    pointwise [k0_pay47]
    rw [hp, hy, lit_low]
    by_cases h : n = pick (w b) k.val
    · rw [h, eq_yes rfl, select_yes]
      simp [low, taken_succ]
    · rw [eq_no (mt word_inj h), select_no]
      simp [low, taken_succ, h]
  · dsimp only
    unfold k0_pay49
    generalize k0_pay48 lanes y p = pp at hp
    pointwise []
    rw [hp, iv_eq]
    by_cases h : j.val = k.val
    · rw [h, eq_yes rfl, select_yes]
    · have h2 : BitVec.ofNat 32 j.val ≠ BitVec.ofNat 32 k.val := fun e => by
        have e3 := congrArg BitVec.toNat e
        simp only [BitVec.toNat_ofNat] at e3
        have := j.isLt
        omega
      rw [eq_no h2, select_no, hq b j (by omega)]

/-- The kernel's index output. -/
theorem fold_idx (hw : ∀ b n, |w b n| ≤ 7000) (x2 : Vec Ideal S8x2048 .f32) (hx : ∀ b n, x2 (ix2 b n) = (w b n : EReal)) (b : Fin 8)
    (j : Fin 1024) :
    (Scf.fold (fun (a : Fin k0_t1_loop.trips) a_1 =>
      (k0_pay47 lanes a_1.1 a_1.2.1, k0_pay48 lanes a_1.1 a_1.2.1, k0_pay49 lanes ranks a a_1.1 a_1.2.1 a_1.2.2))
      (k0_pay44 x2, k0_pay45 4294967295#32, k0_pay46)).2.2 (ix2 b j) = BitVec.ofNat 32 (pick (w b) j.val).val :=
  (fold_ind (Inv w) _ _ (inv_zero x2 hx) (inv_succ hw)).2 b j j.isLt

end Cert.KernelIdeal.Value

end
-- ==== Proof.Model.lean ====
/-
The network both programs evaluate at one point, written over the extended reals: two linear layers with a layer
normalisation and a rectifier between them give the point's hidden features; a second such pair gives its score.
-/
module
public import Idealize.ShloMosaic.PureOps
public import Idealize.ShloMosaic.PureOps.Ideal
@[expose] public section
noncomputable section

namespace TopPick
open Idealize.ShloMosaic

/-- A linear layer: the matrix `W` applied to the row `f`, plus the shift `b`. -/
def linear {K L : ℕ} (f : Fin K → EReal) (W : Fin K → Fin L → EReal) (b : Fin L → EReal) (x : Fin L) : EReal :=
  ∑ i, f i * W i x + b x

/-- The mean of a row of `k` numbers. -/
def mean {K : ℕ} (k : EReal) (z : Fin K → EReal) : EReal := Ideal.div (∑ x, z x) k

/-- The variance of a row of `k` numbers, with no correction. -/
def var {K : ℕ} (k : EReal) (z : Fin K → EReal) : EReal :=
  Ideal.div (∑ x, (z x - mean k z) * (z x - mean k z)) (k - (((0#32 : BitVec 32).toInt : ℝ) : EReal))

/-- A layer normalisation with gain `g` and shift `be`, then the larger of the result and zero. -/
def normed {K : ℕ} (k : EReal) (z g be : Fin K → EReal) (x : Fin K) : EReal :=
  max (Ideal.div (z x - mean k z) (Ideal.sqrt (var k z + Ideal.ofBits FTy.f32 925353388#32)) * g x + be x) 0

/-- The hidden features of one point, from its row of input features. -/
def hidden (f : Fin 64 → EReal) (W₁ : Fin 64 → Fin 64 → EReal) (b₁ g be : Fin 64 → EReal) (W₂ : Fin 64 → Fin 64 → EReal)
    (b₂ : Fin 64 → EReal) : Fin 64 → EReal :=
  linear (normed (Ideal.ofBits FTy.f32 1115684864#32) (linear f W₁ b₁) g be) W₂ b₂

/-- The score of one point, from its hidden features. -/
def score (h : Fin 64 → EReal) (W₃ : Fin 64 → Fin 32 → EReal) (b₃ g be : Fin 32 → EReal) (W₄ : Fin 32 → Fin 1 → EReal)
    (b₄ : Fin 1 → EReal) : EReal :=
  linear (normed (Ideal.ofBits FTy.f32 1107296256#32) (linear h W₃ b₃) g be) W₄ b₄ 0

end TopPick
end
-- ==== Proof.KernelOut.lean ====
/-
What the kernel leaves in its three output arrays, over the extended reals: the picks themselves, the hidden
features at the picks, and the coordinates at the picks.
-/
module
public import proofs.«01_k».proof.Proof.Gen.KernelIdeal.Run
public import proofs.«01_k».proof.Proof.KernelPick
public import proofs.«01_k».proof.Proof.Model
public import Idealize.ShloMosaic.Lib.Pipeline.ValueKit
public import Idealize.ShloMosaic.Lib.Pointwise
@[expose] public section
set_option maxRecDepth 16384
set_option maxHeartbeats 2000000
noncomputable section

namespace Cert.KernelIdeal.Value
open Cert.KernelIdeal Cert.KernelIdeal.Gen Idealize.ShloMosaic Idealize.ShloMosaic.TcCoe Idealize.SL.Sem Idealize.ShloMosaic.StableHlo TopPick

/-- An entry of a one-hot column, as the kernel makes it from two index words. -/
theorem hot_scalar (x p : Fin 2048) :
    FloatOps.sitofp (F := Ideal) .f32 (BitVec.setWidth 32 (IntOp.cmpi .eq (BitVec.ofNat 32 x.val) (BitVec.ofNat 32 p.val)))
      = (if x = p then (1 : EReal) else 0) := by
  by_cases h : x = p
  · subst h; rw [if_pos rfl, eq_yes rfl]; simp [FloatOps.sitofp]
  · rw [if_neg h, eq_no (fun e => h (word_inj e))]; simp [FloatOps.sitofp]

section
variable {w : Fin 8 → Fin 2048 → ℝ}

/-- The loop's index array is the picks. -/
theorem r41_at (hw : ∀ b n, |w b n| ≤ 7000) (c) (arg2) (harg2) (x2 : Vec Ideal S8x2048 .f32)
    (hx : ∀ b n, x2 (ix2 b n) = (w b n : EReal)) (b : Fin 8) (j : Fin 1024) :
    kernelRun0_A.sl.r_41 (F := Ideal) c arg2 harg2 x2 (ix2 b j) = BitVec.ofNat 32 (pick (w b) j.val).val := by
  unfold kernelRun0_A.sl.r_41 kernelRun0_A.sl.r_40
  sl_unfold_words
  simp only [View.readAt_eq_ld, Memref.IsWhole.read_unread]
  refine fold_idx hw _ (fun b n => ?_) b j
  pointwise []
  exact hx b n

/-- The third output's block: the picks. -/
theorem out11 (hw : ∀ b n, |w b n| ≤ 7000) (c : Dev nD) (arg0 : Memref sig .tc .vmem S8x3x2048 .f32) (harg0 : arg0.IsWhole) (arg1 : Memref sig .tc .vmem S8x64x2048 .f32) (harg1 : arg1.IsWhole) (arg2 : Memref sig .tc .vmem S8x2048 .f32) (harg2 : arg2.IsWhole) (arg3 : Memref sig .tc .vmem S64x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S1x64 .f32) (harg6 : arg6.IsWhole) (arg7 : Memref sig .tc .vmem S64x64 .f32) (harg7 : arg7.IsWhole) (arg8 : Memref sig .tc .vmem S1x64 .f32) (harg8 : arg8.IsWhole) (arg9 : Memref sig .tc .vmem S8x3x1024 .f32) (harg9 : arg9.IsWhole) (arg10 : Memref sig .tc .vmem S8x64x1024 .f32) (harg10 : arg10.IsWhole) (arg11 : Memref sig .tc .vmem S8x1024 .i32) (harg11 : arg11.IsWhole)
    (x0 : Vec Ideal S8x3x2048 .f32) (x1 : Vec Ideal S8x64x2048 .f32) (x2 : Vec Ideal S8x2048 .f32) (x3 : Vec Ideal S64x64 .f32) (x4 : Vec Ideal S1x64 .f32) (x5 : Vec Ideal S1x64 .f32) (x6 : Vec Ideal S1x64 .f32) (x7 : Vec Ideal S64x64 .f32) (x8 : Vec Ideal S1x64 .f32)
    (hx : ∀ b n, x2 (ix2 b n) = (w b n : EReal)) (b : Fin 8) (k : Fin 1024) :
    out0_A_11 c arg0 harg0 arg1 harg1 arg2 harg2 arg3 harg3 arg4 harg4 arg5 harg5 arg6 harg6 arg7 harg7 arg8 harg8 arg9 harg9 arg10 harg10 arg11 harg11 x0 x1 x2 x3 x4 x5 x6 x7 x8 (ix2 b k) = BitVec.ofNat 32 (pick (w b) k.val).val := by
  have r41 := r41_at hw c arg2 harg2 x2 hx
  have r40 : (kernelRun0_A.sl.r_40 (F := Ideal) c arg2 harg2 x2).2.2 = kernelRun0_A.sl.r_41 c arg2 harg2 x2 := rfl
  unfold out0_A_11
  rw [View.read_writes_junk_eq_canon]
  unfold kernelRun0_A
  dsimp -zeta only
  canon_tiles e h
  all_goals
    idx_vars e
    obtain rfl : e0 = b := Fin.ext h0.symm
    obtain rfl : e1 = k := Fin.ext h1.symm
    exact r41 _ _

/-- The first output's block: the coordinates at the picks. -/
theorem out9 (hw : ∀ b n, |w b n| ≤ 7000) (c : Dev nD) (arg0 : Memref sig .tc .vmem S8x3x2048 .f32) (harg0 : arg0.IsWhole) (arg1 : Memref sig .tc .vmem S8x64x2048 .f32) (harg1 : arg1.IsWhole) (arg2 : Memref sig .tc .vmem S8x2048 .f32) (harg2 : arg2.IsWhole) (arg3 : Memref sig .tc .vmem S64x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S1x64 .f32) (harg6 : arg6.IsWhole) (arg7 : Memref sig .tc .vmem S64x64 .f32) (harg7 : arg7.IsWhole) (arg8 : Memref sig .tc .vmem S1x64 .f32) (harg8 : arg8.IsWhole) (arg9 : Memref sig .tc .vmem S8x3x1024 .f32) (harg9 : arg9.IsWhole) (arg10 : Memref sig .tc .vmem S8x64x1024 .f32) (harg10 : arg10.IsWhole) (arg11 : Memref sig .tc .vmem S8x1024 .i32) (harg11 : arg11.IsWhole)
    (x0 : Vec Ideal S8x3x2048 .f32) (x1 : Vec Ideal S8x64x2048 .f32) (x2 : Vec Ideal S8x2048 .f32) (x3 : Vec Ideal S64x64 .f32) (x4 : Vec Ideal S1x64 .f32) (x5 : Vec Ideal S1x64 .f32) (x6 : Vec Ideal S1x64 .f32) (x7 : Vec Ideal S64x64 .f32) (x8 : Vec Ideal S1x64 .f32)
    (hx : ∀ b n, x2 (ix2 b n) = (w b n : EReal)) (b : Fin 8) (d : Fin 3) (k : Fin 1024) :
    out0_A_9 c arg0 harg0 arg1 harg1 arg2 harg2 arg3 harg3 arg4 harg4 arg5 harg5 arg6 harg6 arg7 harg7 arg8 harg8 arg9 harg9 arg10 harg10 arg11 harg11 x0 x1 x2 x3 x4 x5 x6 x7 x8 (ix3 b d k) = x0 (ix3 b d (pick (w b) k.val)) := by
  have r41 := r41_at hw c arg2 harg2 x2 hx
  have r40 : (kernelRun0_A.sl.r_40 (F := Ideal) c arg2 harg2 x2).2.2 = kernelRun0_A.sl.r_41 c arg2 harg2 x2 := rfl
  unfold out0_A_9
  rw [View.read_writes_junk_eq_canon]
  unfold kernelRun0_A
  dsimp -zeta only
  canon_tiles e h
  all_goals
    idx_vars e
    first | (have hb : b = 0 := by apply Fin.ext; have := e0.isLt; simp at h0 ⊢; omega) | (have hb : b = 1 := by apply Fin.ext; have := e0.isLt; simp at h0 ⊢; omega) | (have hb : b = 2 := by apply Fin.ext; have := e0.isLt; simp at h0 ⊢; omega) | (have hb : b = 3 := by apply Fin.ext; have := e0.isLt; simp at h0 ⊢; omega) | (have hb : b = 4 := by apply Fin.ext; have := e0.isLt; simp at h0 ⊢; omega) | (have hb : b = 5 := by apply Fin.ext; have := e0.isLt; simp at h0 ⊢; omega) | (have hb : b = 6 := by apply Fin.ext; have := e0.isLt; simp at h0 ⊢; omega) | (have hb : b = 7 := by apply Fin.ext; have := e0.isLt; simp at h0 ⊢; omega)
    subst hb
    obtain rfl : e0 = 0 := Subsingleton.elim _ _
    obtain rfl : e1 = d := Fin.ext h1.symm
    obtain rfl : e2 = k := Fin.ext h2.symm
    try unfold kernelRun0_A.sl.r_48
    try unfold kernelRun0_A.sl.r_49
    try unfold kernelRun0_A.sl.r_46
    try unfold kernelRun0_A.sl.r_47
    try unfold kernelRun0_A.sl.r_44
    try unfold kernelRun0_A.sl.r_45
    try unfold kernelRun0_A.sl.r_42
    try unfold kernelRun0_A.sl.r_43
    try rw [r40]
    simp only [View.readAt_eq_ld, Memref.IsWhole.read_unread]
    unfold_payloads
    pointwise []
    simp only [r41, hot_scalar]
    exact sum_oneHot _ _

end

/-- The variance's divisor, 64 less no correction, is positive. -/
theorem count_pos : (0 : EReal) < Ideal.ofBits .f32 1115684864#32 - (((0#32 : BitVec 32).toInt : ℝ) : EReal) := by
  rw [show (1115684864#32 : BitVec 32) = 0x42800000#32 from rfl, lit_64, ← EReal.coe_sub]
  exact_mod_cast (by norm_num : (0:ℝ) < 64 - ((0#32 : BitVec 32).toInt : ℝ))

/-- The hidden features of point `n` of batch `b`, from the blocks the kernel reads. -/
def hOf (x1 : Vec Ideal S8x64x2048 .f32) (x3 : Vec Ideal S64x64 .f32) (x4 x5 x6 : Vec Ideal S1x64 .f32)
    (x7 : Vec Ideal S64x64 .f32) (x8 : Vec Ideal S1x64 .f32) (b : Fin 8) (n : Fin 2048) (ch : Fin 64) : EReal :=
  hidden (fun i => x1 (ix3 b i n)) (fun i x => x3 (ix2 i x)) (fun x => x4 (ix2 0 x)) (fun x => x5 (ix2 0 x))
    (fun x => x6 (ix2 0 x)) (fun x y => x7 (ix2 x y)) (fun x => x8 (ix2 0 x)) ch

section
variable (c : Dev nD)
    (arg1 : Memref sig .tc .vmem S8x64x2048 .f32) (harg1 : arg1.IsWhole) (arg3 : Memref sig .tc .vmem S64x64 .f32)
    (harg3 : arg3.IsWhole) (arg4 : Memref sig .tc .vmem S1x64 .f32) (harg4 : arg4.IsWhole)
    (arg5 : Memref sig .tc .vmem S1x64 .f32) (harg5 : arg5.IsWhole) (arg6 : Memref sig .tc .vmem S1x64 .f32)
    (harg6 : arg6.IsWhole) (arg7 : Memref sig .tc .vmem S64x64 .f32) (harg7 : arg7.IsWhole)
    (arg8 : Memref sig .tc .vmem S1x64 .f32) (harg8 : arg8.IsWhole)
    (x1 : Vec Ideal S8x64x2048 .f32) (x3 : Vec Ideal S64x64 .f32) (x4 : Vec Ideal S1x64 .f32) (x5 : Vec Ideal S1x64 .f32)
    (x6 : Vec Ideal S1x64 .f32) (x7 : Vec Ideal S64x64 .f32) (x8 : Vec Ideal S1x64 .f32)
    (n : Fin 2048) (ch : Fin 64)

/-- Batch 0: the kernel's recomputed hidden features are the model's. -/
theorem feat_0 : kernelRun0_A.sl.r_6 (F := Ideal) c arg1 harg1 arg3 harg3 arg4 harg4 arg5 harg5 arg6 harg6 arg7 harg7 arg8 harg8 x1 x3 x4 x5 x6 x7 x8 (ix2 n ch) = hOf x1 x3 x4 x5 x6 x7 x8 0 n ch := by
  sl_unfold_words
  simp only [View.readAt_eq_ld, Memref.IsWhole.read_unread]
  unfold_payloads
  pointwise []
  simp only [if_pos count_pos]
  pointwise []
  rfl

/-- Batch 1: the kernel's recomputed hidden features are the model's. -/
theorem feat_1 : kernelRun0_A.sl.r_12 (F := Ideal) c arg1 harg1 arg3 harg3 arg4 harg4 arg5 harg5 arg6 harg6 arg7 harg7 arg8 harg8 x1 x3 x4 x5 x6 x7 x8 (ix2 n ch) = hOf x1 x3 x4 x5 x6 x7 x8 1 n ch := by
  sl_unfold_words
  simp only [View.readAt_eq_ld, Memref.IsWhole.read_unread]
  unfold_payloads
  pointwise []
  simp only [if_pos count_pos]
  pointwise []
  rfl

/-- Batch 2: the kernel's recomputed hidden features are the model's. -/
theorem feat_2 : kernelRun0_A.sl.r_17 (F := Ideal) c arg1 harg1 arg3 harg3 arg4 harg4 arg5 harg5 arg6 harg6 arg7 harg7 arg8 harg8 x1 x3 x4 x5 x6 x7 x8 (ix2 n ch) = hOf x1 x3 x4 x5 x6 x7 x8 2 n ch := by
  sl_unfold_words
  simp only [View.readAt_eq_ld, Memref.IsWhole.read_unread]
  unfold_payloads
  pointwise []
  simp only [if_pos count_pos]
  pointwise []
  rfl

/-- Batch 3: the kernel's recomputed hidden features are the model's. -/
theorem feat_3 : kernelRun0_A.sl.r_19 (F := Ideal) c arg1 harg1 arg3 harg3 arg4 harg4 arg5 harg5 arg6 harg6 arg7 harg7 arg8 harg8 x1 x3 x4 x5 x6 x7 x8 (ix2 n ch) = hOf x1 x3 x4 x5 x6 x7 x8 3 n ch := by
  sl_unfold_words
  simp only [View.readAt_eq_ld, Memref.IsWhole.read_unread]
  unfold_payloads
  pointwise []
  simp only [if_pos count_pos]
  pointwise []
  rfl

/-- Batch 4: the kernel's recomputed hidden features are the model's. -/
theorem feat_4 : kernelRun0_A.sl.r_21 (F := Ideal) c arg1 harg1 arg3 harg3 arg4 harg4 arg5 harg5 arg6 harg6 arg7 harg7 arg8 harg8 x1 x3 x4 x5 x6 x7 x8 (ix2 n ch) = hOf x1 x3 x4 x5 x6 x7 x8 4 n ch := by
  sl_unfold_words
  simp only [View.readAt_eq_ld, Memref.IsWhole.read_unread]
  unfold_payloads
  pointwise []
  simp only [if_pos count_pos]
  pointwise []
  rfl

/-- Batch 5: the kernel's recomputed hidden features are the model's. -/
theorem feat_5 : kernelRun0_A.sl.r_27 (F := Ideal) c arg1 harg1 arg3 harg3 arg4 harg4 arg5 harg5 arg6 harg6 arg7 harg7 arg8 harg8 x1 x3 x4 x5 x6 x7 x8 (ix2 n ch) = hOf x1 x3 x4 x5 x6 x7 x8 5 n ch := by
  sl_unfold_words
  simp only [View.readAt_eq_ld, Memref.IsWhole.read_unread]
  unfold_payloads
  pointwise []
  simp only [if_pos count_pos]
  pointwise []
  rfl

/-- Batch 6: the kernel's recomputed hidden features are the model's. -/
theorem feat_6 : kernelRun0_A.sl.r_33 (F := Ideal) c arg1 harg1 arg3 harg3 arg4 harg4 arg5 harg5 arg6 harg6 arg7 harg7 arg8 harg8 x1 x3 x4 x5 x6 x7 x8 (ix2 n ch) = hOf x1 x3 x4 x5 x6 x7 x8 6 n ch := by
  sl_unfold_words
  simp only [View.readAt_eq_ld, Memref.IsWhole.read_unread]
  unfold_payloads
  pointwise []
  simp only [if_pos count_pos]
  pointwise []
  rfl

/-- Batch 7: the kernel's recomputed hidden features are the model's. -/
theorem feat_7 : kernelRun0_A.sl.r_38 (F := Ideal) c arg1 harg1 arg3 harg3 arg4 harg4 arg5 harg5 arg6 harg6 arg7 harg7 arg8 harg8 x1 x3 x4 x5 x6 x7 x8 (ix2 n ch) = hOf x1 x3 x4 x5 x6 x7 x8 7 n ch := by
  sl_unfold_words
  simp only [View.readAt_eq_ld, Memref.IsWhole.read_unread]
  unfold_payloads
  pointwise []
  simp only [if_pos count_pos]
  pointwise []
  rfl

end

section
variable {w : Fin 8 → Fin 2048 → ℝ}

/-- The second output's block: the hidden features at the picks. -/
theorem out10 (hw : ∀ b n, |w b n| ≤ 7000) (c : Dev nD) (arg0 : Memref sig .tc .vmem S8x3x2048 .f32) (harg0 : arg0.IsWhole) (arg1 : Memref sig .tc .vmem S8x64x2048 .f32) (harg1 : arg1.IsWhole) (arg2 : Memref sig .tc .vmem S8x2048 .f32) (harg2 : arg2.IsWhole) (arg3 : Memref sig .tc .vmem S64x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S1x64 .f32) (harg6 : arg6.IsWhole) (arg7 : Memref sig .tc .vmem S64x64 .f32) (harg7 : arg7.IsWhole) (arg8 : Memref sig .tc .vmem S1x64 .f32) (harg8 : arg8.IsWhole) (arg9 : Memref sig .tc .vmem S8x3x1024 .f32) (harg9 : arg9.IsWhole) (arg10 : Memref sig .tc .vmem S8x64x1024 .f32) (harg10 : arg10.IsWhole) (arg11 : Memref sig .tc .vmem S8x1024 .i32) (harg11 : arg11.IsWhole)
    (x0 : Vec Ideal S8x3x2048 .f32) (x1 : Vec Ideal S8x64x2048 .f32) (x2 : Vec Ideal S8x2048 .f32) (x3 : Vec Ideal S64x64 .f32) (x4 : Vec Ideal S1x64 .f32) (x5 : Vec Ideal S1x64 .f32) (x6 : Vec Ideal S1x64 .f32) (x7 : Vec Ideal S64x64 .f32) (x8 : Vec Ideal S1x64 .f32)
    (hx : ∀ b n, x2 (ix2 b n) = (w b n : EReal)) (b : Fin 8) (d : Fin 64) (k : Fin 1024) :
    out0_A_10 c arg0 harg0 arg1 harg1 arg2 harg2 arg3 harg3 arg4 harg4 arg5 harg5 arg6 harg6 arg7 harg7 arg8 harg8 arg9 harg9 arg10 harg10 arg11 harg11 x0 x1 x2 x3 x4 x5 x6 x7 x8 (ix3 b d k) = hOf x1 x3 x4 x5 x6 x7 x8 b (pick (w b) k.val) d := by
  have r41 := r41_at hw c arg2 harg2 x2 hx
  have r40 : (kernelRun0_A.sl.r_40 (F := Ideal) c arg2 harg2 x2).2.2 = kernelRun0_A.sl.r_41 c arg2 harg2 x2 := rfl
  have f0 := feat_0 c arg1 harg1 arg3 harg3 arg4 harg4 arg5 harg5 arg6 harg6 arg7 harg7 arg8 harg8 x1 x3 x4 x5 x6 x7 x8
  have f1 := feat_1 c arg1 harg1 arg3 harg3 arg4 harg4 arg5 harg5 arg6 harg6 arg7 harg7 arg8 harg8 x1 x3 x4 x5 x6 x7 x8
  have f2 := feat_2 c arg1 harg1 arg3 harg3 arg4 harg4 arg5 harg5 arg6 harg6 arg7 harg7 arg8 harg8 x1 x3 x4 x5 x6 x7 x8
  have f3 := feat_3 c arg1 harg1 arg3 harg3 arg4 harg4 arg5 harg5 arg6 harg6 arg7 harg7 arg8 harg8 x1 x3 x4 x5 x6 x7 x8
  have f4 := feat_4 c arg1 harg1 arg3 harg3 arg4 harg4 arg5 harg5 arg6 harg6 arg7 harg7 arg8 harg8 x1 x3 x4 x5 x6 x7 x8
  have f5 := feat_5 c arg1 harg1 arg3 harg3 arg4 harg4 arg5 harg5 arg6 harg6 arg7 harg7 arg8 harg8 x1 x3 x4 x5 x6 x7 x8
  have f6 := feat_6 c arg1 harg1 arg3 harg3 arg4 harg4 arg5 harg5 arg6 harg6 arg7 harg7 arg8 harg8 x1 x3 x4 x5 x6 x7 x8
  have f7 := feat_7 c arg1 harg1 arg3 harg3 arg4 harg4 arg5 harg5 arg6 harg6 arg7 harg7 arg8 harg8 x1 x3 x4 x5 x6 x7 x8
  unfold out0_A_10
  rw [View.read_writes_junk_eq_canon]
  unfold kernelRun0_A
  dsimp -zeta only
  canon_tiles e h
  all_goals
    idx_vars e
    first | (have hb : b = 0 := by apply Fin.ext; have := e0.isLt; simp at h0 ⊢; omega) | (have hb : b = 1 := by apply Fin.ext; have := e0.isLt; simp at h0 ⊢; omega) | (have hb : b = 2 := by apply Fin.ext; have := e0.isLt; simp at h0 ⊢; omega) | (have hb : b = 3 := by apply Fin.ext; have := e0.isLt; simp at h0 ⊢; omega) | (have hb : b = 4 := by apply Fin.ext; have := e0.isLt; simp at h0 ⊢; omega) | (have hb : b = 5 := by apply Fin.ext; have := e0.isLt; simp at h0 ⊢; omega) | (have hb : b = 6 := by apply Fin.ext; have := e0.isLt; simp at h0 ⊢; omega) | (have hb : b = 7 := by apply Fin.ext; have := e0.isLt; simp at h0 ⊢; omega)
    subst hb
    obtain rfl : e0 = 0 := Subsingleton.elim _ _
    obtain rfl : e1 = d := Fin.ext h1.symm
    obtain rfl : e2 = k := Fin.ext h2.symm
    try rw [r40]
    unfold_payloads
    pointwise []
    simp only [r41, hot_scalar, f0, f1, f2, f3, f4, f5, f6, f7]
    exact sum_oneHot _ _

end

variable (m : (ℓ : Loc nD τ sig) → Buf (Elt Ideal) ℓ) (c : Dev nD)

/-! The one grid point's blocks are the whole arrays. -/

theorem block_0 (t : Fin cfg0.N) (i j k) : iblk m c 0 t (ix3 i j k) = V m c main_v56 (ix3 i j k) := by
  unfold iblk
  blk_simp
  congr 1
  have hz : ∀ a, win0_0.index t a = 0 := by revert t; decide +kernel
  blk_ext [] <;> rw [hz] <;> omega

theorem block_1 (t : Fin cfg0.N) (i j k) : iblk m c 1 t (ix3 i j k) = V m c main_arg1 (ix3 i j k) := by
  unfold iblk
  blk_simp
  congr 1
  have hz : ∀ a, win0_1.index t a = 0 := by revert t; decide +kernel
  blk_ext [] <;> rw [hz] <;> omega

theorem block_2 (t : Fin cfg0.N) (i j) : iblk m c 2 t (ix2 i j) = V m c main_v55 (ix2 i j) := by
  unfold iblk
  blk_simp
  congr 1
  have hz : ∀ a, win0_2.index t a = 0 := by revert t; decide +kernel
  blk_ext [] <;> rw [hz] <;> omega

theorem block_3 (t : Fin cfg0.N) (i j) : iblk m c 3 t (ix2 i j) = V m c main_arg2 (ix2 i j) := by
  unfold iblk
  blk_simp
  congr 1
  have hz : ∀ a, win0_3.index t a = 0 := by revert t; decide +kernel
  blk_ext [] <;> rw [hz] <;> omega

theorem block_4 (t : Fin cfg0.N) (i j) : iblk m c 4 t (ix2 i j) = V m c main_v57 (ix2 i j) := by
  unfold iblk
  blk_simp
  congr 1
  have hz : ∀ a, win0_4.index t a = 0 := by revert t; decide +kernel
  blk_ext [] <;> rw [hz] <;> omega

theorem block_5 (t : Fin cfg0.N) (i j) : iblk m c 5 t (ix2 i j) = V m c main_v58 (ix2 i j) := by
  unfold iblk
  blk_simp
  congr 1
  have hz : ∀ a, win0_5.index t a = 0 := by revert t; decide +kernel
  blk_ext [] <;> rw [hz] <;> omega

theorem block_6 (t : Fin cfg0.N) (i j) : iblk m c 6 t (ix2 i j) = V m c main_v59 (ix2 i j) := by
  unfold iblk
  blk_simp
  congr 1
  have hz : ∀ a, win0_6.index t a = 0 := by revert t; decide +kernel
  blk_ext [] <;> rw [hz] <;> omega

theorem block_7 (t : Fin cfg0.N) (i j) : iblk m c 7 t (ix2 i j) = V m c main_arg6 (ix2 i j) := by
  unfold iblk
  blk_simp
  congr 1
  have hz : ∀ a, win0_7.index t a = 0 := by revert t; decide +kernel
  blk_ext [] <;> rw [hz] <;> omega

theorem block_8 (t : Fin cfg0.N) (i j) : iblk m c 8 t (ix2 i j) = V m c main_v60 (ix2 i j) := by
  unfold iblk
  blk_simp
  congr 1
  have hz : ∀ a, win0_8.index t a = 0 := by revert t; decide +kernel
  blk_ext [] <;> rw [hz] <;> omega

end Cert.KernelIdeal.Value
end
-- ==== Proof.KernelArr.lean ====
/-
The kernel's three output arrays, whole.
-/
module
public import proofs.«01_k».proof.Proof.KernelOut
@[expose] public section
set_option maxRecDepth 16384
noncomputable section

namespace Cert.KernelIdeal.Value
open Cert.KernelIdeal Cert.KernelIdeal.Gen Idealize.ShloMosaic Idealize.ShloMosaic.TcCoe Idealize.SL.Sem Idealize.ShloMosaic.StableHlo TopPick

variable (m : (ℓ : Loc nD τ sig) → Buf (Elt Ideal) ℓ) (c : Dev nD) {w : Fin 8 → Fin 2048 → ℝ}

/-- The coordinates' array is what the one grid point leaves. -/
theorem whole_9 (G : S8x3x1024.Idx → Elt Ideal .f32) (h : ∀ t y0 y1 y2, (outsAt0 m c t).1 (ix3 y0 y1 y2) = G (ix3 y0 y1 y2)) :
    reg_main_v61_0 m c = G := by
  unfold reg_main_v61_0
  refine (dats m 0 c).arrAt_eq_of_covers 9 _ (by decide +kernel) fun t hf y => ?_
  rw [after0_9]
  idx_vars y
  blk_simp
  have hz : ∀ a, win0_9.index t a = 0 := by revert t; decide +kernel
  have he : (win0_9.blk t).view.emb (ix3 y0 y1 y2) = ix3 y0 y1 y2 := by
    blk_ext [] <;> rw [hz] <;> omega
  rw [he]
  exact h t y0 y1 y2

/-- The coordinates in the output array. -/
theorem array_9 (hw : ∀ b n, |w b n| ≤ 7000) (hx : ∀ b n, V m c main_v55 (ix2 b n) = (w b n : EReal)) (b : Fin 8) (d : Fin 3) (k : Fin 1024) :
    reg_main_v61_0 m c (ix3 b d k) = V m c main_v56 (ix3 b d (pick (w b) k.val)) := by
  have key := whole_9 m c (fun y => V m c main_v56 (ix3 (y 0) (y 1) (pick (w (y 0)) (y 2).val))) (by
    intro t y0 y1 y2
    have hx2 : ∀ b n, iblk m c 2 t (ix2 b n) = (w b n : EReal) := fun b n => (block_2 m c t b n).trans (hx b n)
    unfold outsAt0
    dsimp only
    rw [out9 hw (hx := hx2)]
    exact block_0 m c t _ _ _)
  exact congrFun key _

/-- The hidden features' array is what the one grid point leaves. -/
theorem whole_10 (G : S8x64x1024.Idx → Elt Ideal .f32) (h : ∀ t y0 y1 y2, (outsAt0 m c t).2.1 (ix3 y0 y1 y2) = G (ix3 y0 y1 y2)) :
    reg_main_v61_1 m c = G := by
  unfold reg_main_v61_1
  refine (dats m 0 c).arrAt_eq_of_covers 10 _ (by decide +kernel) fun t hf y => ?_
  rw [after0_10]
  idx_vars y
  blk_simp
  have hz : ∀ a, win0_10.index t a = 0 := by revert t; decide +kernel
  have he : (win0_10.blk t).view.emb (ix3 y0 y1 y2) = ix3 y0 y1 y2 := by
    blk_ext [] <;> rw [hz] <;> omega
  rw [he]
  exact h t y0 y1 y2

/-- The hidden features in the output array. -/
theorem array_10 (hw : ∀ b n, |w b n| ≤ 7000) (hx : ∀ b n, V m c main_v55 (ix2 b n) = (w b n : EReal)) (b : Fin 8) (d : Fin 64) (k : Fin 1024) :
    reg_main_v61_1 m c (ix3 b d k) = hOf (V m c main_arg1) (V m c main_arg2) (V m c main_v57) (V m c main_v58) (V m c main_v59) (V m c main_arg6) (V m c main_v60) b (pick (w b) k.val) d := by
  have key := whole_10 m c (fun y => hOf (V m c main_arg1) (V m c main_arg2) (V m c main_v57) (V m c main_v58) (V m c main_v59) (V m c main_arg6) (V m c main_v60) (y 0) (pick (w (y 0)) (y 2).val) (y 1)) (by
    intro t y0 y1 y2
    have hx2 : ∀ b n, iblk m c 2 t (ix2 b n) = (w b n : EReal) := fun b n => (block_2 m c t b n).trans (hx b n)
    unfold outsAt0
    dsimp only
    rw [out10 hw (hx := hx2)]
    simp only [hOf, block_1, block_3, block_4, block_5, block_6, block_7, block_8]; rfl)
  exact congrFun key _

/-- The picks' array is what the one grid point leaves. -/
theorem whole_11 (G : S8x1024.Idx → Elt Ideal .i32) (h : ∀ t y0 y1, (outsAt0 m c t).2.2 (ix2 y0 y1) = G (ix2 y0 y1)) :
    reg_main_v61_2 m c = G := by
  unfold reg_main_v61_2
  refine (dats m 0 c).arrAt_eq_of_covers 11 _ (by decide +kernel) fun t hf y => ?_
  rw [after0_11]
  idx_vars y
  blk_simp
  have hz : ∀ a, win0_11.index t a = 0 := by revert t; decide +kernel
  have he : (win0_11.blk t).view.emb (ix2 y0 y1) = ix2 y0 y1 := by
    blk_ext [] <;> rw [hz] <;> omega
  rw [he]
  exact h t y0 y1

/-- The picks in the output array. -/
theorem array_11 (hw : ∀ b n, |w b n| ≤ 7000) (hx : ∀ b n, V m c main_v55 (ix2 b n) = (w b n : EReal)) (b : Fin 8) (k : Fin 1024) :
    reg_main_v61_2 m c (ix2 b k) = BitVec.ofNat 32 (pick (w b) k.val).val := by
  have key := whole_11 m c (fun y => BitVec.ofNat 32 (pick (w (y 0)) (y 1).val).val) (by
    intro t y0 y1
    have hx2 : ∀ b n, iblk m c 2 t (ix2 b n) = (w b n : EReal) := fun b n => (block_2 m c t b n).trans (hx b n)
    unfold outsAt0
    dsimp only
    rw [out11 hw (hx := hx2)]
    rfl)
  exact congrFun key _

end Cert.KernelIdeal.Value
end
-- ==== Proof.Counts.lean ====
/-
The divisors of the two variances, 64 and 32 less no correction, are positive.
-/
module
public import proofs.«01_k».proof.Proof.Consts
public import proofs.«01_k».proof.Proof.Model
@[expose] public section
noncomputable section

namespace TopPick
open Idealize.ShloMosaic

theorem lit_32 : Ideal.ofBits .f32 0x42000000#32 = ((32 : ℝ) : EReal) := by
  simp [Ideal.ofBits, Ideal.ieee, -EReal.coe_mul]; norm_num

theorem count64 : (0 : EReal) < Ideal.ofBits .f32 1115684864#32 - FloatOps.sitofp (F := Ideal) .f32 (0#32 : BitVec 32) := by
  show (0 : EReal) < Ideal.ofBits .f32 0x42800000#32 - (((0#32 : BitVec 32).toInt : ℝ) : EReal)
  rw [lit_64, ← EReal.coe_sub]
  exact_mod_cast (by norm_num : (0:ℝ) < 64 - ((0#32 : BitVec 32).toInt : ℝ))

theorem count32 : (0 : EReal) < Ideal.ofBits .f32 1107296256#32 - FloatOps.sitofp (F := Ideal) .f32 (0#32 : BitVec 32) := by
  show (0 : EReal) < Ideal.ofBits .f32 0x42000000#32 - (((0#32 : BitVec 32).toInt : ℝ) : EReal)
  rw [lit_32, ← EReal.coe_sub]
  exact_mod_cast (by norm_num : (0:ℝ) < 32 - ((0#32 : BitVec 32).toInt : ℝ))

end TopPick
end
-- ==== Proof.KernelHost.lean ====
/-
What the kernel program's host operations hand to the kernel: the scores, the transposed coordinates, the parameters
with a leading axis, and the untouched arguments.
-/
module
public import proofs.«01_k».proof.Proof.Gen.KernelIdeal.Run
public import proofs.«01_k».proof.Proof.Counts
public import Idealize.ShloMosaic.Lib.Pointwise
@[expose] public section
set_option maxRecDepth 16384
set_option maxHeartbeats 1000000
noncomputable section

namespace Cert.KernelIdeal.Value
open Cert.KernelIdeal Cert.KernelIdeal.Gen Idealize.ShloMosaic Idealize.ShloMosaic.TcCoe Idealize.SL.Sem Idealize.ShloMosaic.StableHlo TopPick

variable (U : Valuation τ sig (Elt Ideal))

/-- The hidden features of point `n` of batch `b`, from the argument arrays in the contents `U`. -/
def hid (U : Valuation τ sig (Elt Ideal)) (b : Fin 8) (n : Fin 2048) : Fin 64 → EReal :=
  hidden (fun i => U (Proc.devRef .tc main_arg1) (ix3 b i n)) (fun i x => U (Proc.devRef .tc main_arg2) (ix2 i x))
    (fun x => U (Proc.devRef .tc main_arg3) (ix1 x)) (fun x => U (Proc.devRef .tc main_arg4) (ix1 x))
    (fun x => U (Proc.devRef .tc main_arg5) (ix1 x)) (fun i x => U (Proc.devRef .tc main_arg6) (ix2 i x))
    (fun x => U (Proc.devRef .tc main_arg7) (ix1 x))

/-- The score of point `n` of batch `b`, from the argument arrays in the contents `U`. -/
def sco (U : Valuation τ sig (Elt Ideal)) (b : Fin 8) (n : Fin 2048) : EReal :=
  score (hid U b n) (fun i x => U (Proc.devRef .tc main_arg8) (ix2 i x)) (fun x => U (Proc.devRef .tc main_arg9) (ix1 x))
    (fun x => U (Proc.devRef .tc main_arg10) (ix1 x)) (fun x => U (Proc.devRef .tc main_arg11) (ix1 x))
    (fun i x => U (Proc.devRef .tc main_arg12) (ix2 i x)) (fun x => U (Proc.devRef .tc main_arg13) (ix1 x))

/-- The scores the host operations compute. -/
theorem host_score (b : Fin 8) (n : Fin 2048) : after (List.flatten [hostOps0, hostOps0_1, hostOps0_2, hostOps0_3, hostOps0_4, hostOps0_5, hostOps0_6, hostOps0_7, hostOps0_8]) U (Proc.devRef .tc main_v55) (ix2 b n) = sco U b n := by
  simp only [List.flatten_cons, List.flatten_nil, List.append_nil, hostOps0, hostOps0_1, hostOps0_2, hostOps0_3, hostOps0_4, hostOps0_5, hostOps0_6, hostOps0_7, hostOps0_8, List.cons_append, List.nil_append]
  after_results
  simp only [TRef.ofBuf_toBuf]
  simp only [TRef.toBuf, TRef.ofBuf, cast_eq]
  pointwise []
  simp only [if_pos count64, if_pos count32]
  rfl

theorem host_coord (b : Fin 8) (d : Fin 3) (n : Fin 2048) :
    after (List.flatten [hostOps0, hostOps0_1, hostOps0_2, hostOps0_3, hostOps0_4, hostOps0_5, hostOps0_6, hostOps0_7, hostOps0_8]) U (Proc.devRef .tc main_v56) (ix3 b d n) = U (Proc.devRef .tc main_arg0) (ix3 b n d) := by
  simp only [List.flatten_cons, List.flatten_nil, List.append_nil, hostOps0, hostOps0_1, hostOps0_2, hostOps0_3, hostOps0_4, hostOps0_5, hostOps0_6, hostOps0_7, hostOps0_8, List.cons_append, List.nil_append]
  after_results
  pointwise []

theorem host_row3 (x : Fin 64) :
    after (List.flatten [hostOps0, hostOps0_1, hostOps0_2, hostOps0_3, hostOps0_4, hostOps0_5, hostOps0_6, hostOps0_7, hostOps0_8]) U (Proc.devRef .tc main_v57) (ix2 0 x) = U (Proc.devRef .tc main_arg3) (ix1 x) := by
  simp only [List.flatten_cons, List.flatten_nil, List.append_nil, hostOps0, hostOps0_1, hostOps0_2, hostOps0_3, hostOps0_4, hostOps0_5, hostOps0_6, hostOps0_7, hostOps0_8, List.cons_append, List.nil_append]
  after_results
  pointwise []

theorem host_row4 (x : Fin 64) :
    after (List.flatten [hostOps0, hostOps0_1, hostOps0_2, hostOps0_3, hostOps0_4, hostOps0_5, hostOps0_6, hostOps0_7, hostOps0_8]) U (Proc.devRef .tc main_v58) (ix2 0 x) = U (Proc.devRef .tc main_arg4) (ix1 x) := by
  simp only [List.flatten_cons, List.flatten_nil, List.append_nil, hostOps0, hostOps0_1, hostOps0_2, hostOps0_3, hostOps0_4, hostOps0_5, hostOps0_6, hostOps0_7, hostOps0_8, List.cons_append, List.nil_append]
  after_results
  pointwise []

theorem host_row5 (x : Fin 64) :
    after (List.flatten [hostOps0, hostOps0_1, hostOps0_2, hostOps0_3, hostOps0_4, hostOps0_5, hostOps0_6, hostOps0_7, hostOps0_8]) U (Proc.devRef .tc main_v59) (ix2 0 x) = U (Proc.devRef .tc main_arg5) (ix1 x) := by
  simp only [List.flatten_cons, List.flatten_nil, List.append_nil, hostOps0, hostOps0_1, hostOps0_2, hostOps0_3, hostOps0_4, hostOps0_5, hostOps0_6, hostOps0_7, hostOps0_8, List.cons_append, List.nil_append]
  after_results
  pointwise []

theorem host_row7 (x : Fin 64) :
    after (List.flatten [hostOps0, hostOps0_1, hostOps0_2, hostOps0_3, hostOps0_4, hostOps0_5, hostOps0_6, hostOps0_7, hostOps0_8]) U (Proc.devRef .tc main_v60) (ix2 0 x) = U (Proc.devRef .tc main_arg7) (ix1 x) := by
  simp only [List.flatten_cons, List.flatten_nil, List.append_nil, hostOps0, hostOps0_1, hostOps0_2, hostOps0_3, hostOps0_4, hostOps0_5, hostOps0_6, hostOps0_7, hostOps0_8, List.cons_append, List.nil_append]
  after_results
  pointwise []

theorem host_arg1 : after (List.flatten [hostOps0, hostOps0_1, hostOps0_2, hostOps0_3, hostOps0_4, hostOps0_5, hostOps0_6, hostOps0_7, hostOps0_8]) U (Proc.devRef .tc main_arg1) = U (Proc.devRef .tc main_arg1) := by
  simp only [List.flatten_cons, List.flatten_nil, List.append_nil, hostOps0, hostOps0_1, hostOps0_2, hostOps0_3, hostOps0_4, hostOps0_5, hostOps0_6, hostOps0_7, hostOps0_8, List.cons_append, List.nil_append]
  after_results

theorem host_arg2 : after (List.flatten [hostOps0, hostOps0_1, hostOps0_2, hostOps0_3, hostOps0_4, hostOps0_5, hostOps0_6, hostOps0_7, hostOps0_8]) U (Proc.devRef .tc main_arg2) = U (Proc.devRef .tc main_arg2) := by
  simp only [List.flatten_cons, List.flatten_nil, List.append_nil, hostOps0, hostOps0_1, hostOps0_2, hostOps0_3, hostOps0_4, hostOps0_5, hostOps0_6, hostOps0_7, hostOps0_8, List.cons_append, List.nil_append]
  after_results

theorem host_arg6 : after (List.flatten [hostOps0, hostOps0_1, hostOps0_2, hostOps0_3, hostOps0_4, hostOps0_5, hostOps0_6, hostOps0_7, hostOps0_8]) U (Proc.devRef .tc main_arg6) = U (Proc.devRef .tc main_arg6) := by
  simp only [List.flatten_cons, List.flatten_nil, List.append_nil, hostOps0, hostOps0_1, hostOps0_2, hostOps0_3, hostOps0_4, hostOps0_5, hostOps0_6, hostOps0_7, hostOps0_8, List.cons_append, List.nil_append]
  after_results

end Cert.KernelIdeal.Value
end
-- ==== Proof.KernelRes.lean ====
module

public import proofs.«01_k».proof.Proof.KernelArr
public import proofs.«01_k».proof.Proof.KernelHost
public import Idealize.ShloMosaic.Lib.Pointwise

/-!
  The kernel's three results, from the arguments at the launch: the coordinates, the hidden features and the places of
  the picked points.
-/

@[expose] public section

set_option maxRecDepth 16384

noncomputable section

namespace Cert.KernelIdeal.Value

open Cert.KernelIdeal Cert.KernelIdeal.Gen Idealize.ShloMosaic Idealize.ShloMosaic.TcCoe Idealize.SL.Sem
open Idealize.ShloMosaic.StableHlo TopPick

variable (m : (ℓ : Loc nD τ sig) → Buf (Elt Ideal) ℓ) (c : Dev nD)

/-- The buffers at the launch. -/
def start : Valuation τ sig (Elt Ideal) := fun b => m (c, b)

variable {w : Fin 8 → Fin 2048 → ℝ} (hs : ∀ b n, sco (start m c) b n = (w b n : EReal)) (hw : ∀ b n, |w b n| ≤ 7000)
include hs

/-- The kernel is handed the scores. -/
theorem handed (b : Fin 8) (n : Fin 2048) : V m c main_v55 (ix2 b n) = (w b n : EReal) :=
  (host_score (start m c) b n).trans (hs b n)

include hw

/-- The first result, coordinates last. -/
theorem res_xyz (b : Fin 8) (k : Fin 1024) (d : Fin 3) :
    transpose S8x1024x3 [0, 2, 1] (reg_main_v61_0 m c) transposes_S8x3x1024_S8x1024x3_0_2_1 (ix3 b k d)
      = start m c (Proc.devRef .tc main_arg0) (ix3 b (pick (w b) k.val) d) := by
  refine Eq.trans ?_ ((array_9 m c hw (handed m c hs) b d k).trans (host_coord (start m c) b d _))
  pointwise []

/-- The second result. -/
theorem res_feats (b : Fin 8) (ch : Fin 64) (k : Fin 1024) :
    reg_main_v61_1 m c (ix3 b ch k) = hid (start m c) b (pick (w b) k.val) ch := by
  refine (array_10 m c hw (handed m c hs) b ch k).trans ?_
  have h1 : V m c main_arg1 = start m c (Proc.devRef .tc main_arg1) := host_arg1 (start m c)
  have h2 : V m c main_arg2 = start m c (Proc.devRef .tc main_arg2) := host_arg2 (start m c)
  have h6 : V m c main_arg6 = start m c (Proc.devRef .tc main_arg6) := host_arg6 (start m c)
  have h3 : (fun x : Fin 64 => V m c main_v57 (ix2 0 x)) = fun x => start m c (Proc.devRef .tc main_arg3) (ix1 x) :=
    funext fun x => host_row3 (start m c) x
  have h4 : (fun x : Fin 64 => V m c main_v58 (ix2 0 x)) = fun x => start m c (Proc.devRef .tc main_arg4) (ix1 x) :=
    funext fun x => host_row4 (start m c) x
  have h5 : (fun x : Fin 64 => V m c main_v59 (ix2 0 x)) = fun x => start m c (Proc.devRef .tc main_arg5) (ix1 x) :=
    funext fun x => host_row5 (start m c) x
  have h7 : (fun x : Fin 64 => V m c main_v60 (ix2 0 x)) = fun x => start m c (Proc.devRef .tc main_arg7) (ix1 x) :=
    funext fun x => host_row7 (start m c) x
  unfold hOf hid
  rw [h1, h2, h6, h3, h4, h5, h7]

/-- The third result. -/
theorem res_place (b : Fin 8) (k : Fin 1024) :
    reg_main_v61_2 m c (ix2 b k) = BitVec.ofNat 32 (pick (w b) k.val).val :=
  array_11 m c hw (handed m c hs) b k

end Cert.KernelIdeal.Value
-- ==== Proof.RefHost.lean ====
/-
What the reference's operations before the loop leave: the hidden features and the loop's starting values.
-/
module
public import proofs.«01_k».proof.Proof.RefFrame
public import proofs.«01_k».proof.Proof.Counts
public import Idealize.ShloMosaic.Lib.Pointwise
@[expose] public section
set_option maxRecDepth 16384
set_option maxHeartbeats 1000000
noncomputable section

namespace Cert.ReferenceIdeal.Value
open Cert.ReferenceIdeal Cert.ReferenceIdeal.Gen Idealize.ShloMosaic Idealize.ShloMosaic.TcCoe Idealize.SL.Sem Idealize.ShloMosaic.StableHlo TopPick

variable (U : Valuation τ sig (Elt Ideal))

/-- The hidden features of point `n` of batch `b`, from the argument arrays in the contents `U`. -/
def hid (U : Valuation τ sig (Elt Ideal)) (b : Fin 8) (n : Fin 2048) : Fin 64 → EReal :=
  hidden (fun i => U (Proc.devRef .tc main_arg1) (ix3 b i n)) (fun i x => U (Proc.devRef .tc main_arg2) (ix2 i x))
    (fun x => U (Proc.devRef .tc main_arg3) (ix1 x)) (fun x => U (Proc.devRef .tc main_arg4) (ix1 x))
    (fun x => U (Proc.devRef .tc main_arg5) (ix1 x)) (fun i x => U (Proc.devRef .tc main_arg6) (ix2 i x))
    (fun x => U (Proc.devRef .tc main_arg7) (ix1 x))

/-- The score of point `n` of batch `b`, from the argument arrays in the contents `U`. -/
def sco (U : Valuation τ sig (Elt Ideal)) (b : Fin 8) (n : Fin 2048) : EReal :=
  score (hid U b n) (fun i x => U (Proc.devRef .tc main_arg8) (ix2 i x)) (fun x => U (Proc.devRef .tc main_arg9) (ix1 x))
    (fun x => U (Proc.devRef .tc main_arg10) (ix1 x)) (fun x => U (Proc.devRef .tc main_arg11) (ix1 x))
    (fun i x => U (Proc.devRef .tc main_arg12) (ix2 i x)) (fun x => U (Proc.devRef .tc main_arg13) (ix1 x))

/-- The hidden features. -/
theorem host_hidden (b : Fin 8) (n : Fin 2048) (ch : Fin 64) :
    after (List.flatten [hostOps0, hostOps0_1, hostOps0_2, hostOps0_3, hostOps0_4, hostOps0_5, hostOps0_6, hostOps0_7, hostOps0_8]) U (Proc.devRef .tc main_v27) (ix3 b n ch) = hid U b n ch := by
  simp only [List.flatten_cons, List.flatten_nil, List.append_nil, hostOps0, hostOps0_1, hostOps0_2, hostOps0_3, hostOps0_4, hostOps0_5, hostOps0_6, hostOps0_7, hostOps0_8, List.cons_append, List.nil_append]
  after_results
  simp only [TRef.ofBuf_toBuf]
  simp only [TRef.toBuf, TRef.ofBuf, cast_eq]
  pointwise []
  simp only [if_pos count64]
  rfl

/-- The loop's counter starts at zero. -/
theorem host_ctr : after (List.flatten [hostOps0, hostOps0_1, hostOps0_2, hostOps0_3, hostOps0_4, hostOps0_5, hostOps0_6, hostOps0_7, hostOps0_8]) U (Proc.devRef .tc main_v59_0) ix0 = 0#32 := by
  simp only [List.flatten_cons, List.flatten_nil, List.append_nil, hostOps0, hostOps0_1, hostOps0_2, hostOps0_3, hostOps0_4, hostOps0_5, hostOps0_6, hostOps0_7, hostOps0_8, List.cons_append, List.nil_append]
  after_results
  pointwise []
  rfl

/-- The loop's scores start at the scores. -/
theorem host_score (b : Fin 8) (n : Fin 2048) :
    after (List.flatten [hostOps0, hostOps0_1, hostOps0_2, hostOps0_3, hostOps0_4, hostOps0_5, hostOps0_6, hostOps0_7, hostOps0_8]) U (Proc.devRef .tc main_v59_1) (ix3 b 0 n) = sco U b n := by
  simp only [List.flatten_cons, List.flatten_nil, List.append_nil, hostOps0, hostOps0_1, hostOps0_2, hostOps0_3, hostOps0_4, hostOps0_5, hostOps0_6, hostOps0_7, hostOps0_8, List.cons_append, List.nil_append]
  after_results
  simp only [TRef.ofBuf_toBuf]
  simp only [TRef.toBuf, TRef.ofBuf, cast_eq]
  dsimp only [id]
  pointwise []
  simp only [if_pos count64, if_pos count32]
  rfl

/-- The one-hot row starts at zero. -/
theorem host_oh (b : Fin 8) (n : Fin 2048) :
    after (List.flatten [hostOps0, hostOps0_1, hostOps0_2, hostOps0_3, hostOps0_4, hostOps0_5, hostOps0_6, hostOps0_7, hostOps0_8]) U (Proc.devRef .tc main_v59_2) (ix3 b 0 n) = (0 : EReal) := by
  simp only [List.flatten_cons, List.flatten_nil, List.append_nil, hostOps0, hostOps0_1, hostOps0_2, hostOps0_3, hostOps0_4, hostOps0_5, hostOps0_6, hostOps0_7, hostOps0_8, List.cons_append, List.nil_append]
  after_results
  dsimp only [id]
  pointwise []

end Cert.ReferenceIdeal.Value
end
-- ==== Proof.Argmax.lean ====
module

public import proofs.«01_k».proof.Proof.Gen.ReferenceIdeal
public import proofs.«01_k».proof.Proof.Pick
public import Idealize.ShloMosaic.Lib.Pointwise

/-!
  The reference's arg-max of a row: the place it returns is the first place of the greatest entry.

  The arg-max folds a body over pairs of a value and a place. The body keeps the pair with the greater value, and of two
  pairs with equal values the one with the smaller place. So when the row holds the pair `(M, p)`, every other pair has a
  smaller value or the same value at a place no smaller than `p`, and the fold starts below `M`, it returns `(M, p)`.
-/

@[expose] public section

set_option maxRecDepth 16384

noncomputable section

namespace Cert.ReferenceIdeal.Value

open Cert.ReferenceIdeal Cert.ReferenceIdeal.Gen Idealize.ShloMosaic TopPick

section Body

variable (a b : Ideal .f32 × BitVec 32)

theorem red_left (h : b.1 < a.1) : reducer_argmax_f32_i32 (F := Ideal) a b = a := by
  obtain ⟨x, i⟩ := a; obtain ⟨y, j⟩ := b
  have h' : y < x := h
  have h3 : ¬ x = y := h'.ne'
  simp [reducer_argmax_f32_i32, Ideal.cmpf_def, Ideal.cmp, h', h3, IntOp.ori, IntOp.andi, Scalar.select]

theorem red_right (h : a.1 < b.1) : reducer_argmax_f32_i32 (F := Ideal) a b = b := by
  obtain ⟨x, i⟩ := a; obtain ⟨y, j⟩ := b
  have h' : x < y := h
  have h2 : ¬ y < x := not_lt.2 h'.le
  have h3 : ¬ x = y := h'.ne
  simp [reducer_argmax_f32_i32, Ideal.cmpf_def, Ideal.cmp, h2, h3, IntOp.ori, IntOp.andi, Scalar.select]

theorem red_same (h : a.1 = b.1) : reducer_argmax_f32_i32 (F := Ideal) a b = if a.2.toInt < b.2.toInt then a else b := by
  obtain ⟨x, i⟩ := a; obtain ⟨y, j⟩ := b
  have h' : x = y := h
  subst h'
  by_cases hs : i.toInt < j.toInt
  · simp [reducer_argmax_f32_i32, Ideal.cmpf_def, Ideal.cmp, IntOp.ori, IntOp.andi, IntOp.cmpi, Scalar.select, hs, BitVec.slt]
  · simp [reducer_argmax_f32_i32, Ideal.cmpf_def, Ideal.cmp, IntOp.ori, IntOp.andi, IntOp.cmpi, Scalar.select, hs, BitVec.slt]

end Body

/-- A pair that does not come before `(M, p)`: a smaller value, or the same value at a place no smaller. -/
def Below (M : Ideal .f32) (p : BitVec 32) (a : Ideal .f32 × BitVec 32) : Prop :=
  a.1 < M ∨ (a.1 = M ∧ p.toInt ≤ a.2.toInt)

theorem red_of_left {M : Ideal .f32} {p : BitVec 32} {b : Ideal .f32 × BitVec 32} (h : Below M p b) :
    reducer_argmax_f32_i32 (F := Ideal) (M, p) b = (M, p) := by
  rcases h with h | ⟨h, h'⟩
  · exact red_left _ _ h
  · rw [red_same _ _ h.symm]
    split_ifs with hs
    · rfl
    · have : b.2 = p := BitVec.eq_of_toInt_eq (by dsimp only at hs; omega)
      exact Prod.ext h this

theorem red_of_right {M : Ideal .f32} {p : BitVec 32} {a : Ideal .f32 × BitVec 32} (h : Below M p a) :
    reducer_argmax_f32_i32 (F := Ideal) a (M, p) = (M, p) := by
  rcases h with h | ⟨h, h'⟩
  · exact red_right _ _ h
  · rw [red_same _ _ h, if_neg (by dsimp only; omega)]

theorem red_below {M : Ideal .f32} {p : BitVec 32} {a b : Ideal .f32 × BitVec 32} (ha : Below M p a) (hb : Below M p b) :
    Below M p (reducer_argmax_f32_i32 (F := Ideal) a b) := by
  rcases lt_trichotomy a.1 b.1 with h | h | h
  · rw [red_right _ _ h]; exact hb
  · rw [red_same _ _ h]; split_ifs <;> assumption
  · rw [red_left _ _ h]; exact ha

theorem foldl_top {M : Ideal .f32} {p : BitVec 32} (L : List (Ideal .f32 × BitVec 32)) (hL : ∀ x ∈ L, Below M p x) :
    L.foldl (reducer_argmax_f32_i32 (F := Ideal)) (M, p) = (M, p) := by
  induction L with
  | nil => rfl
  | cons x L ih =>
    rw [List.foldl_cons, red_of_left (hL x (by simp))]
    exact ih fun y hy => hL y (by simp [hy])

theorem foldl_reach {M : Ideal .f32} {p : BitVec 32} (L : List (Ideal .f32 × BitVec 32)) :
    ∀ a, Below M p a → (∀ x ∈ L, Below M p x) → (M, p) ∈ L → L.foldl (reducer_argmax_f32_i32 (F := Ideal)) a = (M, p) := by
  induction L with
  | nil => intro a _ _ h; simp at h
  | cons x L ih =>
    intro a ha hL hm
    rw [List.foldl_cons]
    rcases List.mem_cons.1 hm with h | h
    · subst h
      rw [red_of_right ha]
      exact foldl_top L fun y hy => hL y (by simp [hy])
    · exact ih _ (red_below ha (hL x (by simp))) (fun y hy => hL y (by simp [hy])) h

/-- The place returned by the arg-max of the entries that drop to `j`. -/
theorem arg_place {s t u : Shape} {axes : List (Fin s.rank)} (x : FVec Ideal s .f32) (y : s.Idx → BitVec 32)
    (ix : FVec Ideal u .f32) (iy : u.Idx → BitVec 32) (h : s.ReducesTo axes t) (hu : 0 < u.numel) (j : t.Idx)
    (M : Ideal .f32) (p : BitVec 32) (hix : ∀ q, ix q = (⊥ : EReal)) (hM : (⊥ : EReal) < M)
    (hmem : ∃ i, h.drop i = j ∧ x i = M ∧ y i = p)
    (hall : ∀ i, h.drop i = j → Below M p (x i, y i)) :
    (Host.argReduce (reducer_argmax_f32_i32 (F := Ideal)) x y ix iy h hu j).2 = p := by
  rw [Ideal.argReduce_eq_reduce2, Host.reduce2_eq_foldl_fiber]
  rw [foldl_reach (M := M) (p := p)]
  · exact Or.inl (by rw [hix]; exact hM)
  · intro q hq
    unfold Host.argReduceFiber at hq
    obtain ⟨n, hn, rfl⟩ := List.mem_map.1 hq
    exact hall _ (by simpa using (List.mem_filter.1 hn).2)
  · obtain ⟨i, hi, hx, hy⟩ := hmem
    unfold Host.argReduceFiber
    refine List.mem_map.2 ⟨s.rowMajor i, List.mem_filter.2 ⟨List.mem_finRange _, ?_⟩, ?_⟩
    · simpa using hi
    · simp [hx, hy]

/-- The same along the last of three axes, for a row of reals whose entry `p` is the first greatest one. -/
theorem arg_row {n0 n1 : Nat} {u : Shape} (x : FVec Ideal ⟨3, ![n0, n1, 2048]⟩ .f32) (y : (⟨3, ![n0, n1, 2048]⟩ : Shape).Idx → BitVec 32)
    (ix : FVec Ideal u .f32) (iy : u.Idx → BitVec 32) (h : (⟨3, ![n0, n1, 2048]⟩ : Shape).ReducesTo [2] ⟨2, ![n0, n1]⟩)
    (hu : 0 < u.numel) (b : Fin n0) (k : Fin n1) (r : Fin 2048 → ℝ) (p : Fin 2048) (hix : ∀ q, ix q = (⊥ : EReal))
    (hx : ∀ n, x (ix3 b k n) = (r n : EReal)) (hy : ∀ n, y (ix3 b k n) = BitVec.ofNat 32 n.val) (hr : FirstMax r p) :
    (Host.argReduce (reducer_argmax_f32_i32 (F := Ideal)) x y ix iy h hu (ix2 b k)).2 = BitVec.ofNat 32 p.val := by
  refine arg_place x y ix iy h hu (ix2 b k) (r p : EReal) _ hix (EReal.bot_lt_coe _) ⟨ix3 b k p, ?_, hx p, hy p⟩ ?_
  · exact (h.fiber_r3_a2 (ix2 b k) _).2 ⟨p, rfl⟩
  · intro i hi
    obtain ⟨n, rfl⟩ := (h.fiber_r3_a2 (ix2 b k) i).1 hi
    change Below _ _ (x (ix3 b k n), y (ix3 b k n))
    rw [hx, hy]
    rcases hr n with h1 | ⟨h1, h2⟩
    · exact Or.inl (EReal.coe_lt_coe_iff.2 h1)
    · refine Or.inr ⟨by dsimp only; rw [h1], ?_⟩
      dsimp only
      rw [toInt_word, toInt_word]
      exact_mod_cast h2

end Cert.ReferenceIdeal.Value
-- ==== Proof.RefPick.lean ====
module

public import proofs.«01_k».proof.Proof.RefFrame
public import proofs.«01_k».proof.Proof.Argmax
public import proofs.«01_k».proof.Proof.Pick
public import proofs.«01_k».proof.Proof.Consts
public import Idealize.ShloMosaic.Lib.Pointwise
public import Idealize.ShloMosaic.Lib.WordCmp

/-!
  The reference's loop: trip `k` picks the place chosen after `k` others.

  A row's scores are reals `w`. At trip `k` the reference lowers the score of the place picked in the trip before by the
  logarithm of the least positive normal number, divides the row by the temperature, takes its softmax, and makes the
  one-hot row of the first greatest entry. Two scores of a row differ by at most 87, and that logarithm is below `-87`,
  so every lowered score is below every other score: the first greatest entry is the place `pick w k`.
-/

@[expose] public section

set_option maxRecDepth 16384

noncomputable section

namespace Cert.ReferenceIdeal.Value

open Cert.ReferenceIdeal Cert.ReferenceIdeal.Gen Idealize.ShloMosaic Idealize.ShloMosaic.TcCoe Idealize.SL.Sem
open Idealize.ShloMosaic.StableHlo TopPick

/-- A row of scores with the places of `S` lowered. -/
def lowered (w : Fin 2048 → ℝ) (S : Finset (Fin 2048)) (n : Fin 2048) : ℝ := if n ∈ S then w n + Real.log tiny else w n

/-- The lowered row divided by the temperature. -/
def scaled (w : Fin 2048 → ℝ) (S : Finset (Fin 2048)) (n : Fin 2048) : ℝ := lowered w S n / temp

theorem firstMax_scaled {w : Fin 2048 → ℝ} (hd : ∀ i j, w i - w j ≤ 87) {S : Finset (Fin 2048)} {p : Fin 2048}
    (h : Best w S p) : FirstMax (scaled w S) p := by
  have hl := log_tiny
  refine firstMax_of_best h _ ?_ ?_ ?_
  · intro a c ha hc hac
    unfold scaled lowered
    rw [if_neg ha, if_neg hc]
    exact div_lt_div_of_pos_right hac temp_pos
  · intro a c ha hc hac
    unfold scaled lowered
    rw [if_neg ha, if_neg hc, hac]
  · intro a c ha hc
    unfold scaled lowered
    rw [if_pos ha, if_neg hc]
    exact div_lt_div_of_pos_right (by linarith [hd a c]) temp_pos

theorem log_pos {x : ℝ} (h : 0 < x) : Ideal.log (x : EReal) = ((Real.log x : ℝ) : EReal) := by
  rw [Ideal.log_coe, if_neg (not_le.2 h)]

theorem add_back (a r : ℝ) : ((a : EReal) - (r : EReal)) + (r : EReal) = (a : EReal) := by
  rw [← EReal.coe_sub, ← EReal.coe_add, sub_add_cancel]

section Trip

variable (V0 : Valuation τ sig (Elt Ideal)) (b : Fin 8)

theorem v70_at (x : ℝ) (o : ℝ) (ho : o = 0 ∨ o = 1) (n : Fin 2048)
    (h1 : V0 (Proc.devRef .tc main_v59_1) (ix3 b 0 n) = (x : EReal))
    (h2 : V0 (Proc.devRef .tc main_v59_2) (ix3 b 0 n) = (o : EReal)) :
    res_main_while0b_v70 V0 (ix3 b 0 n) = ((if o = 1 then x + Real.log tiny else x : ℝ) : EReal) := by
  unfold res_main_while0b_v70
  dsimp only [id]
  pointwise [h1, h2]
  rw [lit_tiny]
  rcases ho with rfl | rfl
  · have e : max (tiny : EReal) (1 - ((0 : ℝ) : EReal)) = ((1 : ℝ) : EReal) := by
      rw [EReal.coe_zero, sub_zero, EReal.coe_one]
      exact max_eq_right (by exact_mod_cast tiny_le_one)
    rw [e, if_neg (by norm_num), log_pos one_pos, Real.log_one, EReal.coe_zero, add_zero]
  · have e : max (tiny : EReal) (1 - ((1 : ℝ) : EReal)) = (tiny : EReal) := by
      rw [← EReal.coe_one, ← EReal.coe_sub, sub_self]
      exact max_eq_left (by exact_mod_cast tiny_pos.le)
    rw [e, if_pos rfl, log_pos tiny_pos, EReal.coe_add]

theorem v72_at (r : Fin 2048 → ℝ) (h : ∀ n, res_main_while0b_v70 V0 (ix3 b 0 n) = (r n : EReal)) (n : Fin 2048) :
    res_main_while0b_v72 V0 (ix3 b 0 n) = ((r n / temp : ℝ) : EReal) := by
  unfold res_main_while0b_v72
  pointwise [h]
  rw [lit_temp, div_coe_coe temp_pos.ne']

theorem v79_at (r : Fin 2048 → ℝ) (p : Fin 2048) (hr : FirstMax r p)
    (h : ∀ n, res_main_while0b_v72 V0 (ix3 b 0 n) = (r n : EReal)) (n : Fin 2048) :
    res_main_while0b_v79 V0 (ix3 b 0 n) = Ideal.exp ((r n : EReal) - (r p : EReal)) := by
  unfold res_main_while0b_v79
  pointwise [h]
  rw [lit_bot]
  have e0 := reducesTo_S8x1x2048_S8x1_d2.fold_fiber_r3_a2 (ix2 b 0) (max : EReal → EReal → EReal) ⊥
    (res_main_while0b_v72 V0)
  have e : Finset.fold max (⊥ : EReal) (fun n => res_main_while0b_v72 V0 (ix3 b 0 n)) Finset.univ = (r p : EReal) := by
    simp only [h]
    exact fold_max hr
  refine congrArg (fun z => Ideal.exp ((r n : EReal) - z)) ?_
  exact (max_eq_right bot_le).trans (e0.trans e)

theorem v83_at (r : Fin 2048 → ℝ) (p : Fin 2048)
    (h : ∀ n, res_main_while0b_v79 V0 (ix3 b 0 n) = Ideal.exp ((r n : EReal) - (r p : EReal))) (n : Fin 2048) :
    res_main_while0b_v83 V0 (ix3 b 0 n) = (soft r p n : EReal) := by
  unfold res_main_while0b_v83
  pointwise [h]
  rw [sum_exp]
  exact soft_eq r p n

theorem v87_at (r : Fin 2048 → ℝ) (p : Fin 2048) (hr : FirstMax r p)
    (h : ∀ n, res_main_while0b_v83 V0 (ix3 b 0 n) = (r n : EReal)) (n : Fin 2048) :
    res_main_while0b_v87 V0 (ix3 b 0 n) = (if n = p then (1 : EReal) else 0) := by
  have ha := arg_row (res_main_while0b_v83 V0) (res_main_while0b_call5_v0 V0) (res_main_while0b_call5_cst V0)
    (res_main_while0b_call5_c V0) reducesTo_S8x1x2048_S8x1_d2 h_S_ b 0 r p
    (fun q => lit_bot) h (fun n => by unfold res_main_while0b_call5_v0; pointwise []) hr
  unfold res_main_while0b_v87
  pointwise [h]
  rw [ha]
  by_cases hn : n = p
  · rw [if_pos hn, hn, eq_yes rfl]
    have e : FloatOps.uitofp (F := Ideal) .f32 1#1 = ((1 : ℝ) : EReal) := by simp [FloatOps.uitofp]
    rw [e]
    exact add_back 1 _
  · rw [if_neg hn, eq_no (fun e => hn (word_inj e).symm)]
    have e : FloatOps.uitofp (F := Ideal) .f32 0#1 = ((0 : ℝ) : EReal) := by simp [FloatOps.uitofp]
    rw [e]
    exact add_back 0 _

theorem slab_at (k : Nat) (hk : k < 1024) (hc : V0 (Proc.devRef .tc main_v59_0) = fun _ => BitVec.ofNat 32 k)
    (j : Fin 1024) (n : Fin 2048) :
    step_main_v59_3 V0 (ix4 j b 0 n) = if j.val = k then res_main_while0b_v87 V0 (ix3 b 0 n)
      else V0 (Proc.devRef .tc main_v59_3) (ix4 j b 0 n) := by
  unfold step_main_v59_3
  dsimp only [id]
  have hs : S1024x8x1x2048.Slices ![k, 0, 0, 0] S1x8x1x2048 := ⟨rfl, fun a => by
    fin_cases a
    · change k + 1 ≤ 1024
      omega
    · exact Nat.le_refl _
    · exact Nat.le_refl _
    · exact Nat.le_refl _⟩
  rw [WordCmp.dynamicUpdateSlice_eq_update (k := ![k, 0, 0, 0]) (hk := by exact hs)]
  · pointwise []
    refine if_congr ?_ rfl rfl
    constructor
    · intro hh
      have := hh 0
      simp at this
      omega
    · rintro rfl a
      fin_cases a
      · exact ⟨le_rfl, Nat.lt_succ_self _⟩
      · exact ⟨Nat.zero_le _, by have := b.isLt; simp⟩
      · exact ⟨Nat.zero_le _, by simp⟩
      · exact ⟨Nat.zero_le _, by have := n.isLt; simp⟩
  · intro a
    fin_cases a
    · change BitVec.toInt (V0 (Proc.devRef .tc main_v59_0) (Shape.Idx.first h_S_)) = (k : Int)
      rw [hc]
      exact toInt_word ⟨k, by omega⟩
    · rfl
    · rfl
    · rfl

end Trip

/-- The carried buffers before trip `k`. -/
structure Inv (w : Fin 8 → Fin 2048 → ℝ) (k : Nat) (V : Valuation τ sig (Elt Ideal)) : Prop where
  ctr : V (Proc.devRef .tc main_v59_0) = fun _ => BitVec.ofNat 32 k
  row : ∀ b n, V (Proc.devRef .tc main_v59_1) (ix3 b 0 n) = (lowered (w b) (taken (w b) (k - 1)) n : EReal)
  hot : ∀ b n, V (Proc.devRef .tc main_v59_2) (ix3 b 0 n)
    = ((if k ≠ 0 ∧ n = pick (w b) (k - 1) then 1 else 0 : ℝ) : EReal)
  rows : ∀ j : Fin 1024, j.val < k → ∀ b n, V (Proc.devRef .tc main_v59_3) (ix4 j b 0 n)
    = (if n = pick (w b) j.val then (1 : EReal) else 0)

section Loop

variable {w : Fin 8 → Fin 2048 → ℝ} {k : Nat} {V : Valuation τ sig (Elt Ideal)}

/-- The row that trip `k` scores: every place taken so far is lowered. -/
theorem Inv.v70 (h : Inv w k V) (hk : k < 1024) (b : Fin 8) (n : Fin 2048) :
    res_main_while0b_v70 V (ix3 b 0 n) = (lowered (w b) (taken (w b) k) n : EReal) := by
  rw [v70_at V b _ _ (by split_ifs <;> simp) n (h.row b n) (h.hot b n)]
  congr 1
  cases k with
  | zero => simp
  | succ k =>
    have hp := (best_pick (w b) k (by omega)).1
    by_cases hn : n = pick (w b) k
    · subst hn
      simp [lowered, taken_succ, hp]
    · simp [lowered, taken_succ, hn]

/-- The one-hot row that trip `k` makes. -/
theorem Inv.v87 (h : Inv w k V) (hd : ∀ b i j, w b i - w b j ≤ 87) (hk : k < 1024) (b : Fin 8) (n : Fin 2048) :
    res_main_while0b_v87 V (ix3 b 0 n) = (if n = pick (w b) k then (1 : EReal) else 0) := by
  have hm := firstMax_scaled (hd b) (best_pick (w b) k (by omega))
  exact v87_at V b _ _ (firstMax_soft hm) (v83_at V b _ _ (v79_at V b _ _ hm (v72_at V b _ (h.v70 hk b)))) n

theorem Inv.step (h : Inv w k V) (hd : ∀ b i j, w b i - w b j ≤ 87) (hk : k < 1024) : Inv w (k + 1) (STEP V) where
  ctr := by
    rw [STEP_main_v59_0]
    unfold step_main_v59_0
    rw [h.ctr]
    funext i
    change IntOp.addi (BitVec.ofNat 32 k) 1#32 = _
    exact WordCmp.addi_ofNat k 1
  row := fun b n => by
    rw [STEP_main_v59_1]
    exact h.v70 hk b n
  hot := fun b n => by
    rw [STEP_main_v59_2]
    refine (h.v87 hd hk b n).trans ?_
    by_cases hn : n = pick (w b) k <;> simp [hn]
  rows := fun j hj b n => by
    rw [STEP_main_v59_3, slab_at V b k hk h.ctr j n]
    split_ifs with h1 h2 h2
    · rw [h.v87 hd hk b n, if_pos (h1 ▸ h2)]
    · rw [h.v87 hd hk b n, if_neg (h1 ▸ h2)]
    · rw [h.rows j (by omega) b n, if_pos h2]
    · rw [h.rows j (by omega) b n, if_neg h2]

theorem Inv.iter (h : Inv w 0 V) (hd : ∀ b i j, w b i - w b j ≤ 87) : ∀ k, k ≤ 1024 → Inv w k (STEP^[k] V)
  | 0, _ => h
  | k + 1, hk => by
    rw [Function.iterate_succ_apply']
    exact (Inv.iter h hd k (by omega)).step hd (by omega)

end Loop

end Cert.ReferenceIdeal.Value
-- ==== Proof.RefOut.lean ====
module

public import proofs.«01_k».proof.Proof.RefHost
public import proofs.«01_k».proof.Proof.RefPick
public import Idealize.ShloMosaic.Lib.Pointwise

/-!
  The reference's three results: the coordinates, the hidden features and the places of the picked points.
-/

@[expose] public section

set_option maxRecDepth 16384
set_option maxHeartbeats 1000000

noncomputable section

namespace Cert.ReferenceIdeal.Value

open Cert.ReferenceIdeal Cert.ReferenceIdeal.Gen Idealize.ShloMosaic Idealize.ShloMosaic.TcCoe Idealize.SL.Sem
open Idealize.ShloMosaic.StableHlo TopPick

section Post

variable {X : Valuation τ sig (Elt Ideal)} {w : Fin 8 → Fin 2048 → ℝ}

/-- The one-hot rows, batch first. -/
theorem post_rows (hX : ∀ (j : Fin 1024) b n, X (Proc.devRef .tc main_v59_3) (ix4 j b 0 n) = (if n = pick (w b) j.val then (1 : EReal) else 0))
    (b : Fin 8) (k : Fin 1024) (n : Fin 2048) :
    after hostOps0_9 X (Proc.devRef .tc main_v61) (ix3 b k n) = (if n = pick (w b) k.val then (1 : EReal) else 0) := by
  simp only [hostOps0_9]
  after_results
  pointwise [hX]

/-- The coordinates of the picked points. -/
theorem post_xyz (hX : ∀ (j : Fin 1024) b n, X (Proc.devRef .tc main_v59_3) (ix4 j b 0 n) = (if n = pick (w b) j.val then (1 : EReal) else 0))
    (b : Fin 8) (k : Fin 1024) (d : Fin 3) :
    after hostOps0_10 (after hostOps0_9 X) (Proc.devRef .tc main_v62) (ix3 b k d)
      = X (Proc.devRef .tc main_arg0) (ix3 b (pick (w b) k.val) d) := by
  rw [after_of_writes_sub hostOps0_10 _ hostOps0_10_writes (by decide +kernel)]
  simp only [hostOps0_9]
  after_results
  pointwise [hX]
  exact sum_oneHot' _ _

/-- The hidden features of the picked points. -/
theorem post_feats (hX : ∀ (j : Fin 1024) b n, X (Proc.devRef .tc main_v59_3) (ix4 j b 0 n) = (if n = pick (w b) j.val then (1 : EReal) else 0))
    (b : Fin 8) (ch : Fin 64) (k : Fin 1024) :
    after hostOps0_10 (after hostOps0_9 X) (Proc.devRef .tc main_v64) (ix3 b ch k)
      = X (Proc.devRef .tc main_v27) (ix3 b (pick (w b) k.val) ch) := by
  rw [after_of_writes_sub hostOps0_10 _ hostOps0_10_writes (by decide +kernel)]
  simp only [hostOps0_9]
  after_results
  pointwise [hX]
  exact sum_oneHot' _ _

theorem arg_last (x : FVec Ideal S8x1024x2048 .f32) (b : Fin 8) (k : Fin 1024) (r : Fin 2048 → ℝ) (p : Fin 2048)
    (hx : ∀ n, x (ix3 b k n) = (r n : EReal)) (hr : FirstMax r p) :
    (Host.argReduce (reducer_argmax_f32_i32 (F := Ideal)) x (iotaInDim S8x1024x2048 32 2)
      (constant S_ .f32 0xFF800000#32) (constantI S_ 32 0#32) reducesTo_S8x1024x2048_S8x1024_d2 h_S_ (ix2 b k)).2
      = BitVec.ofNat 32 p.val :=
  arg_row x _ _ _ _ _ b k r p (fun _ => lit_bot) hx (fun n => by pointwise []) hr

/-- The last arg-max, of the one-hot rows. -/
theorem post_arg (V : Valuation τ sig (Elt Ideal)) :
    after hostOps0_10 V (Proc.devRef .tc main_v65)
      = fun j => (Host.argReduce (reducer_argmax_f32_i32 (F := Ideal)) (V (Proc.devRef .tc main_v61)) (iotaInDim S8x1024x2048 32 2)
        (constant S_ .f32 0xFF800000#32) (constantI S_ 32 0#32) reducesTo_S8x1024x2048_S8x1024_d2 h_S_ j).2 := by
  simp only [hostOps0_10]
  after_results
  simp only [TRef.ofBuf_toBuf]
  simp only [TRef.toBuf, TRef.ofBuf, cast_eq]

/-- The places of the picked points. -/
theorem post_place (hX : ∀ (j : Fin 1024) b n, X (Proc.devRef .tc main_v59_3) (ix4 j b 0 n) = (if n = pick (w b) j.val then (1 : EReal) else 0))
    (b : Fin 8) (k : Fin 1024) :
    after hostOps0_10 (after hostOps0_9 X) (Proc.devRef .tc main_v65) (ix2 b k) = BitVec.ofNat 32 (pick (w b) k.val).val := by
  have hm : FirstMax (fun n : Fin 2048 => if n = pick (w b) k.val then (1 : ℝ) else 0) (pick (w b) k.val) := fun n => by
    by_cases hn : n = pick (w b) k.val
    · exact Or.inr ⟨by simp [hn], hn.ge⟩
    · exact Or.inl (by simp [hn])
  refine (congrFun (post_arg (after hostOps0_9 X)) (ix2 b k)).trans (arg_last _ b k _ _ (fun n => ?_) hm)
  refine (post_rows hX b k n).trans ?_
  split_ifs <;> simp

end Post

section Run

variable (m : (ℓ : Loc nD τ sig) → ℓ.ty.Contents (Elt Ideal)) (c : Dev nD) (w : Fin 8 → Fin 2048 → ℝ)

theorem inv_entry (hs : ∀ b n, sco (launchContents m c) b n = (w b n : EReal)) : Inv w 0 (entryContents preI m c) where
  ctr := by
    funext i
    rw [entryContents, afterL_eq_after_flatten]
    exact (congrArg _ (ix0_eta i).symm).trans (host_ctr _)
  row := fun b n => by
    rw [entryContents, afterL_eq_after_flatten]
    refine (host_score _ b n).trans ((hs b n).trans ?_)
    simp [lowered, taken]
  hot := fun b n => by
    rw [entryContents, afterL_eq_after_flatten]
    refine (host_oh _ b n).trans ?_
    simp
  rows := fun j hj => absurd hj (by omega)

variable (hs : ∀ b n, sco (launchContents m c) b n = (w b n : EReal)) (hd : ∀ b i j, w b i - w b j ≤ 87)
include hs hd

/-- The one-hot rows when the loop is left. -/
theorem exit_rows (j : Fin 1024) (b : Fin 8) (n : Fin 2048) :
    exitV m c (Proc.devRef .tc main_v59_3) (ix4 j b 0 n) = (if n = pick (w b) j.val then (1 : EReal) else 0) := by
  have h := ((inv_entry m c w hs).iter hd 1024 le_rfl).rows j j.isLt b n
  refine Eq.trans (congrFun ?_ _) h
  exact (cond_keeps (atK m 1024 c) main_v59_3 (by decide)).trans (atK_agree m c 1024 main_v59_3 (by decide))

theorem final_xyz (b : Fin 8) (k : Fin 1024) (d : Fin 3) :
    finalContents condOps preI bodyI postI 1024 m c (Proc.devRef .tc main_v62) (ix3 b k d)
      = launchContents m c (Proc.devRef .tc main_arg0) (ix3 b (pick (w b) k.val) d) := by
  rw [final_eq]
  refine (post_xyz (exit_rows m c w hs hd) b k d).trans (congrFun ?_ _)
  rw [exitV, after_of_writes_sub condOps _ condOps_writes (by decide +kernel), atK_keep m c main_arg0 (by decide +kernel),
    entry_keep m c main_arg0 (by decide +kernel)]

theorem final_feats (b : Fin 8) (ch : Fin 64) (k : Fin 1024) :
    finalContents condOps preI bodyI postI 1024 m c (Proc.devRef .tc main_v64) (ix3 b ch k)
      = hid (launchContents m c) b (pick (w b) k.val) ch := by
  rw [final_eq]
  refine (post_feats (exit_rows m c w hs hd) b ch k).trans ?_
  rw [exitV, after_of_writes_sub condOps _ condOps_writes (by decide +kernel), atK_keep m c main_v27 (by decide +kernel),
    entryContents, afterL_eq_after_flatten]
  exact host_hidden _ b _ ch

theorem final_place (b : Fin 8) (k : Fin 1024) :
    finalContents condOps preI bodyI postI 1024 m c (Proc.devRef .tc main_v65) (ix2 b k)
      = BitVec.ofNat 32 (pick (w b) k.val).val := by
  rw [final_eq]
  exact post_place (exit_rows m c w hs hd) b k

end Run

end Cert.ReferenceIdeal.Value
-- ==== Proof.Near.lean ====
/-
What the precondition says: in every batch the scores lie within 87 of each other and within 7000 of zero.
-/
module
public import proofs.«01_k».proof.Pre_scores_near
public import proofs.«01_k».proof.Proof.Counts
public import Idealize.ShloMosaic.Lib.Pointwise
@[expose] public section
set_option maxRecDepth 16384
set_option maxHeartbeats 1000000
noncomputable section

namespace TopPick
open Idealize.ShloMosaic

/-- Two truth words whose conjunction is true are true. -/
theorem both_of_andi {p q : Prop} [Decidable p] [Decidable q]
    (h : IntOp.andi (BitVec.ofBool (decide p)) (BitVec.ofBool (decide q)) = 1#1) : p ∧ q := by
  by_cases hp : p <;> by_cases hq : q <;> simp [hp, hq, IntOp.andi] at h ⊢

/-- Extended reals within 7000 of zero and within 87 of each other are real numbers with the same bounds. -/
theorem reals_of_near {s : Fin 8 → Fin 2048 → EReal} (h : ∀ b i j, s b i - s b j ≤ ((87 : ℝ) : EReal)
      ∧ max (s b i) (-s b i) ≤ ((7000 : ℝ) : EReal)) :
    ∃ w : Fin 8 → Fin 2048 → ℝ, (∀ b n, s b n = (w b n : EReal)) ∧ (∀ b n, |w b n| ≤ 7000) ∧ ∀ b i j, w b i - w b j ≤ 87 := by
  have key : ∀ b n, ∃ r : ℝ, s b n = (r : EReal) ∧ |r| ≤ 7000 := by
    intro b n
    obtain ⟨hp, hn⟩ := max_le_iff.mp (h b n n).2
    generalize s b n = x at hp hn
    induction x with
    | bot => simp at hn
    | top => simp at hp
    | coe r =>
      refine ⟨r, rfl, abs_le.mpr ⟨?_, by exact_mod_cast hp⟩⟩
      rw [← EReal.coe_neg] at hn
      have : -r ≤ 7000 := by exact_mod_cast hn
      linarith
  choose w hw hb using key
  refine ⟨w, hw, hb, fun b i j => ?_⟩
  have h1 := (h b i j).1
  rw [hw, hw, ← EReal.coe_sub] at h1
  exact_mod_cast h1

end TopPick

namespace Cert.Pre_scores_near
open Idealize.ShloMosaic TopPick
variable [Facts]

/-- The scores, from the argument arrays. -/
def sco (a1 : FVec Ideal S8x64x2048 .f32) (a2 : FVec Ideal S64x64 .f32) (a3 a4 a5 : FVec Ideal S64 .f32) (a6 : FVec Ideal S64x64 .f32)
    (a7 : FVec Ideal S64 .f32) (a8 : FVec Ideal S64x32 .f32) (a9 a10 a11 : FVec Ideal S32 .f32) (a12 : FVec Ideal S32x1 .f32)
    (a13 : FVec Ideal S1 .f32) (b : Fin 8) (n : Fin 2048) : EReal :=
  score (hidden (fun i => a1 (ix3 b i n)) (fun i x => a2 (ix2 i x)) (fun x => a3 (ix1 x)) (fun x => a4 (ix1 x)) (fun x => a5 (ix1 x))
    (fun i x => a6 (ix2 i x)) (fun x => a7 (ix1 x))) (fun i x => a8 (ix2 i x)) (fun x => a9 (ix1 x))
    (fun x => a10 (ix1 x)) (fun x => a11 (ix1 x)) (fun i x => a12 (ix2 i x)) (fun x => a13 (ix1 x))

/-- The precondition at one entry. -/
theorem near_at (a0 : FVec Ideal S8x2048x3 .f32) (a1 : FVec Ideal S8x64x2048 .f32) (a2 : FVec Ideal S64x64 .f32)
    (a3 a4 a5 : FVec Ideal S64 .f32) (a6 : FVec Ideal S64x64 .f32) (a7 : FVec Ideal S64 .f32) (a8 : FVec Ideal S64x32 .f32)
    (a9 a10 a11 : FVec Ideal S32 .f32) (a12 : FVec Ideal S32x1 .f32) (a13 : FVec Ideal S1 .f32) (b : Fin 8) (i j : Fin 2048)
    (h : fn a0 a1 a2 a3 a4 a5 a6 a7 a8 a9 a10 a11 a12 a13 (ix3 b i j) = 1#1) :
    sco a1 a2 a3 a4 a5 a6 a7 a8 a9 a10 a11 a12 a13 b i - sco a1 a2 a3 a4 a5 a6 a7 a8 a9 a10 a11 a12 a13 b j ≤ ((87 : ℝ) : EReal)
      ∧ max (sco a1 a2 a3 a4 a5 a6 a7 a8 a9 a10 a11 a12 a13 b i) (-sco a1 a2 a3 a4 a5 a6 a7 a8 a9 a10 a11 a12 a13 b i) ≤ ((7000 : ℝ) : EReal) := by
  rw [← lit_87, ← lit_7000]
  refine both_of_andi (Eq.trans ?_ h)
  symm
  unfold fn fn_part1 fn_part2 fn_part3 fn_var fn_relu fn_var_0 fn_relu_1 fn_where
  dsimp only
  pointwise []
  simp only [if_pos count64, if_pos count32]
  rfl

end Cert.Pre_scores_near
end
-- ==== Proof.Values.lean ====
module

public import proofs.«01_k».proof.Defs
public import proofs.«01_k».proof.Proof.KernelRes
public import proofs.«01_k».proof.Proof.RefOut
public import proofs.«01_k».proof.Proof.Near

/-!
  The kernel's idealization and the reference return the same three results, on inputs whose scores are near.
-/

@[expose] public section

set_option maxRecDepth 16384

noncomputable section

namespace Cert

open Idealize.ShloMosaic Idealize.ShloMosaic.TcCoe Idealize.SL.Sem Idealize.ShloMosaic.StableHlo TopPick
open Cert.KernelIdeal.Value (start)
open Cert.ReferenceIdeal.Value (condOps preI bodyI postI)

section

variable {m : (ℓ : Loc Cert.KernelIdeal.nD Cert.KernelIdeal.τ Cert.KernelIdeal.sig) → Buf (Elt Ideal) ℓ}
  {m' : (ℓ : Loc Cert.ReferenceIdeal.nD Cert.ReferenceIdeal.τ Cert.ReferenceIdeal.sig) → Buf (Elt Ideal) ℓ}

/-- The two programs' argument arrays agree. -/
def SameArgs (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (c : Dev Cert.KernelIdeal.nD) : Prop :=
  m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
  ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
  ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
  ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
  ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
  ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
  ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
  ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
  ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
  ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
  ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
  ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
  ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
  ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)

/-- Equal arguments give equal hidden features. -/
theorem same_hid {c : Dev Cert.KernelIdeal.nD} (h : SameArgs m m' c) (b : Fin 8) (n : Fin 2048) :
    Cert.ReferenceIdeal.Value.hid (launchContents m' c) b n = Cert.KernelIdeal.Value.hid (start m c) b n := by
  obtain ⟨e0, e1, e2, e3, e4, e5, e6, e7, e8, e9, e10, e11, e12, e13⟩ := h
  have q1 : launchContents m' c (Proc.devRef .tc Cert.ReferenceIdeal.main_arg1) = start m c (Proc.devRef .tc Cert.KernelIdeal.main_arg1) := e1
  have q2 : launchContents m' c (Proc.devRef .tc Cert.ReferenceIdeal.main_arg2) = start m c (Proc.devRef .tc Cert.KernelIdeal.main_arg2) := e2
  have q3 : launchContents m' c (Proc.devRef .tc Cert.ReferenceIdeal.main_arg3) = start m c (Proc.devRef .tc Cert.KernelIdeal.main_arg3) := e3
  have q4 : launchContents m' c (Proc.devRef .tc Cert.ReferenceIdeal.main_arg4) = start m c (Proc.devRef .tc Cert.KernelIdeal.main_arg4) := e4
  have q5 : launchContents m' c (Proc.devRef .tc Cert.ReferenceIdeal.main_arg5) = start m c (Proc.devRef .tc Cert.KernelIdeal.main_arg5) := e5
  have q6 : launchContents m' c (Proc.devRef .tc Cert.ReferenceIdeal.main_arg6) = start m c (Proc.devRef .tc Cert.KernelIdeal.main_arg6) := e6
  have q7 : launchContents m' c (Proc.devRef .tc Cert.ReferenceIdeal.main_arg7) = start m c (Proc.devRef .tc Cert.KernelIdeal.main_arg7) := e7
  unfold Cert.ReferenceIdeal.Value.hid Cert.KernelIdeal.Value.hid
  rw [q1, q2, q3, q4, q5, q6, q7]

/-- Equal arguments give equal scores. -/
theorem same_sco {c : Dev Cert.KernelIdeal.nD} (h : SameArgs m m' c) (b : Fin 8) (n : Fin 2048) :
    Cert.ReferenceIdeal.Value.sco (launchContents m' c) b n = Cert.KernelIdeal.Value.sco (start m c) b n := by
  have hh := same_hid h b n
  obtain ⟨e0, e1, e2, e3, e4, e5, e6, e7, e8, e9, e10, e11, e12, e13⟩ := h
  have q8 : launchContents m' c (Proc.devRef .tc Cert.ReferenceIdeal.main_arg8) = start m c (Proc.devRef .tc Cert.KernelIdeal.main_arg8) := e8
  have q9 : launchContents m' c (Proc.devRef .tc Cert.ReferenceIdeal.main_arg9) = start m c (Proc.devRef .tc Cert.KernelIdeal.main_arg9) := e9
  have q10 : launchContents m' c (Proc.devRef .tc Cert.ReferenceIdeal.main_arg10) = start m c (Proc.devRef .tc Cert.KernelIdeal.main_arg10) := e10
  have q11 : launchContents m' c (Proc.devRef .tc Cert.ReferenceIdeal.main_arg11) = start m c (Proc.devRef .tc Cert.KernelIdeal.main_arg11) := e11
  have q12 : launchContents m' c (Proc.devRef .tc Cert.ReferenceIdeal.main_arg12) = start m c (Proc.devRef .tc Cert.KernelIdeal.main_arg12) := e12
  have q13 : launchContents m' c (Proc.devRef .tc Cert.ReferenceIdeal.main_arg13) = start m c (Proc.devRef .tc Cert.KernelIdeal.main_arg13) := e13
  unfold Cert.ReferenceIdeal.Value.sco Cert.KernelIdeal.Value.sco
  rw [hh, q8, q9, q10, q11, q12, q13]

/-- Near scores are real numbers within 7000 of zero and within 87 of each other. -/
theorem real_scores [Cert.Pre_scores_near.Facts] (h : Pre_KernelIdeal_scores_near m) (c : Dev Cert.KernelIdeal.nD) :
    ∃ w : Fin 8 → Fin 2048 → ℝ, (∀ b n, Cert.KernelIdeal.Value.sco (start m c) b n = (w b n : EReal))
      ∧ (∀ b n, |w b n| ≤ 7000) ∧ ∀ b i j, w b i - w b j ≤ 87 :=
  reals_of_near fun b i j => Cert.Pre_scores_near.near_at _ _ _ _ _ _ _ _ _ _ _ _ _ _ b i j (congrFun (h c) (ix3 b i j))

/-- What the reference leaves in a buffer that it does not write. -/
theorem ref_keep (m' : (ℓ : Loc Cert.ReferenceIdeal.nD Cert.ReferenceIdeal.τ Cert.ReferenceIdeal.sig) → Buf (Elt Ideal) ℓ)
    (c : Dev Cert.ReferenceIdeal.nD) {x : (ℓ : Loc Cert.ReferenceIdeal.nD Cert.ReferenceIdeal.τ Cert.ReferenceIdeal.sig) → Buf (Elt Ideal) ℓ}
    (h : ∀ b : Ref Cert.ReferenceIdeal.sig .tc, (Proc.devRef .tc b : DevRef Cert.ReferenceIdeal.τ Cert.ReferenceIdeal.sig).isScoped = false →
      x ((c.tc : Thread Cert.ReferenceIdeal.nD Cert.ReferenceIdeal.τ).loc b) = finalContents condOps preI bodyI postI 1024 m' c (Proc.devRef .tc b))
    (b : Ref Cert.ReferenceIdeal.sig .tc) (hb : (Proc.devRef .tc b : DevRef Cert.ReferenceIdeal.τ Cert.ReferenceIdeal.sig).isScoped = false)
    (h1 : b ∉ Cert.ReferenceIdeal.Value.loopW) (h2 : b ∉ Cert.ReferenceIdeal.Value.preW) (h3 : b ∉ Cert.ReferenceIdeal.Value.postW) :
    x ((c.tc : Thread Cert.ReferenceIdeal.nD Cert.ReferenceIdeal.τ).loc b) = m' ((c.tc : Thread Cert.ReferenceIdeal.nD Cert.ReferenceIdeal.τ).loc b) :=
  (h b hb).trans (Cert.ReferenceIdeal.Value.final_keep m' c b h1 h2 h3)

end

/-- On inputs with near scores, the two programs return the same coordinates, hidden features and places. -/
theorem values [hPre : Cert.Pre_scores_near.Facts] :
    algebraic_KernelIdeal_ReferenceIdeal_pre_scores_near (hKernelIdeal := Cert.KernelIdeal.Gen.facts)
      (hReferenceIdeal := Cert.ReferenceIdeal.Gen.facts) (hPre_scores_near := hPre) := by
  intro m g m' g' hpre hargs
  have hsame : ∀ c, SameArgs m m' c := hargs
  choose w hs hw hd using real_scores hpre
  have hs' : ∀ c b n, Cert.ReferenceIdeal.Value.sco (launchContents m' c) b n = (w c b n : EReal) := fun c b n =>
    (same_sco (hsame c) b n).trans (hs c b n)
  refine ⟨fun c => transpose Cert.KernelIdeal.S8x1024x3 [0, 2, 1] (Cert.KernelIdeal.Value.reg_main_v61_0 m c)
      Cert.KernelIdeal.Gen.facts.transposes_S8x3x1024_S8x1024x3_0_2_1,
    fun c => Cert.KernelIdeal.Value.reg_main_v61_1 m c, fun c => Cert.KernelIdeal.Value.reg_main_v61_2 m c,
    Cert.KernelIdeal.Value.run m g, ?_⟩
  refine (θ_run _ _ _).mono (fun r h c => ⟨?_, ?_, ?_,
     ref_keep m' c (h c) Cert.ReferenceIdeal.main_arg0 rfl (by decide +kernel) (by decide +kernel) (by decide +kernel), ref_keep m' c (h c) Cert.ReferenceIdeal.main_arg1 rfl (by decide +kernel) (by decide +kernel) (by decide +kernel),
     ref_keep m' c (h c) Cert.ReferenceIdeal.main_arg2 rfl (by decide +kernel) (by decide +kernel) (by decide +kernel), ref_keep m' c (h c) Cert.ReferenceIdeal.main_arg3 rfl (by decide +kernel) (by decide +kernel) (by decide +kernel),
     ref_keep m' c (h c) Cert.ReferenceIdeal.main_arg4 rfl (by decide +kernel) (by decide +kernel) (by decide +kernel), ref_keep m' c (h c) Cert.ReferenceIdeal.main_arg5 rfl (by decide +kernel) (by decide +kernel) (by decide +kernel),
     ref_keep m' c (h c) Cert.ReferenceIdeal.main_arg6 rfl (by decide +kernel) (by decide +kernel) (by decide +kernel), ref_keep m' c (h c) Cert.ReferenceIdeal.main_arg7 rfl (by decide +kernel) (by decide +kernel) (by decide +kernel),
     ref_keep m' c (h c) Cert.ReferenceIdeal.main_arg8 rfl (by decide +kernel) (by decide +kernel) (by decide +kernel), ref_keep m' c (h c) Cert.ReferenceIdeal.main_arg9 rfl (by decide +kernel) (by decide +kernel) (by decide +kernel),
     ref_keep m' c (h c) Cert.ReferenceIdeal.main_arg10 rfl (by decide +kernel) (by decide +kernel) (by decide +kernel), ref_keep m' c (h c) Cert.ReferenceIdeal.main_arg11 rfl (by decide +kernel) (by decide +kernel) (by decide +kernel),
     ref_keep m' c (h c) Cert.ReferenceIdeal.main_arg12 rfl (by decide +kernel) (by decide +kernel) (by decide +kernel), ref_keep m' c (h c) Cert.ReferenceIdeal.main_arg13 rfl (by decide +kernel) (by decide +kernel) (by decide +kernel)⟩) (Cert.ReferenceIdeal.Value.run_fold m' g')
  · refine (h c Cert.ReferenceIdeal.main_v62 rfl).trans (funext fun (y : Cert.KernelIdeal.S8x1024x3.Idx) => ?_)
    idx_vars y
    refine (Cert.ReferenceIdeal.Value.final_xyz m' c (w c) (hs' c) (hd c) y0 y1 y2).trans ?_
    refine Eq.trans ?_ (Cert.KernelIdeal.Value.res_xyz m c (hs c) (hw c) y0 y1 y2).symm
    exact congrFun (hsame c).1 _
  · refine (h c Cert.ReferenceIdeal.main_v64 rfl).trans (funext fun (y : Cert.KernelIdeal.S8x64x1024.Idx) => ?_)
    idx_vars y
    refine (Cert.ReferenceIdeal.Value.final_feats m' c (w c) (hs' c) (hd c) y0 y1 y2).trans ?_
    refine Eq.trans ?_ (Cert.KernelIdeal.Value.res_feats m c (hs c) (hw c) y0 y1 y2).symm
    exact congrFun (same_hid (hsame c) _ _) _
  · refine (h c Cert.ReferenceIdeal.main_v65 rfl).trans (funext fun (y : Cert.KernelIdeal.S8x1024.Idx) => ?_)
    idx_vars y
    refine (Cert.ReferenceIdeal.Value.final_place m' c (w c) (hs' c) (hd c) y0 y1).trans ?_
    exact (Cert.KernelIdeal.Value.res_place m c (hs c) (hw c) y0 y1).symm

end Cert
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Run
public import proofs.«01_k».proof.Proof.Gen.Pre_scores_near
public import proofs.«01_k».proof.Proof.RefFrame
public import proofs.«01_k».proof.Proof.Values
public import Idealize.ShloMosaic.Adequacy
public import Idealize.ShloMosaic.Init

@[expose] public section

noncomputable section

namespace Cert.Proof

open Idealize.ShloMosaic Idealize.SL.Sem Cert.Kernel

/-- The frames, with and without the condition on the inputs, the kernel's idealization, and the results' values. -/
theorem claim : Cert.Claim :=
  ⟨Cert.Kernel.Gen.facts, Cert.KernelIdeal.Gen.facts, Cert.ReferenceIdeal.Gen.facts, Cert.Pre_scores_near.Gen.facts,
    fun m ρ _ => Cert.Kernel.Gen.frame m ρ, fun m ρ _ => Cert.KernelIdeal.Gen.frame m ρ,
    fun m ρ _ => Cert.KernelIdeal.Gen.frame m ρ, fun m ρ _ => Cert.ReferenceIdeal.Value.frame m ρ,
    fun m ρ _ => Cert.ReferenceIdeal.Value.frame m ρ, trivial, Cert.values⟩

end Cert.Proof

end
